-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x128 : Shape := ⟨2, ![16384, 128]⟩
abbrev S16384 : Shape := ⟨1, ![16384]⟩
abbrev S1000000x64 : Shape := ⟨2, ![1000000, 64]⟩
abbrev S128x128 : Shape := ⟨2, ![128, 128]⟩
abbrev S128 : Shape := ⟨1, ![128]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : IVec S16384 32) (main_arg3 : FVec F S1000000x64 .f32) (main_arg4 : FVec F S128x128 .f32) (main_arg5 : FVec F S128 .f32) (main_arg6 : FVec F S192x256 .f32) (main_arg7 : FVec F S256 .f32) (main_arg8 : FVec F S256x64 .f32) (main_arg9 : FVec F S64 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x128 : Shape := ⟨2, ![16384, 128]⟩
abbrev S16384 : Shape := ⟨1, ![16384]⟩
abbrev S1000000x64 : Shape := ⟨2, ![1000000, 64]⟩
abbrev S128x128 : Shape := ⟨2, ![128, 128]⟩
abbrev S128 : Shape := ⟨1, ![128]⟩
abbrev S192x256 : Shape := ⟨2, ![192, 256]⟩
abbrev S256 : Shape := ⟨1, ![256]⟩
abbrev S256x64 : Shape := ⟨2, ![256, 64]⟩
abbrev S64 : Shape := ⟨1, ![64]⟩
abbrev S64x1000000 : Shape := ⟨2, ![64, 1000000]⟩
abbrev S128x256 : Shape := ⟨2, ![128, 256]⟩
abbrev S64x256 : Shape := ⟨2, ![64, 256]⟩
abbrev S256x256 : Shape := ⟨2, ![256, 256]⟩
abbrev S16416 : Shape := ⟨1, ![16416]⟩
abbrev S8x272 : Shape := ⟨2, ![8, 272]⟩
abbrev S16 : Shape := ⟨1, ![16]⟩
abbrev S_ : Shape := ⟨0, ![]⟩
abbrev S1x272 : Shape := ⟨2, ![1, 272]⟩
abbrev S272 : Shape := ⟨1, ![272]⟩
abbrev S8x256 : Shape := ⟨2, ![8, 256]⟩
abbrev S8 : Shape := ⟨1, ![8]⟩
abbrev S16384x64 : Shape := ⟨2, ![16384, 64]⟩
abbrev S16384x1 : Shape := ⟨2, ![16384, 1]⟩
abbrev S1x128 : Shape := ⟨2, ![1, 128]⟩
abbrev S16384x256 : Shape := ⟨2, ![16384, 256]⟩
abbrev S1x256 : Shape := ⟨2, ![1, 256]⟩
abbrev S1x64 : Shape := ⟨2, ![1, 64]⟩
abbrev S64x128 : Shape := ⟨2, ![64, 128]⟩
abbrev S65536 : Shape := ⟨1, ![65536]⟩
abbrev S64x4096 : Shape := ⟨2, ![64, 4096]⟩
abbrev S4096x128 : Shape := ⟨2, ![4096, 128]⟩
abbrev S1 : Shape := ⟨1, ![1]⟩
abbrev S2048x128 : Shape := ⟨2, ![2048, 128]⟩
abbrev S2048x64 : Shape := ⟨2, ![2048, 64]⟩
abbrev S2048x256 : Shape := ⟨2, ![2048, 256]⟩

abbrev nBuf : Table → Nat
  | .hbm => 60
  | .local .tc .vmem => 17
  | .local .tc .smem => 3
  | .local .scVector .vmem => 5
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S128x128, .f32⟩
  | .hbm, ⟨5, _⟩ => ⟨S128, .f32⟩
  | .hbm, ⟨6, _⟩ => ⟨S192x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S64x1000000, .f32⟩
  | .hbm, ⟨11, _⟩ => ⟨S128x256, .f32⟩
  | .hbm, ⟨12, _⟩ => ⟨S64x256, .f32⟩
  | .hbm, ⟨13, _⟩ => ⟨S256, .i32⟩
  | .hbm, ⟨14, _⟩ => ⟨S256x256, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S16384x64, .f32⟩
  | .hbm, ⟨22, _⟩ => ⟨S16384x1, .i32⟩
  | .hbm, ⟨23, _⟩ => ⟨S16384x64, .f32⟩
  | .hbm, ⟨24, _⟩ => ⟨S16384x128, .f32⟩
  | .hbm, ⟨25, _⟩ => ⟨S1x128, .f32⟩
  | .hbm, ⟨26, _⟩ => ⟨S16384x128, .f32⟩
  | .hbm, ⟨27, _⟩ => ⟨S16384x128, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S1x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S16384x64, .f32⟩
  | .hbm, ⟨38, _⟩ => ⟨S1x64, .f32⟩
  | .hbm, ⟨39, _⟩ => ⟨S16384x64, .f32⟩
  | .hbm, ⟨40, _⟩ => ⟨S16384x64, .f32⟩
  | .hbm, ⟨41, _⟩ => ⟨S64x128, .i32⟩
  | .hbm, ⟨42, _⟩ => ⟨S64x128, .i32⟩
  | .hbm, ⟨43, _⟩ => ⟨S_, .i32⟩
  | .hbm, ⟨44, _⟩ => ⟨S64x128, .i32⟩
  | .hbm, ⟨45, _⟩ => ⟨S64x128, .i32⟩
  | .hbm, ⟨46, _⟩ => ⟨S64x128, .i1⟩
  | .hbm, ⟨47, _⟩ => ⟨S64x128, .f32⟩
  | .hbm, ⟨48, _⟩ => ⟨S_, .i32⟩
  | .hbm, ⟨49, _⟩ => ⟨S256, .i32⟩
  | .hbm, ⟨50, _⟩ => ⟨S_, .i32⟩
  | .hbm, ⟨51, _⟩ => ⟨S16384, .i32⟩
  | .hbm, ⟨52, _⟩ => ⟨S16384x128, .f32⟩
  | .hbm, ⟨53, _⟩ => ⟨S_, .f32⟩
  | .hbm, ⟨54, _⟩ => ⟨S64x256, .f32⟩
  | .hbm, ⟨55, _⟩ => ⟨S128x256, .f32⟩
  | .hbm, ⟨56, _⟩ => ⟨S1x128, .f32⟩
  | .hbm, ⟨57, _⟩ => ⟨S1x256, .f32⟩
  | .hbm, ⟨58, _⟩ => ⟨S1x64, .f32⟩
  | .hbm, ⟨59, _⟩ => ⟨S16384x64, .f32⟩
  | .local .tc .vmem, ⟨0, _⟩ => ⟨S64x4096, .f32⟩
  | .local .tc .vmem, ⟨1, _⟩ => ⟨S64x4096, .f32⟩
  | .local .tc .vmem, ⟨2, _⟩ => ⟨S64x128, .f32⟩
  | .local .tc .vmem, ⟨3, _⟩ => ⟨S4096x128, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S128x128, .f32⟩
  | .local .tc .vmem, ⟨9, _⟩ => ⟨S1x128, .f32⟩
  | .local .tc .vmem, ⟨10, _⟩ => ⟨S128x256, .f32⟩
  | .local .tc .vmem, ⟨11, _⟩ => ⟨S128x256, .f32⟩
  | .local .tc .vmem, ⟨12, _⟩ => ⟨S1x256, .f32⟩
  | .local .tc .vmem, ⟨13, _⟩ => ⟨S256x64, .f32⟩
  | .local .tc .vmem, ⟨14, _⟩ => ⟨S1x64, .f32⟩
  | .local .tc .vmem, ⟨15, _⟩ => ⟨S2048x64, .f32⟩
  | .local .tc .vmem, ⟨16, _⟩ => ⟨S2048x64, .f32⟩
  | .local .tc .smem, ⟨0, _⟩ => ⟨S256, .i32⟩
  | .local .tc .smem, ⟨1, _⟩ => ⟨S16384, .i32⟩
  | .local .tc .smem, ⟨2, _⟩ => ⟨S65536, .i32⟩
  | .local .scVector .vmem, ⟨0, _⟩ => ⟨S16384, .i32⟩
  | .local .scVector .vmem, ⟨1, _⟩ => ⟨S16416, .i32⟩
  | .local .scVector .vmem, ⟨2, _⟩ => ⟨S16416, .i32⟩
  | .local .scVector .vmem, ⟨3, _⟩ => ⟨S8x272, .i32⟩
  | .local .scVector .vmem, ⟨4, _⟩ => ⟨S16, .i32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_c : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_case0b0_call0_v0 : Ref sig .tc := ⟨.hbm, 22, rfl⟩
abbrev main_case0b0_v8 : Ref sig .tc := ⟨.hbm, 23, rfl⟩
abbrev main_case0b0_v9 : Ref sig .tc := ⟨.hbm, 24, rfl⟩
abbrev main_case0b0_v10 : Ref sig .tc := ⟨.hbm, 25, rfl⟩
abbrev main_case0b0_v11 : Ref sig .tc := ⟨.hbm, 26, rfl⟩
abbrev main_case0b0_v12 : Ref sig .tc := ⟨.hbm, 27, rfl⟩
abbrev main_case0b0_v13 : Ref sig .tc := ⟨.hbm, 28, rfl⟩
abbrev main_case0b0_v14 : Ref sig .tc := ⟨.hbm, 29, rfl⟩
abbrev main_case0b0_v15 : Ref sig .tc := ⟨.hbm, 30, rfl⟩
abbrev main_case0b0_v16 : Ref sig .tc := ⟨.hbm, 31, rfl⟩
abbrev main_case0b0_v17 : Ref sig .tc := ⟨.hbm, 32, rfl⟩
abbrev main_case0b0_v18 : Ref sig .tc := ⟨.hbm, 33, rfl⟩
abbrev main_case0b0_cst : Ref sig .tc := ⟨.hbm, 34, rfl⟩
abbrev main_case0b0_v19 : Ref sig .tc := ⟨.hbm, 35, rfl⟩
abbrev main_case0b0_v20 : Ref sig .tc := ⟨.hbm, 36, rfl⟩
abbrev main_case0b0_v21 : Ref sig .tc := ⟨.hbm, 37, rfl⟩
abbrev main_case0b0_v22 : Ref sig .tc := ⟨.hbm, 38, rfl⟩
abbrev main_case0b0_v23 : Ref sig .tc := ⟨.hbm, 39, rfl⟩
abbrev main_case0b0_v24 : Ref sig .tc := ⟨.hbm, 40, rfl⟩
abbrev main_case0b1_v8 : Ref sig .tc := ⟨.hbm, 41, rfl⟩
abbrev main_case0b1_v9 : Ref sig .tc := ⟨.hbm, 42, rfl⟩
abbrev main_case0b1_c_2 : Ref sig .tc := ⟨.hbm, 43, rfl⟩
abbrev main_case0b1_v10 : Ref sig .tc := ⟨.hbm, 44, rfl⟩
abbrev main_case0b1_v11 : Ref sig .tc := ⟨.hbm, 45, rfl⟩
abbrev main_case0b1_v12 : Ref sig .tc := ⟨.hbm, 46, rfl⟩
abbrev main_case0b1_v13 : Ref sig .tc := ⟨.hbm, 47, rfl⟩
abbrev main_case0b1_c_3 : Ref sig .tc := ⟨.hbm, 48, rfl⟩
abbrev main_case0b1_v14 : Ref sig .tc := ⟨.hbm, 49, rfl⟩
abbrev main_case0b1_c_4 : Ref sig .tc := ⟨.hbm, 50, rfl⟩
abbrev main_case0b1_v16 : Ref sig .tc := ⟨.hbm, 51, rfl⟩
abbrev main_case0b1_v19 : Ref sig .tc := ⟨.hbm, 52, rfl⟩
abbrev main_case0b1_cst : Ref sig .tc := ⟨.hbm, 53, rfl⟩
abbrev main_case0b1_v20 : Ref sig .tc := ⟨.hbm, 54, rfl⟩
abbrev main_case0b1_v21 : Ref sig .tc := ⟨.hbm, 55, rfl⟩
abbrev main_case0b1_v22 : Ref sig .tc := ⟨.hbm, 56, rfl⟩
abbrev main_case0b1_v23 : Ref sig .tc := ⟨.hbm, 57, rfl⟩
abbrev main_case0b1_v24 : Ref sig .tc := ⟨.hbm, 58, rfl⟩
abbrev main_case0b1_v25 : Ref sig .tc := ⟨.hbm, 59, rfl⟩
abbrev main_case0b1_v15 : Ref sig .tc := ⟨.smem, 0, rfl⟩
abbrev main_case0b1_v17 : Ref sig .tc := ⟨.smem, 1, rfl⟩
abbrev main_case0b1_v18 : Ref sig .tc := ⟨.smem, 2, rfl⟩
abbrev main_arg1_scv : Ref sig .scVector := ⟨.hbm, 1, rfl⟩
abbrev main_v3_0_scv : Ref sig .scVector := ⟨.hbm, 13, rfl⟩
abbrev main_v3_1_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg8_0 : Ref sig .tc := ⟨.vmem, 14, rfl⟩
abbrev cc2_stg9_0 : Ref sig .tc := ⟨.vmem, 15, rfl⟩
abbrev cc2_stg9_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem0_1 : DmaSem sig := 5
abbrev cc1_sem1_0 : DmaSem sig := 6
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem9_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c1024_i32 : BitVec 32 := 1024#32
  let v3 : BitVec 32 := Scalar.addi c0_i32_0 c1024_i32
  let c1_i32 : BitVec 32 := 1#32
  ⟨c0_i32_0, v3, c1_i32⟩
def k0_off1 (k0_t1 : Fin k0_t1_loop.trips) : Fin 1 → Nat :=
  let c16_i32_69 : BitVec 32 := 16#32
  let c0_i32_0 : BitVec 32 := 0#32
  let c1_i32 : BitVec 32 := 1#32
  let arg11 : BitVec 32 := Scf.iv c0_i32_0 c1_i32 k0_t1
  let v131 : BitVec 32 := Scalar.muli c16_i32_69 arg11
  let v132 : Index := Scalar.indexCast v131
  ![v132.toNat]

def k0_chk1 (v149 : IVec S16 32) : Prop :=
  (∀ a x, ((![v149] : Fin 1 → IVec S16 32) a x).toNat < S16416.size a) ∧
  (∀ a x, ((![v149] : Fin 1 → IVec S16 32) a x).toNat < S16416.size a)
theorem k0_idx1_inb : ∀ (v149 : IVec S16 32) (k0_hw1 : k0_chk1 v149), ∀ a x, ((![v149] : Fin 1 → IVec S16 32) a x).toNat < S16416.size a := fun v149 k0_hw1 => k0_hw1.1
theorem k0_idx2_inb : ∀ (v149 : IVec S16 32) (k0_hw1 : k0_chk1 v149), ∀ a x, ((![v149] : Fin 1 → IVec S16 32) a x).toNat < S16416.size a := fun v149 k0_hw1 => k0_hw1.2
@[reducible] def k0_t2_loop (v4 : BitVec 32) : Scf.Loop 32 :=
  let c0_i32_10 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v26 : BitVec 32 := Scalar.subi v22 c0_i32_10
  let c1_i32_12 : BitVec 32 := 1#32
  let v28 : BitVec 32 := Scalar.divsi v26 c1_i32_12
  let v29 : BitVec 32 := Scalar.muli v28 c1_i32_12
  let v30 : BitVec 32 := Scalar.addi c0_i32_10 v29
  let c1_i32_13 : BitVec 32 := 1#32
  ⟨c0_i32_10, v30, c1_i32_13⟩

def k0_off2 (v4 : BitVec 32) (k0_t2 : Fin (k0_t2_loop v4).trips) : Fin 1 → Nat :=
  let c16_i32_69 : BitVec 32 := 16#32
  let c0_i32_10 : BitVec 32 := 0#32
  let c1_i32_13 : BitVec 32 := 1#32
  let arg11 : BitVec 32 := Scf.iv c0_i32_10 c1_i32_13 k0_t2
  let v131 : BitVec 32 := Scalar.muli c16_i32_69 arg11
  let v132 : Index := Scalar.indexCast v131
  ![v132.toNat]

def k0_chk3 (v157 : IVec S16 32) : Prop :=
  (∀ a x, ((![v157] : Fin 1 → IVec S16 32) a x).toNat < S272.size a)
theorem k0_idx3_inb : ∀ (v157 : IVec S16 32) (k0_hw3 : k0_chk3 v157), ∀ a x, ((![v157] : Fin 1 → IVec S16 32) a x).toNat < S272.size a := fun v157 k0_hw3 => k0_hw3
@[reducible] def k0_t3_loop (v4 : BitVec 32) : Scf.Loop 32 :=
  let c0_i32_10 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v26 : BitVec 32 := Scalar.subi v22 c0_i32_10
  let c1_i32_12 : BitVec 32 := 1#32
  let v28 : BitVec 32 := Scalar.divsi v26 c1_i32_12
  let v29 : BitVec 32 := Scalar.muli v28 c1_i32_12
  let v30 : BitVec 32 := Scalar.addi c0_i32_10 v29
  let v27 : BitVec 32 := Scalar.addi c0_i32_10 v26
  let c1_i32_14 : BitVec 32 := 1#32
  ⟨v30, v27, c1_i32_14⟩
def k0_off3 (v4 : BitVec 32) (k0_t3 : Fin (k0_t3_loop v4).trips) : Fin 1 → Nat :=
  let c16_i32_69 : BitVec 32 := 16#32
  let c0_i32_10 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v26 : BitVec 32 := Scalar.subi v22 c0_i32_10
  let c1_i32_12 : BitVec 32 := 1#32
  let v28 : BitVec 32 := Scalar.divsi v26 c1_i32_12
  let v29 : BitVec 32 := Scalar.muli v28 c1_i32_12
  let v30 : BitVec 32 := Scalar.addi c0_i32_10 v29
  let c1_i32_14 : BitVec 32 := 1#32
  let arg11 : BitVec 32 := Scf.iv v30 c1_i32_14 k0_t3
  let v131 : BitVec 32 := Scalar.muli c16_i32_69 arg11
  let v132 : Index := Scalar.indexCast v131
  ![v132.toNat]

def k0_chk4 (v157 : IVec S16 32) : Prop :=
  (∀ a x, ((![v157] : Fin 1 → IVec S16 32) a x).toNat < S272.size a)
theorem k0_idx4_inb : ∀ (v157 : IVec S16 32) (k0_hw4 : k0_chk4 v157), ∀ a x, ((![v157] : Fin 1 → IVec S16 32) a x).toNat < S272.size a := fun v157 k0_hw4 => k0_hw4
@[reducible] def k0_t4_loop (v4 : BitVec 32) : Scf.Loop 32 :=
  let c0_i32_18 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v39 : BitVec 32 := Scalar.subi v22 c0_i32_18
  let c1_i32_20 : BitVec 32 := 1#32
  let v41 : BitVec 32 := Scalar.divsi v39 c1_i32_20
  let v42 : BitVec 32 := Scalar.muli v41 c1_i32_20
  let v43 : BitVec 32 := Scalar.addi c0_i32_18 v42
  let c1_i32_21 : BitVec 32 := 1#32
  ⟨c0_i32_18, v43, c1_i32_21⟩
def k0_off4 (v4 : BitVec 32) (k0_t4 : Fin (k0_t4_loop v4).trips) : Fin 1 → Nat :=
  let c16_i32_69 : BitVec 32 := 16#32
  let c0_i32_18 : BitVec 32 := 0#32
  let c1_i32_21 : BitVec 32 := 1#32
  let arg11 : BitVec 32 := Scf.iv c0_i32_18 c1_i32_21 k0_t4
  let v131 : BitVec 32 := Scalar.muli c16_i32_69 arg11
  let v132 : Index := Scalar.indexCast v131
  ![v132.toNat]

def k0_chk5 (v157 : IVec S16 32) : Prop :=
  (∀ a x, ((![v157] : Fin 1 → IVec S16 32) a x).toNat < S272.size a)
theorem k0_idx5_inb : ∀ (v157 : IVec S16 32) (k0_hw5 : k0_chk5 v157), ∀ a x, ((![v157] : Fin 1 → IVec S16 32) a x).toNat < S272.size a := fun v157 k0_hw5 => k0_hw5
@[reducible] def k0_t5_loop (v4 : BitVec 32) : Scf.Loop 32 :=
  let c0_i32_18 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v39 : BitVec 32 := Scalar.subi v22 c0_i32_18
  let c1_i32_20 : BitVec 32 := 1#32
  let v41 : BitVec 32 := Scalar.divsi v39 c1_i32_20
  let v42 : BitVec 32 := Scalar.muli v41 c1_i32_20
  let v43 : BitVec 32 := Scalar.addi c0_i32_18 v42
  let v40 : BitVec 32 := Scalar.addi c0_i32_18 v39
  let c1_i32_22 : BitVec 32 := 1#32
  ⟨v43, v40, c1_i32_22⟩
def k0_off5 (v4 : BitVec 32) (k0_t5 : Fin (k0_t5_loop v4).trips) : Fin 1 → Nat :=
  let c16_i32_69 : BitVec 32 := 16#32
  let c0_i32_18 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v39 : BitVec 32 := Scalar.subi v22 c0_i32_18
  let c1_i32_20 : BitVec 32 := 1#32
  let v41 : BitVec 32 := Scalar.divsi v39 c1_i32_20
  let v42 : BitVec 32 := Scalar.muli v41 c1_i32_20
  let v43 : BitVec 32 := Scalar.addi c0_i32_18 v42
  let c1_i32_22 : BitVec 32 := 1#32
  let arg11 : BitVec 32 := Scf.iv v43 c1_i32_22 k0_t5
  let v131 : BitVec 32 := Scalar.muli c16_i32_69 arg11
  let v132 : Index := Scalar.indexCast v131
  ![v132.toNat]

def k0_chk6 (v157 : IVec S16 32) : Prop :=
  (∀ a x, ((![v157] : Fin 1 → IVec S16 32) a x).toNat < S272.size a)
theorem k0_idx6_inb : ∀ (v157 : IVec S16 32) (k0_hw6 : k0_chk6 v157), ∀ a x, ((![v157] : Fin 1 → IVec S16 32) a x).toNat < S272.size a := fun v157 k0_hw6 => k0_hw6
@[reducible] def k0_t6_loop (v4 : BitVec 32) : Scf.Loop 32 :=
  let c0_i32_26 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v52 : BitVec 32 := Scalar.subi v22 c0_i32_26
  let c1_i32_28 : BitVec 32 := 1#32
  let v54 : BitVec 32 := Scalar.divsi v52 c1_i32_28
  let v55 : BitVec 32 := Scalar.muli v54 c1_i32_28
  let v56 : BitVec 32 := Scalar.addi c0_i32_26 v55
  let c1_i32_29 : BitVec 32 := 1#32
  ⟨c0_i32_26, v56, c1_i32_29⟩
def k0_off6 (v4 : BitVec 32) (k0_t6 : Fin (k0_t6_loop v4).trips) : Fin 1 → Nat :=
  let c16_i32_69 : BitVec 32 := 16#32
  let c0_i32_26 : BitVec 32 := 0#32
  let c1_i32_29 : BitVec 32 := 1#32
  let arg11 : BitVec 32 := Scf.iv c0_i32_26 c1_i32_29 k0_t6
  let v131 : BitVec 32 := Scalar.muli c16_i32_69 arg11
  let v132 : Index := Scalar.indexCast v131
  ![v132.toNat]

def k0_chk7 (v157 : IVec S16 32) : Prop :=
  (∀ a x, ((![v157] : Fin 1 → IVec S16 32) a x).toNat < S272.size a)
theorem k0_idx7_inb : ∀ (v157 : IVec S16 32) (k0_hw7 : k0_chk7 v157), ∀ a x, ((![v157] : Fin 1 → IVec S16 32) a x).toNat < S272.size a := fun v157 k0_hw7 => k0_hw7
@[reducible] def k0_t7_loop (v4 : BitVec 32) : Scf.Loop 32 :=
  let c0_i32_26 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v52 : BitVec 32 := Scalar.subi v22 c0_i32_26
  let c1_i32_28 : BitVec 32 := 1#32
  let v54 : BitVec 32 := Scalar.divsi v52 c1_i32_28
  let v55 : BitVec 32 := Scalar.muli v54 c1_i32_28
  let v56 : BitVec 32 := Scalar.addi c0_i32_26 v55
  let v53 : BitVec 32 := Scalar.addi c0_i32_26 v52
  let c1_i32_30 : BitVec 32 := 1#32
  ⟨v56, v53, c1_i32_30⟩
def k0_off7 (v4 : BitVec 32) (k0_t7 : Fin (k0_t7_loop v4).trips) : Fin 1 → Nat :=
  let c16_i32_69 : BitVec 32 := 16#32
  let c0_i32_26 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v52 : BitVec 32 := Scalar.subi v22 c0_i32_26
  let c1_i32_28 : BitVec 32 := 1#32
  let v54 : BitVec 32 := Scalar.divsi v52 c1_i32_28
  let v55 : BitVec 32 := Scalar.muli v54 c1_i32_28
  let v56 : BitVec 32 := Scalar.addi c0_i32_26 v55
  let c1_i32_30 : BitVec 32 := 1#32
  let arg11 : BitVec 32 := Scf.iv v56 c1_i32_30 k0_t7
  let v131 : BitVec 32 := Scalar.muli c16_i32_69 arg11
  let v132 : Index := Scalar.indexCast v131
  ![v132.toNat]

def k0_chk8 (v157 : IVec S16 32) : Prop :=
  (∀ a x, ((![v157] : Fin 1 → IVec S16 32) a x).toNat < S272.size a)
theorem k0_idx8_inb : ∀ (v157 : IVec S16 32) (k0_hw8 : k0_chk8 v157), ∀ a x, ((![v157] : Fin 1 → IVec S16 32) a x).toNat < S272.size a := fun v157 k0_hw8 => k0_hw8
@[reducible] def k0_t8_loop (v4 : BitVec 32) : Scf.Loop 32 :=
  let c0_i32_33 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v65 : BitVec 32 := Scalar.subi v22 c0_i32_33
  let c1_i32_35 : BitVec 32 := 1#32
  let v67 : BitVec 32 := Scalar.divsi v65 c1_i32_35
  let v68 : BitVec 32 := Scalar.muli v67 c1_i32_35
  let v69 : BitVec 32 := Scalar.addi c0_i32_33 v68
  let c1_i32_36 : BitVec 32 := 1#32
  ⟨c0_i32_33, v69, c1_i32_36⟩
def k0_off8 (v4 : BitVec 32) (k0_t8 : Fin (k0_t8_loop v4).trips) : Fin 1 → Nat :=
  let c16_i32_69 : BitVec 32 := 16#32
  let c0_i32_33 : BitVec 32 := 0#32
  let c1_i32_36 : BitVec 32 := 1#32
  let arg11 : BitVec 32 := Scf.iv c0_i32_33 c1_i32_36 k0_t8
  let v131 : BitVec 32 := Scalar.muli c16_i32_69 arg11
  let v132 : Index := Scalar.indexCast v131
  ![v132.toNat]

def k0_chk9 (v157 : IVec S16 32) : Prop :=
  (∀ a x, ((![v157] : Fin 1 → IVec S16 32) a x).toNat < S272.size a)
theorem k0_idx9_inb : ∀ (v157 : IVec S16 32) (k0_hw9 : k0_chk9 v157), ∀ a x, ((![v157] : Fin 1 → IVec S16 32) a x).toNat < S272.size a := fun v157 k0_hw9 => k0_hw9
@[reducible] def k0_t9_loop (v4 : BitVec 32) : Scf.Loop 32 :=
  let c0_i32_33 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v65 : BitVec 32 := Scalar.subi v22 c0_i32_33
  let c1_i32_35 : BitVec 32 := 1#32
  let v67 : BitVec 32 := Scalar.divsi v65 c1_i32_35
  let v68 : BitVec 32 := Scalar.muli v67 c1_i32_35
  let v69 : BitVec 32 := Scalar.addi c0_i32_33 v68
  let v66 : BitVec 32 := Scalar.addi c0_i32_33 v65
  let c1_i32_37 : BitVec 32 := 1#32
  ⟨v69, v66, c1_i32_37⟩
def k0_off9 (v4 : BitVec 32) (k0_t9 : Fin (k0_t9_loop v4).trips) : Fin 1 → Nat :=
  let c16_i32_69 : BitVec 32 := 16#32
  let c0_i32_33 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v65 : BitVec 32 := Scalar.subi v22 c0_i32_33
  let c1_i32_35 : BitVec 32 := 1#32
  let v67 : BitVec 32 := Scalar.divsi v65 c1_i32_35
  let v68 : BitVec 32 := Scalar.muli v67 c1_i32_35
  let v69 : BitVec 32 := Scalar.addi c0_i32_33 v68
  let c1_i32_37 : BitVec 32 := 1#32
  let arg11 : BitVec 32 := Scf.iv v69 c1_i32_37 k0_t9
  let v131 : BitVec 32 := Scalar.muli c16_i32_69 arg11
  let v132 : Index := Scalar.indexCast v131
  ![v132.toNat]

def k0_chk10 (v157 : IVec S16 32) : Prop :=
  (∀ a x, ((![v157] : Fin 1 → IVec S16 32) a x).toNat < S272.size a)
theorem k0_idx10_inb : ∀ (v157 : IVec S16 32) (k0_hw10 : k0_chk10 v157), ∀ a x, ((![v157] : Fin 1 → IVec S16 32) a x).toNat < S272.size a := fun v157 k0_hw10 => k0_hw10
@[reducible] def k0_t10_loop (v4 : BitVec 32) : Scf.Loop 32 :=
  let c0_i32_40 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v78 : BitVec 32 := Scalar.subi v22 c0_i32_40
  let c1_i32_42 : BitVec 32 := 1#32
  let v80 : BitVec 32 := Scalar.divsi v78 c1_i32_42
  let v81 : BitVec 32 := Scalar.muli v80 c1_i32_42
  let v82 : BitVec 32 := Scalar.addi c0_i32_40 v81
  let c1_i32_43 : BitVec 32 := 1#32
  ⟨c0_i32_40, v82, c1_i32_43⟩
def k0_off10 (v4 : BitVec 32) (k0_t10 : Fin (k0_t10_loop v4).trips) : Fin 1 → Nat :=
  let c16_i32_69 : BitVec 32 := 16#32
  let c0_i32_40 : BitVec 32 := 0#32
  let c1_i32_43 : BitVec 32 := 1#32
  let arg11 : BitVec 32 := Scf.iv c0_i32_40 c1_i32_43 k0_t10
  let v131 : BitVec 32 := Scalar.muli c16_i32_69 arg11
  let v132 : Index := Scalar.indexCast v131
  ![v132.toNat]

def k0_chk11 (v157 : IVec S16 32) : Prop :=
  (∀ a x, ((![v157] : Fin 1 → IVec S16 32) a x).toNat < S272.size a)
theorem k0_idx11_inb : ∀ (v157 : IVec S16 32) (k0_hw11 : k0_chk11 v157), ∀ a x, ((![v157] : Fin 1 → IVec S16 32) a x).toNat < S272.size a := fun v157 k0_hw11 => k0_hw11
@[reducible] def k0_t11_loop (v4 : BitVec 32) : Scf.Loop 32 :=
  let c0_i32_40 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v78 : BitVec 32 := Scalar.subi v22 c0_i32_40
  let c1_i32_42 : BitVec 32 := 1#32
  let v80 : BitVec 32 := Scalar.divsi v78 c1_i32_42
  let v81 : BitVec 32 := Scalar.muli v80 c1_i32_42
  let v82 : BitVec 32 := Scalar.addi c0_i32_40 v81
  let v79 : BitVec 32 := Scalar.addi c0_i32_40 v78
  let c1_i32_44 : BitVec 32 := 1#32
  ⟨v82, v79, c1_i32_44⟩
def k0_off11 (v4 : BitVec 32) (k0_t11 : Fin (k0_t11_loop v4).trips) : Fin 1 → Nat :=
  let c16_i32_69 : BitVec 32 := 16#32
  let c0_i32_40 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v78 : BitVec 32 := Scalar.subi v22 c0_i32_40
  let c1_i32_42 : BitVec 32 := 1#32
  let v80 : BitVec 32 := Scalar.divsi v78 c1_i32_42
  let v81 : BitVec 32 := Scalar.muli v80 c1_i32_42
  let v82 : BitVec 32 := Scalar.addi c0_i32_40 v81
  let c1_i32_44 : BitVec 32 := 1#32
  let arg11 : BitVec 32 := Scf.iv v82 c1_i32_44 k0_t11
  let v131 : BitVec 32 := Scalar.muli c16_i32_69 arg11
  let v132 : Index := Scalar.indexCast v131
  ![v132.toNat]

def k0_chk12 (v157 : IVec S16 32) : Prop :=
  (∀ a x, ((![v157] : Fin 1 → IVec S16 32) a x).toNat < S272.size a)
theorem k0_idx12_inb : ∀ (v157 : IVec S16 32) (k0_hw12 : k0_chk12 v157), ∀ a x, ((![v157] : Fin 1 → IVec S16 32) a x).toNat < S272.size a := fun v157 k0_hw12 => k0_hw12
@[reducible] def k0_t12_loop (v4 : BitVec 32) : Scf.Loop 32 :=
  let c0_i32_47 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v91 : BitVec 32 := Scalar.subi v22 c0_i32_47
  let c1_i32_49 : BitVec 32 := 1#32
  let v93 : BitVec 32 := Scalar.divsi v91 c1_i32_49
  let v94 : BitVec 32 := Scalar.muli v93 c1_i32_49
  let v95 : BitVec 32 := Scalar.addi c0_i32_47 v94
  let c1_i32_50 : BitVec 32 := 1#32
  ⟨c0_i32_47, v95, c1_i32_50⟩
def k0_off12 (v4 : BitVec 32) (k0_t12 : Fin (k0_t12_loop v4).trips) : Fin 1 → Nat :=
  let c16_i32_69 : BitVec 32 := 16#32
  let c0_i32_47 : BitVec 32 := 0#32
  let c1_i32_50 : BitVec 32 := 1#32
  let arg11 : BitVec 32 := Scf.iv c0_i32_47 c1_i32_50 k0_t12
  let v131 : BitVec 32 := Scalar.muli c16_i32_69 arg11
  let v132 : Index := Scalar.indexCast v131
  ![v132.toNat]

def k0_chk13 (v157 : IVec S16 32) : Prop :=
  (∀ a x, ((![v157] : Fin 1 → IVec S16 32) a x).toNat < S272.size a)
theorem k0_idx13_inb : ∀ (v157 : IVec S16 32) (k0_hw13 : k0_chk13 v157), ∀ a x, ((![v157] : Fin 1 → IVec S16 32) a x).toNat < S272.size a := fun v157 k0_hw13 => k0_hw13
@[reducible] def k0_t13_loop (v4 : BitVec 32) : Scf.Loop 32 :=
  let c0_i32_47 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v91 : BitVec 32 := Scalar.subi v22 c0_i32_47
  let c1_i32_49 : BitVec 32 := 1#32
  let v93 : BitVec 32 := Scalar.divsi v91 c1_i32_49
  let v94 : BitVec 32 := Scalar.muli v93 c1_i32_49
  let v95 : BitVec 32 := Scalar.addi c0_i32_47 v94
  let v92 : BitVec 32 := Scalar.addi c0_i32_47 v91
  let c1_i32_51 : BitVec 32 := 1#32
  ⟨v95, v92, c1_i32_51⟩
def k0_off13 (v4 : BitVec 32) (k0_t13 : Fin (k0_t13_loop v4).trips) : Fin 1 → Nat :=
  let c16_i32_69 : BitVec 32 := 16#32
  let c0_i32_47 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v91 : BitVec 32 := Scalar.subi v22 c0_i32_47
  let c1_i32_49 : BitVec 32 := 1#32
  let v93 : BitVec 32 := Scalar.divsi v91 c1_i32_49
  let v94 : BitVec 32 := Scalar.muli v93 c1_i32_49
  let v95 : BitVec 32 := Scalar.addi c0_i32_47 v94
  let c1_i32_51 : BitVec 32 := 1#32
  let arg11 : BitVec 32 := Scf.iv v95 c1_i32_51 k0_t13
  let v131 : BitVec 32 := Scalar.muli c16_i32_69 arg11
  let v132 : Index := Scalar.indexCast v131
  ![v132.toNat]

def k0_chk14 (v157 : IVec S16 32) : Prop :=
  (∀ a x, ((![v157] : Fin 1 → IVec S16 32) a x).toNat < S272.size a)
theorem k0_idx14_inb : ∀ (v157 : IVec S16 32) (k0_hw14 : k0_chk14 v157), ∀ a x, ((![v157] : Fin 1 → IVec S16 32) a x).toNat < S272.size a := fun v157 k0_hw14 => k0_hw14
@[reducible] def k0_t14_loop (v4 : BitVec 32) : Scf.Loop 32 :=
  let c0_i32_54 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v104 : BitVec 32 := Scalar.subi v22 c0_i32_54
  let c1_i32_56 : BitVec 32 := 1#32
  let v106 : BitVec 32 := Scalar.divsi v104 c1_i32_56
  let v107 : BitVec 32 := Scalar.muli v106 c1_i32_56
  let v108 : BitVec 32 := Scalar.addi c0_i32_54 v107
  let c1_i32_57 : BitVec 32 := 1#32
  ⟨c0_i32_54, v108, c1_i32_57⟩
def k0_off14 (v4 : BitVec 32) (k0_t14 : Fin (k0_t14_loop v4).trips) : Fin 1 → Nat :=
  let c16_i32_69 : BitVec 32 := 16#32
  let c0_i32_54 : BitVec 32 := 0#32
  let c1_i32_57 : BitVec 32 := 1#32
  let arg11 : BitVec 32 := Scf.iv c0_i32_54 c1_i32_57 k0_t14
  let v131 : BitVec 32 := Scalar.muli c16_i32_69 arg11
  let v132 : Index := Scalar.indexCast v131
  ![v132.toNat]

def k0_chk15 (v157 : IVec S16 32) : Prop :=
  (∀ a x, ((![v157] : Fin 1 → IVec S16 32) a x).toNat < S272.size a)
theorem k0_idx15_inb : ∀ (v157 : IVec S16 32) (k0_hw15 : k0_chk15 v157), ∀ a x, ((![v157] : Fin 1 → IVec S16 32) a x).toNat < S272.size a := fun v157 k0_hw15 => k0_hw15
@[reducible] def k0_t15_loop (v4 : BitVec 32) : Scf.Loop 32 :=
  let c0_i32_54 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v104 : BitVec 32 := Scalar.subi v22 c0_i32_54
  let c1_i32_56 : BitVec 32 := 1#32
  let v106 : BitVec 32 := Scalar.divsi v104 c1_i32_56
  let v107 : BitVec 32 := Scalar.muli v106 c1_i32_56
  let v108 : BitVec 32 := Scalar.addi c0_i32_54 v107
  let v105 : BitVec 32 := Scalar.addi c0_i32_54 v104
  let c1_i32_58 : BitVec 32 := 1#32
  ⟨v108, v105, c1_i32_58⟩
def k0_off15 (v4 : BitVec 32) (k0_t15 : Fin (k0_t15_loop v4).trips) : Fin 1 → Nat :=
  let c16_i32_69 : BitVec 32 := 16#32
  let c0_i32_54 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v104 : BitVec 32 := Scalar.subi v22 c0_i32_54
  let c1_i32_56 : BitVec 32 := 1#32
  let v106 : BitVec 32 := Scalar.divsi v104 c1_i32_56
  let v107 : BitVec 32 := Scalar.muli v106 c1_i32_56
  let v108 : BitVec 32 := Scalar.addi c0_i32_54 v107
  let c1_i32_58 : BitVec 32 := 1#32
  let arg11 : BitVec 32 := Scf.iv v108 c1_i32_58 k0_t15
  let v131 : BitVec 32 := Scalar.muli c16_i32_69 arg11
  let v132 : Index := Scalar.indexCast v131
  ![v132.toNat]

def k0_chk16 (v157 : IVec S16 32) : Prop :=
  (∀ a x, ((![v157] : Fin 1 → IVec S16 32) a x).toNat < S272.size a)
theorem k0_idx16_inb : ∀ (v157 : IVec S16 32) (k0_hw16 : k0_chk16 v157), ∀ a x, ((![v157] : Fin 1 → IVec S16 32) a x).toNat < S272.size a := fun v157 k0_hw16 => k0_hw16
@[reducible] def k0_t16_loop (v4 : BitVec 32) : Scf.Loop 32 :=
  let c0_i32_61 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v117 : BitVec 32 := Scalar.subi v22 c0_i32_61
  let c1_i32_63 : BitVec 32 := 1#32
  let v119 : BitVec 32 := Scalar.divsi v117 c1_i32_63
  let v120 : BitVec 32 := Scalar.muli v119 c1_i32_63
  let v121 : BitVec 32 := Scalar.addi c0_i32_61 v120
  let c1_i32_64 : BitVec 32 := 1#32
  ⟨c0_i32_61, v121, c1_i32_64⟩
def k0_off16 (v4 : BitVec 32) (k0_t16 : Fin (k0_t16_loop v4).trips) : Fin 1 → Nat :=
  let c16_i32_69 : BitVec 32 := 16#32
  let c0_i32_61 : BitVec 32 := 0#32
  let c1_i32_64 : BitVec 32 := 1#32
  let arg11 : BitVec 32 := Scf.iv c0_i32_61 c1_i32_64 k0_t16
  let v131 : BitVec 32 := Scalar.muli c16_i32_69 arg11
  let v132 : Index := Scalar.indexCast v131
  ![v132.toNat]

def k0_chk17 (v157 : IVec S16 32) : Prop :=
  (∀ a x, ((![v157] : Fin 1 → IVec S16 32) a x).toNat < S272.size a)
theorem k0_idx17_inb : ∀ (v157 : IVec S16 32) (k0_hw17 : k0_chk17 v157), ∀ a x, ((![v157] : Fin 1 → IVec S16 32) a x).toNat < S272.size a := fun v157 k0_hw17 => k0_hw17
@[reducible] def k0_t17_loop (v4 : BitVec 32) : Scf.Loop 32 :=
  let c0_i32_61 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v117 : BitVec 32 := Scalar.subi v22 c0_i32_61
  let c1_i32_63 : BitVec 32 := 1#32
  let v119 : BitVec 32 := Scalar.divsi v117 c1_i32_63
  let v120 : BitVec 32 := Scalar.muli v119 c1_i32_63
  let v121 : BitVec 32 := Scalar.addi c0_i32_61 v120
  let v118 : BitVec 32 := Scalar.addi c0_i32_61 v117
  let c1_i32_65 : BitVec 32 := 1#32
  ⟨v121, v118, c1_i32_65⟩
def k0_off17 (v4 : BitVec 32) (k0_t17 : Fin (k0_t17_loop v4).trips) : Fin 1 → Nat :=
  let c16_i32_69 : BitVec 32 := 16#32
  let c0_i32_61 : BitVec 32 := 0#32
  let c15_i32 : BitVec 32 := 15#32
  let v5 : BitVec 32 := Scalar.addi v4 c15_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c16_i32 : BitVec 32 := 16#32
  let c0_i32_4 : BitVec 32 := 0#32
  let v12 : BitVec 1 := Scalar.cmpi .sgt c16_i32 c0_i32_4
  let v13 : BitVec 32 := Scalar.extui v12
  let c0_i32_5 : BitVec 32 := 0#32
  let v14 : BitVec 1 := Scalar.cmpi .slt c16_i32 c0_i32_5
  let v15 : BitVec 32 := Scalar.extui v14
  let v16 : BitVec 32 := Scalar.subi v13 v15
  let v17 : BitVec 1 := Scalar.cmpi .ne v11 v16
  let v18 : BitVec 32 := Scalar.remsi v5 c16_i32
  let c0_i32_6 : BitVec 32 := 0#32
  let v19 : BitVec 1 := Scalar.cmpi .ne v18 c0_i32_6
  let v20 : BitVec 1 := Scalar.andi v17 v19
  let v6 : BitVec 32 := Scalar.divsi v5 c16_i32
  let c1_i32_7 : BitVec 32 := 1#32
  let v21 : BitVec 32 := Scalar.subi v6 c1_i32_7
  let v22 : BitVec 32 := Scalar.select v20 v21 v6
  let v117 : BitVec 32 := Scalar.subi v22 c0_i32_61
  let c1_i32_63 : BitVec 32 := 1#32
  let v119 : BitVec 32 := Scalar.divsi v117 c1_i32_63
  let v120 : BitVec 32 := Scalar.muli v119 c1_i32_63
  let v121 : BitVec 32 := Scalar.addi c0_i32_61 v120
  let c1_i32_65 : BitVec 32 := 1#32
  let arg11 : BitVec 32 := Scf.iv v121 c1_i32_65 k0_t17
  let v131 : BitVec 32 := Scalar.muli c16_i32_69 arg11
  let v132 : Index := Scalar.indexCast v131
  ![v132.toNat]

def k0_chk2 (v4 : BitVec 32) : Prop :=
  ((k0_t2_loop v4).OK) ∧
  (∀ k0_t2 : Fin (k0_t2_loop v4).trips, ∀ a, (k0_off2 v4 k0_t2) a + S16.size a ≤ S16416.size a) ∧
  ((k0_t3_loop v4).OK) ∧
  (∀ k0_t3 : Fin (k0_t3_loop v4).trips, ∀ a, (k0_off3 v4 k0_t3) a + S16.size a ≤ S16416.size a) ∧
  ((k0_t4_loop v4).OK) ∧
  (∀ k0_t4 : Fin (k0_t4_loop v4).trips, ∀ a, (k0_off4 v4 k0_t4) a + S16.size a ≤ S16416.size a) ∧
  ((k0_t5_loop v4).OK) ∧
  (∀ k0_t5 : Fin (k0_t5_loop v4).trips, ∀ a, (k0_off5 v4 k0_t5) a + S16.size a ≤ S16416.size a) ∧
  ((k0_t6_loop v4).OK) ∧
  (∀ k0_t6 : Fin (k0_t6_loop v4).trips, ∀ a, (k0_off6 v4 k0_t6) a + S16.size a ≤ S16416.size a) ∧
  ((k0_t7_loop v4).OK) ∧
  (∀ k0_t7 : Fin (k0_t7_loop v4).trips, ∀ a, (k0_off7 v4 k0_t7) a + S16.size a ≤ S16416.size a) ∧
  ((k0_t8_loop v4).OK) ∧
  (∀ k0_t8 : Fin (k0_t8_loop v4).trips, ∀ a, (k0_off8 v4 k0_t8) a + S16.size a ≤ S16416.size a) ∧
  ((k0_t9_loop v4).OK) ∧
  (∀ k0_t9 : Fin (k0_t9_loop v4).trips, ∀ a, (k0_off9 v4 k0_t9) a + S16.size a ≤ S16416.size a) ∧
  ((k0_t10_loop v4).OK) ∧
  (∀ k0_t10 : Fin (k0_t10_loop v4).trips, ∀ a, (k0_off10 v4 k0_t10) a + S16.size a ≤ S16416.size a) ∧
  ((k0_t11_loop v4).OK) ∧
  (∀ k0_t11 : Fin (k0_t11_loop v4).trips, ∀ a, (k0_off11 v4 k0_t11) a + S16.size a ≤ S16416.size a) ∧
  ((k0_t12_loop v4).OK) ∧
  (∀ k0_t12 : Fin (k0_t12_loop v4).trips, ∀ a, (k0_off12 v4 k0_t12) a + S16.size a ≤ S16416.size a) ∧
  ((k0_t13_loop v4).OK) ∧
  (∀ k0_t13 : Fin (k0_t13_loop v4).trips, ∀ a, (k0_off13 v4 k0_t13) a + S16.size a ≤ S16416.size a) ∧
  ((k0_t14_loop v4).OK) ∧
  (∀ k0_t14 : Fin (k0_t14_loop v4).trips, ∀ a, (k0_off14 v4 k0_t14) a + S16.size a ≤ S16416.size a) ∧
  ((k0_t15_loop v4).OK) ∧
  (∀ k0_t15 : Fin (k0_t15_loop v4).trips, ∀ a, (k0_off15 v4 k0_t15) a + S16.size a ≤ S16416.size a) ∧
  ((k0_t16_loop v4).OK) ∧
  (∀ k0_t16 : Fin (k0_t16_loop v4).trips, ∀ a, (k0_off16 v4 k0_t16) a + S16.size a ≤ S16416.size a) ∧
  ((k0_t17_loop v4).OK) ∧
  (∀ k0_t17 : Fin (k0_t17_loop v4).trips, ∀ a, (k0_off17 v4 k0_t17) a + S16.size a ≤ S16416.size a)
theorem k0_t2_ok : ∀ (v4 : BitVec 32) (k0_hw2 : k0_chk2 v4), (k0_t2_loop v4).OK := fun v4 k0_hw2 => k0_hw2.1
theorem k0_off2_inb : ∀ (v4 : BitVec 32) (k0_hw2 : k0_chk2 v4) (k0_t2 : Fin (k0_t2_loop v4).trips), ∀ a, (k0_off2 v4 k0_t2) a + S16.size a ≤ S16416.size a := fun v4 k0_hw2 k0_t2 => k0_hw2.2.1 k0_t2
theorem k0_t3_ok : ∀ (v4 : BitVec 32) (k0_hw2 : k0_chk2 v4), (k0_t3_loop v4).OK := fun v4 k0_hw2 => k0_hw2.2.2.1
theorem k0_off3_inb : ∀ (v4 : BitVec 32) (k0_hw2 : k0_chk2 v4) (k0_t3 : Fin (k0_t3_loop v4).trips), ∀ a, (k0_off3 v4 k0_t3) a + S16.size a ≤ S16416.size a := fun v4 k0_hw2 k0_t3 => k0_hw2.2.2.2.1 k0_t3
theorem k0_t4_ok : ∀ (v4 : BitVec 32) (k0_hw2 : k0_chk2 v4), (k0_t4_loop v4).OK := fun v4 k0_hw2 => k0_hw2.2.2.2.2.1
theorem k0_off4_inb : ∀ (v4 : BitVec 32) (k0_hw2 : k0_chk2 v4) (k0_t4 : Fin (k0_t4_loop v4).trips), ∀ a, (k0_off4 v4 k0_t4) a + S16.size a ≤ S16416.size a := fun v4 k0_hw2 k0_t4 => k0_hw2.2.2.2.2.2.1 k0_t4
theorem k0_t5_ok : ∀ (v4 : BitVec 32) (k0_hw2 : k0_chk2 v4), (k0_t5_loop v4).OK := fun v4 k0_hw2 => k0_hw2.2.2.2.2.2.2.1
theorem k0_off5_inb : ∀ (v4 : BitVec 32) (k0_hw2 : k0_chk2 v4) (k0_t5 : Fin (k0_t5_loop v4).trips), ∀ a, (k0_off5 v4 k0_t5) a + S16.size a ≤ S16416.size a := fun v4 k0_hw2 k0_t5 => k0_hw2.2.2.2.2.2.2.2.1 k0_t5
theorem k0_t6_ok : ∀ (v4 : BitVec 32) (k0_hw2 : k0_chk2 v4), (k0_t6_loop v4).OK := fun v4 k0_hw2 => k0_hw2.2.2.2.2.2.2.2.2.1
theorem k0_off6_inb : ∀ (v4 : BitVec 32) (k0_hw2 : k0_chk2 v4) (k0_t6 : Fin (k0_t6_loop v4).trips), ∀ a, (k0_off6 v4 k0_t6) a + S16.size a ≤ S16416.size a := fun v4 k0_hw2 k0_t6 => k0_hw2.2.2.2.2.2.2.2.2.2.1 k0_t6
theorem k0_t7_ok : ∀ (v4 : BitVec 32) (k0_hw2 : k0_chk2 v4), (k0_t7_loop v4).OK := fun v4 k0_hw2 => k0_hw2.2.2.2.2.2.2.2.2.2.2.1
theorem k0_off7_inb : ∀ (v4 : BitVec 32) (k0_hw2 : k0_chk2 v4) (k0_t7 : Fin (k0_t7_loop v4).trips), ∀ a, (k0_off7 v4 k0_t7) a + S16.size a ≤ S16416.size a := fun v4 k0_hw2 k0_t7 => k0_hw2.2.2.2.2.2.2.2.2.2.2.2.1 k0_t7
theorem k0_t8_ok : ∀ (v4 : BitVec 32) (k0_hw2 : k0_chk2 v4), (k0_t8_loop v4).OK := fun v4 k0_hw2 => k0_hw2.2.2.2.2.2.2.2.2.2.2.2.2.1
theorem k0_off8_inb : ∀ (v4 : BitVec 32) (k0_hw2 : k0_chk2 v4) (k0_t8 : Fin (k0_t8_loop v4).trips), ∀ a, (k0_off8 v4 k0_t8) a + S16.size a ≤ S16416.size a := fun v4 k0_hw2 k0_t8 => k0_hw2.2.2.2.2.2.2.2.2.2.2.2.2.2.1 k0_t8
theorem k0_t9_ok : ∀ (v4 : BitVec 32) (k0_hw2 : k0_chk2 v4), (k0_t9_loop v4).OK := fun v4 k0_hw2 => k0_hw2.2.2.2.2.2.2.2.2.2.2.2.2.2.2.1
theorem k0_off9_inb : ∀ (v4 : BitVec 32) (k0_hw2 : k0_chk2 v4) (k0_t9 : Fin (k0_t9_loop v4).trips), ∀ a, (k0_off9 v4 k0_t9) a + S16.size a ≤ S16416.size a := fun v4 k0_hw2 k0_t9 => k0_hw2.2.2.2.2.2.2.2.2.2.2.2.2.2.2.2.1 k0_t9
theorem k0_t10_ok : ∀ (v4 : BitVec 32) (k0_hw2 : k0_chk2 v4), (k0_t10_loop v4).OK := fun v4 k0_hw2 => k0_hw2.2.2.2.2.2.2.2.2.2.2.2.2.2.2.2.2.1
theorem k0_off10_inb : ∀ (v4 : BitVec 32) (k0_hw2 : k0_chk2 v4) (k0_t10 : Fin (k0_t10_loop v4).trips), ∀ a, (k0_off10 v4 k0_t10) a + S16.size a ≤ S16416.size a := fun v4 k0_hw2 k0_t10 => k0_hw2.2.2.2.2.2.2.2.2.2.2.2.2.2.2.2.2.2.1 k0_t10
theorem k0_t11_ok : ∀ (v4 : BitVec 32) (k0_hw2 : k0_chk2 v4), (k0_t11_loop v4).OK := fun v4 k0_hw2 => k0_hw2.2.2.2.2.2.2.2.2.2.2.2.2.2.2.2.2.2.2.1
theorem k0_off11_inb : ∀ (v4 : BitVec 32) (k0_hw2 : k0_chk2 v4) (k0_t11 : Fin (k0_t11_loop v4).trips), ∀ a, (k0_off11 v4 k0_t11) a + S16.size a ≤ S16416.size a := fun v4 k0_hw2 k0_t11 => k0_hw2.2.2.2.2.2.2.2.2.2.2.2.2.2.2.2.2.2.2.2.1 k0_t11
theorem k0_t12_ok : ∀ (v4 : BitVec 32) (k0_hw2 : k0_chk2 v4), (k0_t12_loop v4).OK := fun v4 k0_hw2 => k0_hw2.2.2.2.2.2.2.2.2.2.2.2.2.2.2.2.2.2.2.2.2.1
theorem k0_off12_inb : ∀ (v4 : BitVec 32) (k0_hw2 : k0_chk2 v4) (k0_t12 : Fin (k0_t12_loop v4).trips), ∀ a, (k0_off12 v4 k0_t12) a + S16.size a ≤ S16416.size a := fun v4 k0_hw2 k0_t12 => k0_hw2.2.2.2.2.2.2.2.2.2.2.2.2.2.2.2.2.2.2.2.2.2.1 k0_t12
theorem k0_t13_ok : ∀ (v4 : BitVec 32) (k0_hw2 : k0_chk2 v4), (k0_t13_loop v4).OK := fun v4 k0_hw2 => k0_hw2.2.2.2.2.2.2.2.2.2.2.2.2.2.2.2.2.2.2.2.2.2.2.1
theorem k0_off13_inb : ∀ (v4 : BitVec 32) (k0_hw2 : k0_chk2 v4) (k0_t13 : Fin (k0_t13_loop v4).trips), ∀ a, (k0_off13 v4 k0_t13) a + S16.size a ≤ S16416.size a := fun v4 k0_hw2 k0_t13 => k0_hw2.2.2.2.2.2.2.2.2.2.2.2.2.2.2.2.2.2.2.2.2.2.2.2.1 k0_t13
theorem k0_t14_ok : ∀ (v4 : BitVec 32) (k0_hw2 : k0_chk2 v4), (k0_t14_loop v4).OK := fun v4 k0_hw2 => k0_hw2.2.2.2.2.2.2.2.2.2.2.2.2.2.2.2.2.2.2.2.2.2.2.2.2.1
theorem k0_off14_inb : ∀ (v4 : BitVec 32) (k0_hw2 : k0_chk2 v4) (k0_t14 : Fin (k0_t14_loop v4).trips), ∀ a, (k0_off14 v4 k0_t14) a + S16.size a ≤ S16416.size a := fun v4 k0_hw2 k0_t14 => k0_hw2.2.2.2.2.2.2.2.2.2.2.2.2.2.2.2.2.2.2.2.2.2.2.2.2.2.1 k0_t14
theorem k0_t15_ok : ∀ (v4 : BitVec 32) (k0_hw2 : k0_chk2 v4), (k0_t15_loop v4).OK := fun v4 k0_hw2 => k0_hw2.2.2.2.2.2.2.2.2.2.2.2.2.2.2.2.2.2.2.2.2.2.2.2.2.2.2.1
theorem k0_off15_inb : ∀ (v4 : BitVec 32) (k0_hw2 : k0_chk2 v4) (k0_t15 : Fin (k0_t15_loop v4).trips), ∀ a, (k0_off15 v4 k0_t15) a + S16.size a ≤ S16416.size a := fun v4 k0_hw2 k0_t15 => k0_hw2.2.2.2.2.2.2.2.2.2.2.2.2.2.2.2.2.2.2.2.2.2.2.2.2.2.2.2.1 k0_t15
theorem k0_t16_ok : ∀ (v4 : BitVec 32) (k0_hw2 : k0_chk2 v4), (k0_t16_loop v4).OK := fun v4 k0_hw2 => k0_hw2.2.2.2.2.2.2.2.2.2.2.2.2.2.2.2.2.2.2.2.2.2.2.2.2.2.2.2.2.1
theorem k0_off16_inb : ∀ (v4 : BitVec 32) (k0_hw2 : k0_chk2 v4) (k0_t16 : Fin (k0_t16_loop v4).trips), ∀ a, (k0_off16 v4 k0_t16) a + S16.size a ≤ S16416.size a := fun v4 k0_hw2 k0_t16 => k0_hw2.2.2.2.2.2.2.2.2.2.2.2.2.2.2.2.2.2.2.2.2.2.2.2.2.2.2.2.2.2.1 k0_t16
theorem k0_t17_ok : ∀ (v4 : BitVec 32) (k0_hw2 : k0_chk2 v4), (k0_t17_loop v4).OK := fun v4 k0_hw2 => k0_hw2.2.2.2.2.2.2.2.2.2.2.2.2.2.2.2.2.2.2.2.2.2.2.2.2.2.2.2.2.2.2.1
theorem k0_off17_inb : ∀ (v4 : BitVec 32) (k0_hw2 : k0_chk2 v4) (k0_t17 : Fin (k0_t17_loop v4).trips), ∀ a, (k0_off17 v4 k0_t17) a + S16.size a ≤ S16416.size a := fun v4 k0_hw2 k0_t17 => k0_hw2.2.2.2.2.2.2.2.2.2.2.2.2.2.2.2.2.2.2.2.2.2.2.2.2.2.2.2.2.2.2.2 k0_t17

def k0_chk18 (v157 : IVec S16 32) : Prop :=
  (∀ a x, ((![v157] : Fin 1 → IVec S16 32) a x).toNat < S272.size a)
theorem k0_idx18_inb : ∀ (v157 : IVec S16 32) (k0_hw18 : k0_chk18 v157), ∀ a x, ((![v157] : Fin 1 → IVec S16 32) a x).toNat < S272.size a := fun v157 k0_hw18 => k0_hw18
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_67 : BitVec 32 := 8#32
  let v129 : BitVec 32 := Scalar.muli v1 c8_i32_67
  let c0_i32_71_r1 : BitVec 32 := 0#32
  ![v129.toNat, 0]
def k0_off19 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_68 : BitVec 32 := 8#32
  let v130 : BitVec 32 := Scalar.muli v1 c8_i32_68
  ![v130.toNat]
abbrev grid1 : Pipeline.Grid := ⟨1, ![245], ![false]⟩

abbrev pre1 : Pipeline.Prefetch sig := ⟨3, ![main_case0b1_v15.idx, main_case0b1_v17.idx, main_case0b1_v18.idx], fun | 0 => main_case0b1_v15.names | 1 => main_case0b1_v17.names | 2 => main_case0b1_v18.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let v8 : Index := Scalar.indexCast arg0
  ![v8.toNat]
@[reducible] def k1_t1_loop (v9 : BitVec 32) : Scf.Loop 32 :=
  let c0_i32 : BitVec 32 := 0#32
  let c256_i32 : BitVec 32 := 256#32
  let v10 : BitVec 32 := Scalar.minsi v9 c256_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_5 : BitVec 32 := 1#32
  ⟨c0_i32, v15, c1_i32_5⟩

def k1_off2 (i : grid1.Coords) (v9 : BitVec 32) (k1_t1 : Fin (k1_t1_loop v9).trips) : Fin 1 → Nat :=
  let arg0 : BitVec 32 := BitVec.ofNat 32 (i 0).val
  let c256_i32_11 : BitVec 32 := 256#32
  let v21 : BitVec 32 := Scalar.muli arg0 c256_i32_11
  let c0_i32 : BitVec 32 := 0#32
  let c1_i32_5 : BitVec 32 := 1#32
  let arg9 : BitVec 32 := Scf.iv c0_i32 c1_i32_5 k1_t1
  let v22 : BitVec 32 := Scalar.addi v21 arg9
  let v23 : Index := Scalar.indexCast v22
  ![v23.toNat]
def k1_off3 (v24 : BitVec 32) : Fin 1 → Nat :=
  let v25 : Index := Scalar.indexCast v24
  ![v25.toNat]

def k1_off4 (v24 : BitVec 32) : Fin 2 → Nat :=
  let c0_i32_12 : BitVec 32 := 0#32
  ![v24.toNat, 0]

def k1_chk2 (v24 : BitVec 32) : Prop :=
  (∀ a, (k1_off3 v24) a + S1.size a ≤ S16384.size a) ∧
  (∀ a, (k1_off4 v24) a + S1x128.size a ≤ S16384x128.size a)
theorem k1_off3_inb : ∀ (v24 : BitVec 32) (k1_hw2 : k1_chk2 v24), ∀ a, (k1_off3 v24) a + S1.size a ≤ S16384.size a := fun v24 k1_hw2 => k1_hw2.1
theorem k1_off4_inb : ∀ (v24 : BitVec 32) (k1_hw2 : k1_chk2 v24), ∀ a, (k1_off4 v24) a + S1x128.size a ≤ S16384x128.size a := fun v24 k1_hw2 => k1_hw2.2

def k1_off5 (i : grid1.Coords) (v26 : BitVec 32) : Fin 2 → Nat :=
  let arg0 : BitVec 32 := BitVec.ofNat 32 (i 0).val
  let c4096_i32 : BitVec 32 := 4096#32
  let v27 : BitVec 32 := Scalar.muli arg0 c4096_i32
  let v28 : BitVec 32 := Scalar.subi v26 v27
  let c0_i32_13 : BitVec 32 := 0#32
  ![v28.toNat, 0]

def k1_chk3 (i : grid1.Coords) (v26 : BitVec 32) : Prop :=
  (∀ a, (k1_off5 i v26) a + S1x128.size a ≤ S4096x128.size a)
theorem k1_off5_inb : ∀ (i : grid1.Coords) (v26 : BitVec 32) (k1_hw3 : k1_chk3 i v26), ∀ a, (k1_off5 i v26) a + S1x128.size a ≤ S4096x128.size a := fun i v26 k1_hw3 => k1_hw3

@[reducible] def k1_t2_loop (v9 : BitVec 32) : Scf.Loop 32 :=
  let c0_i32 : BitVec 32 := 0#32
  let c256_i32 : BitVec 32 := 256#32
  let v10 : BitVec 32 := Scalar.minsi v9 c256_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_6 : BitVec 32 := 1#32
  ⟨v15, v12, c1_i32_6⟩
def k1_off6 (i : grid1.Coords) (v9 : BitVec 32) (k1_t2 : Fin (k1_t2_loop v9).trips) : Fin 1 → Nat :=
  let arg0 : BitVec 32 := BitVec.ofNat 32 (i 0).val
  let c256_i32_11 : BitVec 32 := 256#32
  let v21 : BitVec 32 := Scalar.muli arg0 c256_i32_11
  let c0_i32 : BitVec 32 := 0#32
  let c256_i32 : BitVec 32 := 256#32
  let v10 : BitVec 32 := Scalar.minsi v9 c256_i32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_6 : BitVec 32 := 1#32
  let arg9 : BitVec 32 := Scf.iv v15 c1_i32_6 k1_t2
  let v22 : BitVec 32 := Scalar.addi v21 arg9
  let v23 : Index := Scalar.indexCast v22
  ![v23.toNat]
def k1_off7 (v24 : BitVec 32) : Fin 1 → Nat :=
  let v25 : Index := Scalar.indexCast v24
  ![v25.toNat]

def k1_off8 (v24 : BitVec 32) : Fin 2 → Nat :=
  let c0_i32_12 : BitVec 32 := 0#32
  ![v24.toNat, 0]

def k1_chk4 (v24 : BitVec 32) : Prop :=
  (∀ a, (k1_off7 v24) a + S1.size a ≤ S16384.size a) ∧
  (∀ a, (k1_off8 v24) a + S1x128.size a ≤ S16384x128.size a)
theorem k1_off7_inb : ∀ (v24 : BitVec 32) (k1_hw4 : k1_chk4 v24), ∀ a, (k1_off7 v24) a + S1.size a ≤ S16384.size a := fun v24 k1_hw4 => k1_hw4.1
theorem k1_off8_inb : ∀ (v24 : BitVec 32) (k1_hw4 : k1_chk4 v24), ∀ a, (k1_off8 v24) a + S1x128.size a ≤ S16384x128.size a := fun v24 k1_hw4 => k1_hw4.2

def k1_off9 (i : grid1.Coords) (v26 : BitVec 32) : Fin 2 → Nat :=
  let arg0 : BitVec 32 := BitVec.ofNat 32 (i 0).val
  let c4096_i32 : BitVec 32 := 4096#32
  let v27 : BitVec 32 := Scalar.muli arg0 c4096_i32
  let v28 : BitVec 32 := Scalar.subi v26 v27
  let c0_i32_13 : BitVec 32 := 0#32
  ![v28.toNat, 0]

def k1_chk5 (i : grid1.Coords) (v26 : BitVec 32) : Prop :=
  (∀ a, (k1_off9 i v26) a + S1x128.size a ≤ S4096x128.size a)
theorem k1_off9_inb : ∀ (i : grid1.Coords) (v26 : BitVec 32) (k1_hw5 : k1_chk5 i v26), ∀ a, (k1_off9 i v26) a + S1x128.size a ≤ S4096x128.size a := fun i v26 k1_hw5 => k1_hw5

@[reducible] def k1_t3_loop (v9 : BitVec 32) : Scf.Loop 32 :=
  let c0_i32_7 : BitVec 32 := 0#32
  let c256_i32 : BitVec 32 := 256#32
  let v10 : BitVec 32 := Scalar.minsi v9 c256_i32
  let v16 : BitVec 32 := Scalar.subi v10 c0_i32_7
  let c1_i32_8 : BitVec 32 := 1#32
  let v18 : BitVec 32 := Scalar.divsi v16 c1_i32_8
  let v19 : BitVec 32 := Scalar.muli v18 c1_i32_8
  let v20 : BitVec 32 := Scalar.addi c0_i32_7 v19
  let c1_i32_9 : BitVec 32 := 1#32
  ⟨c0_i32_7, v20, c1_i32_9⟩
def k1_off10 (i : grid1.Coords) (v9 : BitVec 32) (k1_t3 : Fin (k1_t3_loop v9).trips) : Fin 1 → Nat :=
  let arg0 : BitVec 32 := BitVec.ofNat 32 (i 0).val
  let c256_i32_11 : BitVec 32 := 256#32
  let v21 : BitVec 32 := Scalar.muli arg0 c256_i32_11
  let c0_i32_7 : BitVec 32 := 0#32
  let c1_i32_9 : BitVec 32 := 1#32
  let arg9 : BitVec 32 := Scf.iv c0_i32_7 c1_i32_9 k1_t3
  let v22 : BitVec 32 := Scalar.addi v21 arg9
  let v23 : Index := Scalar.indexCast v22
  ![v23.toNat]
def k1_off11 (v24 : BitVec 32) : Fin 2 → Nat :=
  let c0_i32_12 : BitVec 32 := 0#32
  ![v24.toNat, 0]

def k1_chk6 (v24 : BitVec 32) : Prop :=
  (∀ a, (k1_off11 v24) a + S1x128.size a ≤ S16384x128.size a)
theorem k1_off11_inb : ∀ (v24 : BitVec 32) (k1_hw6 : k1_chk6 v24), ∀ a, (k1_off11 v24) a + S1x128.size a ≤ S16384x128.size a := fun v24 k1_hw6 => k1_hw6

@[reducible] def k1_t4_loop (v9 : BitVec 32) : Scf.Loop 32 :=
  let c0_i32_7 : BitVec 32 := 0#32
  let c256_i32 : BitVec 32 := 256#32
  let v10 : BitVec 32 := Scalar.minsi v9 c256_i32
  let v16 : BitVec 32 := Scalar.subi v10 c0_i32_7
  let c1_i32_8 : BitVec 32 := 1#32
  let v18 : BitVec 32 := Scalar.divsi v16 c1_i32_8
  let v19 : BitVec 32 := Scalar.muli v18 c1_i32_8
  let v20 : BitVec 32 := Scalar.addi c0_i32_7 v19
  let v17 : BitVec 32 := Scalar.addi c0_i32_7 v16
  let c1_i32_10 : BitVec 32 := 1#32
  ⟨v20, v17, c1_i32_10⟩
def k1_off12 (i : grid1.Coords) (v9 : BitVec 32) (k1_t4 : Fin (k1_t4_loop v9).trips) : Fin 1 → Nat :=
  let arg0 : BitVec 32 := BitVec.ofNat 32 (i 0).val
  let c256_i32_11 : BitVec 32 := 256#32
  let v21 : BitVec 32 := Scalar.muli arg0 c256_i32_11
  let c0_i32_7 : BitVec 32 := 0#32
  let c256_i32 : BitVec 32 := 256#32
  let v10 : BitVec 32 := Scalar.minsi v9 c256_i32
  let v16 : BitVec 32 := Scalar.subi v10 c0_i32_7
  let c1_i32_8 : BitVec 32 := 1#32
  let v18 : BitVec 32 := Scalar.divsi v16 c1_i32_8
  let v19 : BitVec 32 := Scalar.muli v18 c1_i32_8
  let v20 : BitVec 32 := Scalar.addi c0_i32_7 v19
  let c1_i32_10 : BitVec 32 := 1#32
  let arg9 : BitVec 32 := Scf.iv v20 c1_i32_10 k1_t4
  let v22 : BitVec 32 := Scalar.addi v21 arg9
  let v23 : Index := Scalar.indexCast v22
  ![v23.toNat]

def k1_chk1 (i : grid1.Coords) (v9 : BitVec 32) : Prop :=
  ((k1_t1_loop v9).OK) ∧
  (∀ k1_t1 : Fin (k1_t1_loop v9).trips, ∀ a, (k1_off2 i v9 k1_t1) a + S1.size a ≤ S65536.size a) ∧
  ((k1_t2_loop v9).OK) ∧
  (∀ k1_t2 : Fin (k1_t2_loop v9).trips, ∀ a, (k1_off6 i v9 k1_t2) a + S1.size a ≤ S65536.size a) ∧
  ((k1_t3_loop v9).OK) ∧
  (∀ k1_t3 : Fin (k1_t3_loop v9).trips, ∀ a, (k1_off10 i v9 k1_t3) a + S1.size a ≤ S65536.size a) ∧
  ((k1_t4_loop v9).OK) ∧
  (∀ k1_t4 : Fin (k1_t4_loop v9).trips, ∀ a, (k1_off12 i v9 k1_t4) a + S1.size a ≤ S65536.size a)
theorem k1_t1_ok : ∀ (i : grid1.Coords) (v9 : BitVec 32) (k1_hw1 : k1_chk1 i v9), (k1_t1_loop v9).OK := fun i v9 k1_hw1 => k1_hw1.1
theorem k1_off2_inb : ∀ (i : grid1.Coords) (v9 : BitVec 32) (k1_hw1 : k1_chk1 i v9) (k1_t1 : Fin (k1_t1_loop v9).trips), ∀ a, (k1_off2 i v9 k1_t1) a + S1.size a ≤ S65536.size a := fun i v9 k1_hw1 k1_t1 => k1_hw1.2.1 k1_t1
theorem k1_t2_ok : ∀ (i : grid1.Coords) (v9 : BitVec 32) (k1_hw1 : k1_chk1 i v9), (k1_t2_loop v9).OK := fun i v9 k1_hw1 => k1_hw1.2.2.1
theorem k1_off6_inb : ∀ (i : grid1.Coords) (v9 : BitVec 32) (k1_hw1 : k1_chk1 i v9) (k1_t2 : Fin (k1_t2_loop v9).trips), ∀ a, (k1_off6 i v9 k1_t2) a + S1.size a ≤ S65536.size a := fun i v9 k1_hw1 k1_t2 => k1_hw1.2.2.2.1 k1_t2
theorem k1_t3_ok : ∀ (i : grid1.Coords) (v9 : BitVec 32) (k1_hw1 : k1_chk1 i v9), (k1_t3_loop v9).OK := fun i v9 k1_hw1 => k1_hw1.2.2.2.2.1
theorem k1_off10_inb : ∀ (i : grid1.Coords) (v9 : BitVec 32) (k1_hw1 : k1_chk1 i v9) (k1_t3 : Fin (k1_t3_loop v9).trips), ∀ a, (k1_off10 i v9 k1_t3) a + S1.size a ≤ S65536.size a := fun i v9 k1_hw1 k1_t3 => k1_hw1.2.2.2.2.2.1 k1_t3
theorem k1_t4_ok : ∀ (i : grid1.Coords) (v9 : BitVec 32) (k1_hw1 : k1_chk1 i v9), (k1_t4_loop v9).OK := fun i v9 k1_hw1 => k1_hw1.2.2.2.2.2.2.1
theorem k1_off12_inb : ∀ (i : grid1.Coords) (v9 : BitVec 32) (k1_hw1 : k1_chk1 i v9) (k1_t4 : Fin (k1_t4_loop v9).trips), ∀ a, (k1_off12 i v9 k1_t4) a + S1.size a ≤ S65536.size a := fun i v9 k1_hw1 k1_t4 => k1_hw1.2.2.2.2.2.2.2 k1_t4

def k1_off13 (v24 : BitVec 32) : Fin 2 → Nat :=
  let c0_i32_12 : BitVec 32 := 0#32
  ![v24.toNat, 0]

def k1_chk7 (v24 : BitVec 32) : Prop :=
  (∀ a, (k1_off13 v24) a + S1x128.size a ≤ S16384x128.size a)
theorem k1_off13_inb : ∀ (v24 : BitVec 32) (k1_hw7 : k1_chk7 v24), ∀ a, (k1_off13 v24) a + S1x128.size a ≤ S16384x128.size a := fun v24 k1_hw7 => k1_hw7

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S1000000x64 : Shape := ⟨2, ![1000000, 64]⟩
abbrev S128x128 : Shape := ⟨2, ![128, 128]⟩
abbrev S128 : Shape := ⟨1, ![128]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S1x128 : Shape := ⟨2, ![1, 128]⟩
abbrev S16384x192 : Shape := ⟨2, ![16384, 192]⟩
abbrev S16384x256 : Shape := ⟨2, ![16384, 256]⟩
abbrev S1x256 : Shape := ⟨2, ![1, 256]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S16384, .i32⟩
  | .hbm, ⟨3, _⟩ => ⟨S1000000x64, .f32⟩
  | .hbm, ⟨4, _⟩ => ⟨S128x128, .f32⟩
  | .hbm, ⟨5, _⟩ => ⟨S128, .f32⟩
  | .hbm, ⟨6, _⟩ => ⟨S192x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x64, .f32⟩
  | .hbm, ⟨29, _⟩ => ⟨S16384x64, .i1⟩
  | .hbm, ⟨30, _⟩ => ⟨S_, .f32⟩
  | .hbm, ⟨31, _⟩ => ⟨S16384x64, .f32⟩
  | .hbm, ⟨32, _⟩ => ⟨S16384x64, .f32⟩
  | .hbm, ⟨33, _⟩ => ⟨S16384x128, .f32⟩
  | .hbm, ⟨34, _⟩ => ⟨S1x128, .f32⟩
  | .hbm, ⟨35, _⟩ => ⟨S16384x128, .f32⟩
  | .hbm, ⟨36, _⟩ => ⟨S16384x128, .f32⟩
  | .hbm, ⟨37, _⟩ => ⟨S16384x192, .f32⟩
  | .hbm, ⟨38, _⟩ => ⟨S16384x256, .f32⟩
  | .hbm, ⟨39, _⟩ => ⟨S1x256, .f32⟩
  | .hbm, ⟨40, _⟩ => ⟨S16384x256, .f32⟩
  | .hbm, ⟨41, _⟩ => ⟨S16384x256, .f32⟩
  | .hbm, ⟨42, _⟩ => ⟨S_, .f32⟩
  | .hbm, ⟨43, _⟩ => ⟨S16384x256, .f32⟩
  | .hbm, ⟨44, _⟩ => ⟨S16384x256, .f32⟩
  | .hbm, ⟨45, _⟩ => ⟨S16384x64, .f32⟩
  | .hbm, ⟨46, _⟩ => ⟨S1x64, .f32⟩
  | .hbm, ⟨47, _⟩ => ⟨S16384x64, .f32⟩
  | .hbm, ⟨48, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call1_cst : Ref sig .tc := ⟨.hbm, 42, rfl⟩
abbrev main_call1_v0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩

abbrev nD : Nat := 1
abbrev τ : Topo := Topo.v7x

variable {F : FTy → Type} [FloatOps F]
-- ==== Proof.Compact.lean ====
/-
  Stream compaction, as facts about lists of words: sixteen lanes at a time, the lanes a mask picks are appended to a
  list kept at the front of a buffer. A buffer `Holds` a list when its first entries (below a limit) are the list's.
  A scatter of sixteen lanes whose positions are the running count appends the picked lanes; the inclusive running sum
  of the mask gives those positions.
-/
module

public import Idealize.ShloMosaic.PureOps.ShapeOps
public import Idealize.ShloMosaic.Lib.WordArith

@[expose] public section

namespace Cert.Proof.Compact

open Idealize.ShloMosaic

variable {F : FTy → Type} [FloatOps F]

abbrev Sh (n : ℕ) : Shape := ⟨1, ![n]⟩

/-- Lane `k` of a vector of sixteen. -/
abbrev ln (k : Fin 16) : (Sh 16).Idx := Shape.ofLane (d := ![16]) k

theorem ln_eq (x : (Sh 16).Idx) : ln (x 0) = x := by
  funext a; have : a = 0 := Fin.eq_zero a; subst this; rfl

/-- The first entries of `f`, as far as `cap`, are the list `L`. -/
def Holds {N : ℕ} (f : (Sh N).Idx → BitVec 32) (L : List (BitVec 32)) (cap : ℕ) : Prop :=
  ∀ i : (Sh N).Idx, (i 0).val < cap → ∀ h : (i 0).val < L.length, f i = L[(i 0).val]

theorem Holds.nil {N : ℕ} (f : (Sh N).Idx → BitVec 32) (cap : ℕ) : Holds f [] cap := fun _ _ h => absurd h (Nat.not_lt_zero _)

theorem Holds.of_eq {N : ℕ} {f : (Sh N).Idx → BitVec 32} {L L' : List (BitVec 32)} {cap : ℕ} (h : Holds f L cap) (e : L = L') : Holds f L' cap := e ▸ h

/-- How many lanes before `x` the mask picks. -/
def rank (m : Fin 16 → Bool) (x : Fin 16) : ℕ := (((List.finRange 16).take x.val).filter m).length

/-- How many lanes the mask picks. -/
def total (m : Fin 16 → Bool) : ℕ := ((List.finRange 16).filter m).length

theorem rank_le (m : Fin 16 → Bool) (x : Fin 16) : rank m x ≤ x.val :=
  (List.length_filter_le _ _).trans (by rw [List.length_take]; exact Nat.min_le_left _ _)

theorem total_le (m : Fin 16 → Bool) : total m ≤ 16 :=
  (List.length_filter_le _ _).trans (by rw [List.length_finRange])

theorem rank_of_split (m : Fin 16 → Bool) (ps qs : List (Fin 16)) (k : Fin 16) (h : List.finRange 16 = ps ++ k :: qs) :
    rank m k = (ps.filter m).length := by
  have hk : k.val = ps.length := by
    have h1 : (List.finRange 16)[ps.length]? = some k := by rw [h]; simp
    have h2 := List.getElem?_eq_some_iff.1 h1
    obtain ⟨h3, h4⟩ := h2
    rw [List.getElem_finRange] at h4
    rw [← h4]; rfl
  unfold rank
  rw [h, hk, List.take_left]

/-- One sixteen-lane scatter appends the picked lanes to the list a buffer holds. -/
theorem Holds.storeIdx {N : ℕ} {f : Vec F (Sh N) .i32} {L : List (BitVec 32)} {cap : ℕ} (hf : Holds f L cap)
    (m : Fin 16 → Bool) (ix : IVec (Sh 16) 32) (v : Vec F (Sh 16) .i32)
    (h : ∀ a x, ((![ix] : Fin 1 → IVec (Sh 16) 32) a x).toNat < (Sh N).size a)
    (hin : ∀ k, m k = true → (ix (ln k)).toNat = L.length + rank m k ∨ (cap ≤ (ix (ln k)).toNat ∧ cap ≤ L.length + rank m k))
    (hout : ∀ k, m k = false → cap ≤ (ix (ln k)).toNat) :
    Holds (Idealize.ShloMosaic.storeIdx (F := F) (s := Sh N) (d := ![16]) (e := .i32) f ![ix] v (fun _ => 1#1) false h)
      (L ++ ((List.finRange 16).filter m).map fun k => v (ln k)) cap := by
  have key : ∀ (qs ps : List (Fin 16)) (g : Vec F (Sh N) .i32), List.finRange 16 = ps ++ qs →
      Holds g (L ++ (ps.filter m).map fun k => v (ln k)) cap →
      Holds (qs.foldl (fun (g : Vec F (Sh N) .i32) k =>
        fun j => if (∀ a, (j a).val = (idxAt (s := Sh N) ![ix] h (ln k) a).val) then v (ln k) else g j) g)
        (L ++ ((List.finRange 16).filter m).map fun k => v (ln k)) cap := by
    intro qs
    induction qs with
    | nil => intro ps g hs hg; rw [List.append_nil] at hs; rw [hs]; exact hg
    | cons k qs ih =>
      intro ps g hs hg
      rw [List.foldl_cons]
      refine ih (ps ++ [k]) _ (by rw [hs]; simp) ?_
      have hr := rank_of_split m ps qs k hs
      intro i hi hlt
      have hcond : (∀ a, (i a).val = (idxAt (s := Sh N) ![ix] h (ln k) a).val) ↔ (i 0).val = (ix (ln k)).toNat :=
        ⟨fun hh => hh 0, fun hh a => by have ha : a = 0 := Fin.eq_zero a; subst ha; exact hh⟩
      simp only [hcond]
      cases hm : m k with
      | false =>
        have := hout k hm
        rw [if_neg (by omega)]
        have hl : ((ps ++ [k]).filter m) = ps.filter m := by simp [hm]
        simp only [hl] at hlt ⊢
        exact hg i hi hlt
      | true =>
        have hl : ((ps ++ [k]).filter m) = ps.filter m ++ [k] := by simp [hm]
        simp only [hl] at hlt ⊢
        have hlen : (L ++ List.map (fun k => v (ln k)) (ps.filter m)).length = L.length + rank m k := by
          rw [hr]; simp
        simp only [List.map_append, List.map_cons, List.map_nil, ← List.append_assoc] at hlt ⊢
        rw [List.length_append, hlen] at hlt
        simp only [List.length_cons, List.length_nil] at hlt
        rcases hin k hm with h1 | ⟨h1, h2⟩
        · by_cases he : (i 0).val = (ix (ln k)).toNat
          · rw [if_pos he]
            rw [List.getElem_append_right (by omega)]
            simp
          · rw [if_neg he, List.getElem_append_left (by omega)]
            exact hg i hi (by omega)
        · rw [if_neg (by omega), List.getElem_append_left (by omega)]
          exact hg i hi (by omega)
  exact key (List.finRange 16) [] f rfl (by simpa using hf)

/-- The running sum of a mask at lane `x`: how many lanes up to `x` it picks. -/
theorem scan_sum (m : Fin 16 → Bool) (v : IVec (Sh 16) 32) (hv : ∀ k, v (ln k) = if m k then 1#32 else 0#32) (x : Fin 16) :
    scan (d := ![16]) .sum v (ln x) = BitVec.ofNat 32 (rank m x + if m x then 1 else 0) := by
  have fold : ∀ (l : List (Fin 16)) (r : BitVec 32),
      l.foldl (fun r k => ScanKind.step .sum r (v (ln k))) r = r + BitVec.ofNat 32 (l.filter m).length := by
    intro l
    induction l with
    | nil => intro r; simp
    | cons k l ih =>
      intro r
      rw [List.foldl_cons, ih]
      show r + v (ln k) + _ = _
      rw [hv]
      cases hm : m k
      · simp [hm]
      · simp only [hm, if_true, List.filter_cons_of_pos, List.length_cons]
        rw [BitVec.add_assoc]; congr 1
        rw [Nat.add_comm, BitVec.ofNat_add]
  have e1 : ∀ x : Fin 16, (0 : Fin 16) :: ((List.finRange 16).filter fun k => decide (0 < k.val ∧ k.val ≤ x.val))
      = (List.finRange 16).take x.val ++ [x] := by decide
  show ((List.finRange 16).filter fun k => decide (0 < k.val ∧ k.val ≤ x.val)).foldl
      (fun r k => ScanKind.step .sum r (v (ln k))) (v (ln 0)) = _
  rw [fold]
  have h0 : v (ln 0) = BitVec.ofNat 32 ([(0 : Fin 16)].filter m).length := by
    rw [hv]; cases hm : m 0 <;> simp [hm]
  rw [h0, ← BitVec.ofNat_add, ← List.length_append, ← List.filter_append, List.singleton_append, e1 x,
    List.filter_append, List.length_append]
  congr 2
  cases hm : m x <;> simp [hm]

theorem rank_last (m : Fin 16 → Bool) : rank m 15 + (if m 15 then 1 else 0) = total m := by
  have e : List.finRange 16 = (List.finRange 16).take 15 ++ [15] := by decide
  unfold rank total
  conv_rhs => rw [e, List.filter_append, List.length_append]
  congr 1
  cases hm : m 15 <;> simp [hm]

/-- The first `n` entries of a list that satisfy `p`, found by position. -/
theorem take_filter (l : List ℕ) (p : ℕ → Bool) (n : ℕ) :
    (l.take n).filter p = ((List.range n).filter fun k => decide (k < l.length) && p (l.getD k 0)).map fun k => l.getD k 0 := by
  induction n with
  | zero => simp
  | succ n ih =>
    rw [List.take_succ, List.filter_append, ih, List.range_succ, List.filter_append, List.map_append]
    congr 1
    by_cases hn : n < l.length
    · have h1 : l[n]? = some l[n] := List.getElem?_eq_getElem hn
      have h2 : l.getD n 0 = l[n] := by rw [List.getD_eq_getElem?_getD, h1]; rfl
      rw [h1]
      cases hp : p l[n] <;> simp [hn, h2, hp]
    · have h1 : l[n]? = none := List.getElem?_eq_none (by omega)
      rw [h1]
      simp [hn]

theorem range_sixteen : List.range 16 = (List.finRange 16).map Fin.val := by decide

/-- One block of sixteen of a filtered list, lane by lane. -/
theorem block_filter (l : List ℕ) (p : ℕ → Bool) (t : ℕ) :
    (l.take (16 * (t + 1))).filter p = (l.take (16 * t)).filter p
      ++ ((List.finRange 16).filter fun k => decide (16 * t + k.val < l.length) && p (l.getD (16 * t + k.val) 0)).map fun k => l.getD (16 * t + k.val) 0 := by
  rw [show 16 * (t + 1) = 16 * t + 16 by omega, List.take_add, List.filter_append, take_filter (l.drop (16 * t)) p 16, range_sixteen,
    List.filter_map, List.map_map]
  congr 1
  have hD : ∀ k : ℕ, (l.drop (16 * t)).getD k 0 = l.getD (16 * t + k) 0 := fun k => by
    simp [List.getD_eq_getElem?_getD, List.getElem?_drop]
  have hl : ∀ k : ℕ, (k < (l.drop (16 * t)).length) ↔ 16 * t + k < l.length := fun k => by
    rw [List.length_drop]; omega
  congr 1
  · funext k; simp [hD]
  · apply List.filter_congr; intro k _; simp only [Function.comp, hD, hl]

end Cert.Proof.Compact
-- ==== Proof.Lanes.lean ====
/-
  The vector arithmetic of the bucketing task, lane by lane: which of the sixteen lanes a mask picks, where each picked
  lane goes, and what the running count is afterwards.
-/
module

public import proofs.«01_k».proof.Proof.Compact
public import Idealize.ShloMosaic.PureOps.Vector

@[expose] public section

namespace Cert.Proof.Lanes

open Idealize.ShloMosaic
open Cert.Proof.Compact

/-- A mask of bits, as a choice of lanes. -/
def pick (c : IVec (Sh 16) 1) : Fin 16 → Bool := fun k => c (ln k) == 1#1

/-- The positions of the first pass: the running count for a picked lane, the spare entry 16400 for the others. -/
def dst1 (c : IVec (Sh 16) 1) (cur : BitVec 32) (h : 1 < 32) : IVec (Sh 16) 32 :=
  select c (subi (addi (broadcast (Sh 16) cur) (scan (d := ![16]) .sum (extui 32 c h))) (broadcast (Sh 16) 1#32)) (broadcast (Sh 16) 16400#32)

/-- The positions of the second pass: the running count, at most 270, for a picked lane, the spare entry 271 for the others. -/
def dst2 (c : IVec (Sh 16) 1) (cur : BitVec 32) (h : 1 < 32) : IVec (Sh 16) 32 :=
  select c (minsi (subi (addi (broadcast (Sh 16) cur) (scan (d := ![16]) .sum (extui 32 c h))) (broadcast (Sh 16) 1#32)) (broadcast (Sh 16) 270#32))
    (broadcast (Sh 16) 271#32)

theorem one_of_pick {c : IVec (Sh 16) 1} {k : Fin 16} (h : pick c k = true) : c (ln k) = 1 := show c (ln k) = 1#1 by simpa [pick] using h
theorem zero_of_pick {c : IVec (Sh 16) 1} {k : Fin 16} (h : pick c k = false) : ¬ c (ln k) = 1 := show ¬ c (ln k) = 1#1 by simpa [pick] using h

theorem ext_eq (c : IVec (Sh 16) 1) (h : 1 < 32) (k : Fin 16) : extui 32 c h (ln k) = if pick c k then 1#32 else 0#32 := by
  show (c (ln k)).setWidth 32 = _
  unfold pick
  generalize c (ln k) = b
  revert b; decide

theorem scan_eq (c : IVec (Sh 16) 1) (h : 1 < 32) (x : Fin 16) :
    scan (d := ![16]) .sum (extui 32 c h) (ln x) = BitVec.ofNat 32 (rank (pick c) x + if pick c x then 1 else 0) :=
  scan_sum (pick c) _ (ext_eq c h) x

/-- What the running count grows by. -/
theorem scan_last (c : IVec (Sh 16) 1) (h : 1 < 32) :
    scan (d := ![16]) .sum (extui 32 c h) (ln 15) = BitVec.ofNat 32 (total (pick c)) := by rw [scan_eq, rank_last]

theorem pos_toNat (n r : ℕ) (hn : n + r < 2 ^ 31) :
    (BitVec.ofNat 32 n + BitVec.ofNat 32 (r + 1) - 1#32) = BitVec.ofNat 32 (n + r) := by
  rw [← BitVec.ofNat_add, show n + (r + 1) = (n + r) + 1 by omega, BitVec.ofNat_add]
  exact BitVec.add_sub_cancel _ _

theorem dst1_in (c : IVec (Sh 16) 1) (h : 1 < 32) (n : ℕ) (hn : n < 2 ^ 30) (k : Fin 16) (hk : pick c k = true) :
    (dst1 c (BitVec.ofNat 32 n) h (ln k)).toNat = n + rank (pick c) k := by
  have hr := rank_le (pick c) k
  show (if c (ln k) = 1 then (BitVec.ofNat 32 n + scan (d := ![16]) .sum (extui 32 c h) (ln k) - 1#32) else 16400#32).toNat = _
  rw [if_pos (one_of_pick hk), scan_eq, hk, if_pos rfl, pos_toNat _ _ (by omega)]
  show (BitVec.ofNat 32 (n + rank (pick c) k)).toNat = _
  rw [BitVec.toNat_ofNat, Nat.mod_eq_of_lt (by omega)]

theorem dst1_out (c : IVec (Sh 16) 1) (h : 1 < 32) (cur : BitVec 32) (k : Fin 16) (hk : pick c k = false) :
    (dst1 c cur h (ln k)).toNat = 16400 := by
  show (if c (ln k) = 1 then _ else 16400#32).toNat = _
  rw [if_neg (zero_of_pick hk)]; rfl

theorem min_toNat (n : ℕ) (hn : n < 2 ^ 31) : (IntOp.minsi (BitVec.ofNat 32 n) 270#32).toNat = min n 270 := by
  rw [WordArith.toNat_minsi_of_lt _ _ (by rw [BitVec.toNat_ofNat]; exact lt_of_le_of_lt (Nat.mod_le _ _) hn) (by decide),
    BitVec.toNat_ofNat, Nat.mod_eq_of_lt (by omega)]
  rfl

theorem dst2_in (c : IVec (Sh 16) 1) (h : 1 < 32) (n : ℕ) (hn : n < 2 ^ 30) (k : Fin 16) (hk : pick c k = true) :
    (dst2 c (BitVec.ofNat 32 n) h (ln k)).toNat = min (n + rank (pick c) k) 270 := by
  have hr := rank_le (pick c) k
  show (if c (ln k) = 1 then (IntOp.minsi (BitVec.ofNat 32 n + scan (d := ![16]) .sum (extui 32 c h) (ln k) - 1#32) 270#32) else 271#32).toNat = _
  rw [if_pos (one_of_pick hk), scan_eq, hk, if_pos rfl, pos_toNat _ _ (by omega)]
  exact min_toNat _ (by omega)

theorem dst2_out (c : IVec (Sh 16) 1) (h : 1 < 32) (cur : BitVec 32) (k : Fin 16) (hk : pick c k = false) :
    (dst2 c cur h (ln k)).toNat = 271 := by
  show (if c (ln k) = 1 then _ else 271#32).toNat = _
  rw [if_neg (zero_of_pick hk)]; rfl

/-- Every position of the first pass is inside the buffer of 16416 entries. -/
theorem dst1_lt (c : IVec (Sh 16) 1) (h : 1 < 32) (n : ℕ) (hn : n ≤ 16384) (x : (Sh 16).Idx) :
    (dst1 c (BitVec.ofNat 32 n) h x).toNat < 16416 := by
  rw [← ln_eq x]
  have hr := rank_le (pick c) (x 0)
  have h16 : (x 0).val < 16 := (x 0).isLt
  cases hk : pick c (x 0) with
  | true => rw [dst1_in c h n (by omega) _ hk]; omega
  | false => rw [dst1_out c h _ _ hk]; omega

theorem dst2_lt (c : IVec (Sh 16) 1) (h : 1 < 32) (n : ℕ) (hn : n ≤ 16384) (x : (Sh 16).Idx) :
    (dst2 c (BitVec.ofNat 32 n) h x).toNat < 272 := by
  rw [← ln_eq x]
  have hr := rank_le (pick c) (x 0)
  have h16 : (x 0).val < 16 := (x 0).isLt
  cases hk : pick c (x 0) with
  | true => rw [dst2_in c h n (by omega) _ hk]; omega
  | false => rw [dst2_out c h _ _ hk]; omega

/-- The mask of the first pass: the words whose top part is `w`. -/
def mask1 (w : BitVec 32) (v : IVec (Sh 16) 32) : IVec (Sh 16) 1 := cmpi .eq (shrsi v (broadcast (Sh 16) 15#32)) (broadcast (Sh 16) w)

theorem pick_mask1 (w : BitVec 32) (v : IVec (Sh 16) 32) (k : Fin 16) : pick (mask1 w v) k = decide ((v (ln k)).sshiftRight 15 = w) := by
  show ((BitVec.ofBool (IntOp.shrsi .vector (v (ln k)) 15#32 == w)) == 1#1) = _
  have : IntOp.shrsi .vector (v (ln k)) 15#32 = (v (ln k)).sshiftRight 15 := by
    unfold IntOp.shrsi; rw [if_pos (by decide)]; rfl
  rw [this]
  by_cases h : (v (ln k)).sshiftRight 15 = w
  · simp [h]
  · have hb : ((v (ln k)).sshiftRight 15 == w) = false := by simpa using h
    rw [hb]; simp [h]

/-- The mask of the second pass: the entries below `n` whose bucket is `r`. -/
def mask2 (r n base : BitVec 32) (io v : IVec (Sh 16) 32) : IVec (Sh 16) 1 :=
  andi (cmpi .slt (addi (broadcast (Sh 16) base) io) (broadcast (Sh 16) n)) (cmpi .eq (shrsi v (broadcast (Sh 16) 12#32)) (broadcast (Sh 16) r))

theorem pick_mask2 (r : BitVec 32) (n t : ℕ) (hn : n ≤ 16384) (ht : t ≤ 1024) (io v : IVec (Sh 16) 32)
    (hio : ∀ k, io (ln k) = BitVec.ofNat 32 k.val) (k : Fin 16) :
    pick (mask2 r (BitVec.ofNat 32 n) (BitVec.ofNat 32 (16 * t)) io v) k
      = (decide (16 * t + k.val < n) && decide ((v (ln k)).sshiftRight 12 = r)) := by
  have h16 := k.isLt
  have hs : IntOp.shrsi .vector (v (ln k)) 12#32 = (v (ln k)).sshiftRight 12 := by
    unfold IntOp.shrsi; rw [if_pos (by decide)]; rfl
  have hlt : BitVec.slt (BitVec.ofNat 32 (16 * t) + io (ln k)) (BitVec.ofNat 32 n) = decide (16 * t + k.val < n) := by
    rw [hio, ← BitVec.ofNat_add, BitVec.slt, WordArith.toInt_ofNat_small _ (by omega), WordArith.toInt_ofNat_small _ (by omega)]
    congr 1; push_cast; exact propext (by omega)
  show ((IntOp.andi (BitVec.ofBool (BitVec.slt (BitVec.ofNat 32 (16 * t) + io (ln k)) (BitVec.ofNat 32 n)))
    (BitVec.ofBool (IntOp.shrsi .vector (v (ln k)) 12#32 == r))) == 1#1) = _
  rw [hs, hlt, WordArith.andi_ofBool]
  have hb : ((v (ln k)).sshiftRight 12 == r) = decide ((v (ln k)).sshiftRight 12 = r) := by
    by_cases h : (v (ln k)).sshiftRight 12 = r
    · simp [h]
    · have : ((v (ln k)).sshiftRight 12 == r) = false := by simpa using h
      rw [this]; simp [h]
  rw [hb]
  generalize (decide (16 * t + k.val < n) && decide ((v (ln k)).sshiftRight 12 = r)) = b
  cases b <;> decide

end Cert.Proof.Lanes
-- ==== Proof.Trips.lean ====
/-
  The trip count of the second pass: sixteen kept positions a trip, the last trip partly filled.
-/
module

public import proofs.«01_k».proof.Proof.Gen.KernelIdeal
public import Idealize.ShloMosaic.Lib.LoopRemainder
public import Idealize.ShloMosaic.Lib.Routing.Words

@[expose] public section

namespace Cert.Proof.Bucket

open Cert.KernelIdeal Cert.KernelIdeal.Gen
open Idealize.ShloMosaic

/-- A bit as a word. -/
abbrev e32 (b : BitVec 1) : BitVec 32 := Scalar.extui b

theorem iv_word (t : ℕ) : Scalar.muli 16#32 (Scf.iv 0#32 1#32 t) = BitVec.ofNat 32 (16 * t) := by
  show 16#32 * (0#32 + BitVec.ofNat 32 t * 1#32) = _
  apply BitVec.eq_of_toNat_eq
  simp

/-- Rounding up to a multiple of sixteen, as the task computes it. -/
theorem t2_ub (n : ℕ) (hn : n ≤ 16384) : (k0_t2_loop (BitVec.ofNat 32 n)).ub = BitVec.ofNat 32 ((n + 15) / 16) := by
  have h5 : Scalar.addi (BitVec.ofNat 32 n) 15#32 = BitVec.ofNat 32 (n + 15) := (BitVec.ofNat_add ..).symm
  have hi : (BitVec.ofNat 32 (n + 15)).toInt = ((n + 15 : ℕ) : ℤ) := WordArith.toInt_ofNat_small _ (by omega)
  have h7 : Scalar.cmpi .sgt (BitVec.ofNat 32 (n + 15)) 0#32 = 1#1 := by
    show BitVec.ofBool (BitVec.slt 0#32 (BitVec.ofNat 32 (n + 15))) = 1#1
    rw [WordArith.ofBool_eq_one_iff, BitVec.slt, hi]; simp; omega
  have h9 : Scalar.cmpi .slt (BitVec.ofNat 32 (n + 15)) 0#32 = 0#1 := by
    show BitVec.ofBool (BitVec.slt (BitVec.ofNat 32 (n + 15)) 0#32) = 0#1
    have : BitVec.slt (BitVec.ofNat 32 (n + 15)) 0#32 = false := by rw [BitVec.slt, hi]; simp; omega
    rw [this]; rfl
  have h6 : Scalar.divsi (BitVec.ofNat 32 (n + 15)) 16#32 = BitVec.ofNat 32 ((n + 15) / 16) :=
    Routing.divsi_word .scalar (by omega) (by decide) (by decide)
  have hz : ∀ x : BitVec 1, Scalar.andi 0#1 x = 0#1 := by decide
  have hc : Scalar.cmpi .ne (Scalar.subi (e32 1#1) (e32 0#1))
      (Scalar.subi (e32 (Scalar.cmpi .sgt 16#32 0#32)) (e32 (Scalar.cmpi .slt 16#32 0#32))) = 0#1 := by decide
  show Scalar.addi 0#32 (Scalar.muli (Scalar.divsi (Scalar.subi (Scalar.select (Scalar.andi (Scalar.cmpi .ne
    (Scalar.subi (e32 (Scalar.cmpi .sgt (Scalar.addi (BitVec.ofNat 32 n) 15#32) 0#32)) (e32 (Scalar.cmpi .slt (Scalar.addi (BitVec.ofNat 32 n) 15#32) 0#32)))
    (Scalar.subi (e32 (Scalar.cmpi .sgt 16#32 0#32)) (e32 (Scalar.cmpi .slt 16#32 0#32))))
    (Scalar.cmpi .ne (Scalar.remsi (Scalar.addi (BitVec.ofNat 32 n) 15#32) 16#32) 0#32))
    (Scalar.subi (Scalar.divsi (Scalar.addi (BitVec.ofNat 32 n) 15#32) 16#32) 1#32) (Scalar.divsi (Scalar.addi (BitVec.ofNat 32 n) 15#32) 16#32)) 0#32) 1#32) 1#32) = _
  rw [h5, h7, h9, hc, hz, h6, Scalar.muli_divsi_one]
  show 0#32 + (BitVec.ofNat 32 ((n + 15) / 16) - 0#32) = _
  rw [BitVec.zero_add, BitVec.sub_zero]

theorem t2_trips (n : ℕ) (hn : n ≤ 16384) : (k0_t2_loop (BitVec.ofNat 32 n)).trips = (n + 15) / 16 := by
  show Scf.trips 0#32 (k0_t2_loop (BitVec.ofNat 32 n)).ub 1#32 = _
  rw [t2_ub n hn]
  unfold Scf.trips
  rw [WordArith.toInt_ofNat_small _ (by omega)]
  simp
  omega

theorem t2_ok (n : ℕ) (hn : n ≤ 16384) : (k0_t2_loop (BitVec.ofNat 32 n)).OK := by
  have ht := t2_trips n hn
  refine ⟨show 0 < (1#32 : BitVec 32).toInt by decide, ?_⟩
  show (0#32 : BitVec 32).toInt + ((k0_t2_loop (BitVec.ofNat 32 n)).trips : ℤ) * (1#32 : BitVec 32).toInt < 2 ^ 31
  rw [ht]
  simp
  omega

theorem off2_eq (n : ℕ) (hn : n ≤ 16384) (t : Fin (k0_t2_loop (BitVec.ofNat 32 n)).trips) : k0_off2 (BitVec.ofNat 32 n) t = ![16 * t.val] := by
  have ht : t.val < (n + 15) / 16 := t.isLt.trans_eq (t2_trips n hn)
  show ![(Scalar.muli 16#32 (Scf.iv 0#32 1#32 t.val)).toNat] = _
  rw [iv_word, BitVec.toNat_ofNat, Nat.mod_eq_of_lt (by omega)]

theorem off2_inb (n : ℕ) (hn : n ≤ 16384) (t : Fin (k0_t2_loop (BitVec.ofNat 32 n)).trips) (a : Fin 1) :
    k0_off2 (BitVec.ofNat 32 n) t a + S16.size a ≤ S16416.size a := by
  have ht : t.val < (n + 15) / 16 := t.isLt.trans_eq (t2_trips n hn)
  rw [off2_eq n hn]
  obtain rfl : a = 0 := Fin.eq_zero a
  show 16 * t.val + 16 ≤ 16416
  omega

/-- The loops' bounds and the loads' places are in range for every number of kept positions. -/
theorem chk2_of (n : ℕ) (hn : n ≤ 16384) : k0_chk2 (BitVec.ofNat 32 n) := by
  have o := t2_ok n hn
  have i := off2_inb n hn
  have r : (k0_t3_loop (BitVec.ofNat 32 n)).OK := Scf.rem_ok _ _
  have z : ∀ (t : Fin (k0_t3_loop (BitVec.ofNat 32 n)).trips) (a : Fin 1), k0_off3 (BitVec.ofNat 32 n) t a + S16.size a ≤ S16416.size a :=
    fun t => (Scf.rem_no_trip _ _ t).elim
  exact ⟨o, i, r, z, o, i, r, z, o, i, r, z, o, i, r, z, o, i, r, z, o, i, r, z, o, i, r, z, o, i, r, z⟩

end Cert.Proof.Bucket
-- ==== Proof.Passes.lean ====
/-
  The two counted loops of the bucketing task. The first pass over the 16384 indices keeps, in order, the ones whose top
  part is the task's number, with their positions; the second, once for each of the task's eight buckets, keeps the
  positions whose bucket it is. Each loop's invariant says the buffer it appends to holds the list so far.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ViewIndex
public import Idealize.ShloMosaic.Lib.LoopRemainder
public import proofs.«01_k».proof.Proof.Gen.KernelIdeal
public import proofs.«01_k».proof.Proof.Gen.KernelIdeal.Skeleton
public import proofs.«01_k».proof.Proof.Lanes
public import proofs.«01_k».proof.Proof.Trips

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

/-! ## The lists -/

/-- Entry `j` of the array of indices. -/
def entry (I : S16384.Idx → BitVec 32) (j : ℕ) : BitVec 32 := if h : j < 16384 then I (ln1 ⟨j, h⟩) else 0#32
where ln1 (j : Fin 16384) : S16384.Idx := fun a => j.cast (congrArg ![16384] (Fin.eq_zero a).symm)

/-- The positions among the first `n` whose index has top part `w`. -/
def hits (I : S16384.Idx → BitVec 32) (w : BitVec 32) (n : ℕ) : List ℕ :=
  (List.range n).filter fun j => decide ((entry I j).sshiftRight 15 = w)

/-- The positions whose index falls in bucket `r`. -/
def bucket (I : S16384.Idx → BitVec 32) (r : BitVec 32) : List ℕ :=
  (List.range 16384).filter fun j => decide ((entry I j).sshiftRight 12 = r)

theorem hits_length (I : S16384.Idx → BitVec 32) (w : BitVec 32) (n : ℕ) : (hits I w n).length ≤ n :=
  (List.length_filter_le _ _).trans (by rw [List.length_range])

theorem bucket_length (I : S16384.Idx → BitVec 32) (r : BitVec 32) : (bucket I r).length ≤ 16384 :=
  (List.length_filter_le _ _).trans (by rw [List.length_range])

theorem hits_succ (I : S16384.Idx → BitVec 32) (w : BitVec 32) (t : ℕ) :
    hits I w (16 * (t + 1)) = hits I w (16 * t) ++ ((List.finRange 16).filter fun k => decide ((entry I (16 * t + k.val)).sshiftRight 15 = w)).map fun k => 16 * t + k.val := by
  unfold hits
  rw [show 16 * (t + 1) = 16 * t + 16 by omega, List.range_add, List.filter_append, List.filter_map, range_sixteen, List.filter_map, List.map_map]
  rfl

/-- Of the positions the first pass keeps, those in bucket `r` are all of bucket `r`. -/
theorem hits_filter (I : S16384.Idx → BitVec 32) (w r : BitVec 32) (hr : r.sshiftRight 3 = w) :
    (hits I w 16384).filter (fun j => decide ((entry I j).sshiftRight 12 = r)) = bucket I r := by
  unfold hits bucket
  rw [List.filter_filter]
  apply List.filter_congr
  intro j _
  by_cases h : (entry I j).sshiftRight 12 = r
  · have h2 : (entry I j).sshiftRight 15 = w := by
      rw [← hr, ← h, show (15 : ℕ) = 12 + 3 from rfl, BitVec.sshiftRight_add]
    simp [h, h2]
  · simp [h]

/-! ## The threads, the buffers -/

abbrev 𝒱₀ : Variants := Variants.none
abbrev UH : Type := URounds (GSem nD τ sig) ℕ
abbrev UP : Type := URounds (GSem nD τ sig) Unit
/-- The handshakes' rounds, the pipelines' rounds, and the counters of the transfers. -/
abbrev UU : Type := UH × (UP × Counters)

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]

/-- The word the task computes its own number by. -/
abbrev wWord (L : grid0.Coords) : BitVec 32 := Scalar.addi (Scalar.muli (BitVec.ofNat 32 (L 1).val) 2#32) (BitVec.ofNat 32 (L 0).val)

theorem pay2_eq (L : grid0.Coords) (v : Vec F S16 .i32) : k0_pay2 L v = mask1 (wWord L) v := rfl
theorem pay3_eq (L : grid0.Coords) (a : BitVec 32) (v : Vec F S16 .i32) : k0_pay3 L a v = dst1 (mask1 (wWord L) v) a natLt_1_32 := rfl
theorem pay4_eq (L : grid0.Coords) (v : Vec F S16 .i32) : k0_pay4 L v = scan .sum (extui 32 (mask1 (wWord L) v) natLt_1_32) := rfl

/-- A scatter into a memref whose buffer is held on any set of elements that has the memref's. -/
theorem wp_scatter (c : Thread nD τ) {s : Shape} {e : EltTy} {dd : Fin 1 → Nat} {base : Memref sig c.2.kind .vmem s e}
    {idxs : Fin s.rank → IVec ⟨1, dd⟩ 32} {v : Vec F ⟨1, dd⟩ e}
    {mask : IVec ⟨1, dd⟩ 1} {add : Bool} {h : ∀ a x, (idxs a x).toNat < s.size a} {hs : (base.access (.whole s)).Stores Finset.univ}
    {α : Type} {Q : α → sProp 𝕄} {k : PUnit → Prog (TpuEff nD τ sig (Elt F) Λ₀ c.2) α}
    {S : Finset (Idx ((base.access (.whole s)).loc c))} {f : Buf (Elt F) ((base.access (.whole s)).loc c)}
    (hS : (base.access (.whole s)).set ⊆ S) :
    ((base.access (.whole s)).loc c ↦[S]{fullShare} f)
      ⊢ iprop((((base.access (.whole s)).loc c ↦[S]{fullShare}
            ((base.access (.whole s)).write (Elt F) f (storeIdx ((base.access (.whole s)).read (Elt F) f) idxs v mask add h) Finset.univ))
          -∗ wp frame (wpE (defs₀ (F := F)) 𝒱₀ c none) Set.univ (k ⟨⟩) Q)
        -∗ wp frame (wpE (defs₀ (F := F)) 𝒱₀ c none) Set.univ (SparseCore.vectorStoreIdx base idxs v mask add h hs >>= k) Q) := by
  rw [SparseCore.vectorStoreIdx_bind]
  iintro H Hk
  iapply (wp_load_rect (defs := defs₀ (F := F)) 𝒱₀ c none Set.univ (Q := Q) (r := Rect.whole s) (hl := View.loadsAt_rect hs.loads)
    (k := fun f' => .op (.store base (.whole s) (storeIdx f' idxs v mask add h) Finset.univ hs (.inl rfl)) k)
    (q := fullShare) (f := f) hS) $$ H
  iintro H
  iapply (wp_store (defs := defs₀ (F := F)) 𝒱₀ c none Set.univ (Q := Q) (m := base) (r := .whole s) (Mk := Finset.univ)
    (hx := hs) (hm := .inl rfl) (k := k) (f := f) (S := S) (by rwa [View.setOn_univ])) $$ H
  iexact Hk

/-! ## The first pass -/

theorem t1_trips : k0_t1_loop.trips = 1024 := by decide

theorem off1_eq (t : Fin k0_t1_loop.trips) : k0_off1 t = ![16 * t.val] := by
  revert t; decide +kernel

theorem iota_ln (k : Fin 16) : iota .scVector S16 32 [0] iota_S16_d0_w32_scVector (ln k) = BitVec.ofNat 32 k.val := by
  revert k; decide

theorem pay1_ln (t : Fin k0_t1_loop.trips) (k : Fin 16) : k0_pay1 t (ln k) = BitVec.ofNat 32 (16 * t.val + k.val) := by
  have ht : t.val < 1024 := t.isLt.trans_eq t1_trips
  show Scalar.muli 16#32 (Scf.iv 0#32 1#32 t.val) + iota .scVector S16 32 [0] iota_S16_d0_w32_scVector (ln k) = _
  rw [iv_word, iota_ln, ← BitVec.ofNat_add]

theorem read16_entry (I : S16384.Idx → BitVec 32) (t : ℕ) (ht : t < 1024) (off : Fin 1 → ℕ) (ho : off = ![16 * t]) (inb : ∀ a, off a + S16.size a ≤ S16384.size a) (k : Fin 16) :
    (sX).view.readAt (Elt F) (Rect.unit (s := S16384) off S16.size inb).toLoadRect I (ln k) = entry I (16 * t + k.val) := by
  have hk := k.isLt
  subst ho
  unfold entry
  rw [dif_pos (by omega)]
  show I _ = I _
  congr 1
  apply Shape.idx1_ext
  show 16 * t + 1 * k.val = 16 * t + k.val
  omega

/-- The sixteen indices trip `t` reads. -/
abbrev ld1 (I : S16384.Idx → BitVec 32) (t : Fin k0_t1_loop.trips) : Vec F S16 .i32 :=
  (sX).view.readAt (Elt F) (Rect.unit (s := S16384) (k0_off1 t) S16.size (k0_off1_inb t)).toLoadRect I

theorem ld1_ln (I : S16384.Idx → BitVec 32) (t : Fin k0_t1_loop.trips) (k : Fin 16) : ld1 (F := F) I t (ln k) = entry I (16 * t.val + k.val) :=
  read16_entry I t.val (t.isLt.trans_eq t1_trips) _ (off1_eq t) _ k

/-- What the first pass has kept after `t` trips. -/
def inv1 (d : Dev nD) (L : grid0.Coords) (I : S16384.Idx → BitVec 32) (t : ℕ) (acc : BitVec 32) : sProp 𝕄 :=
  iprop(((sX).view.loc (thr d L) ↦{fullShare} I) ∗ ∃ f6 f7,
    ⌜acc = BitVec.ofNat 32 (hits I (wWord L) (16 * t)).length
      ∧ Holds (N := 16416) f6 ((hits I (wWord L) (16 * t)).map (entry I)) 16400
      ∧ Holds (N := 16416) f7 ((hits I (wWord L) (16 * t)).map (BitVec.ofNat 32)) 16400⌝
    ∗ ((sH).view.loc (thr d L) ↦{fullShare} f6) ∗ ((sB).view.loc (thr d L) ↦{fullShare} f7))

theorem p1_step (d : Dev nD) (L : grid0.Coords) (I : S16384.Idx → BitVec 32) (t : Fin k0_t1_loop.trips) (acc : BitVec 32) :
    (inv1 (F := F) d L I t.val acc : sProp 𝕄) ⊢ wp frame (wpE (defs₀ (F := F)) 𝒱₀ (thr d L) none) Set.univ
      (k0_t1_body L xV (Memref.isWhole_whole _) nV (Memref.isWhole_whole _) lV (Memref.isWhole_whole _) sX (Memref.isWhole_whole _)
        sH (Memref.isWhole_whole _) sB (Memref.isWhole_whole _) sL (Memref.isWhole_whole _) sC (Memref.isWhole_whole _) cc0_scratch5 cc0_scoped0 cc0_scoped1 cc0_scoped2 t acc)
      (inv1 (F := F) d L I (t.val + 1)) := by
  have ht : t.val < 1024 := t.isLt.trans_eq t1_trips
  unfold inv1
  iintro ⟨Hx, %f6, %f7, %hf, H6, H7⟩
  obtain ⟨rfl, h6, h7⟩ := hf
  have hlen := hits_length I (wWord L) (16 * t.val)
  sl_unfold [k0_t1_body]
  sl_exec
  have hv : p1_step.sl.v149 (F := F) L I t = dst1 (mask1 (wWord L) (ld1 (F := F) I t)) (BitVec.ofNat 32 (hits I (wWord L) (16 * t.val)).length) natLt_1_32 := rfl
  have hchk : k0_chk1 (p1_step.sl.v149 (F := F) L I t) := by
    rw [hv]
    have hl : ∀ a x, ((![dst1 (mask1 (wWord L) (ld1 (F := F) I t)) (BitVec.ofNat 32 (hits I (wWord L) (16 * t.val)).length) natLt_1_32] : Fin 1 → IVec S16 32) a x).toNat < S16416.size a := by
      intro a x
      obtain rfl : a = 0 := Fin.eq_zero a
      exact dst1_lt _ _ _ (by omega) x
    exact ⟨hl, hl⟩
  rw [wp_assume_of _ _ _ _ hchk]
  iapply (wp_scatter (F := F) (thr d L) (base := sH) (S := Finset.univ) (Finset.subset_univ _)) $$ H6
  iintro H6
  iapply (wp_scatter (F := F) (thr d L) (base := sB) (S := Finset.univ) (Finset.subset_univ _)) $$ H7
  iintro H7
  sl_exec
  sl_step
  isplitl [Hx]; · iexact Hx
  iexists _; iexists _
  isplitr
  swap
  · isplitl [H6]; · iexact H6
    iexact H7
  ipureintro
  have hpick : ∀ k, pick (mask1 (wWord L) (ld1 (F := F) I t)) k = decide ((entry I (16 * t.val + k.val)).sshiftRight 15 = wWord L) := fun k => by
    rw [pick_mask1, ld1_ln (F := F) I t]
  have hpf : (List.finRange 16).filter (pick (mask1 (wWord L) (ld1 (F := F) I t)))
      = (List.finRange 16).filter fun k => decide ((entry I (16 * t.val + k.val)).sshiftRight 15 = wWord L) := List.filter_congr fun k _ => hpick k
  have hs := hits_succ I (wWord L) t.val
  rw [← hpf] at hs
  have hh : ∀ k, ((![dst1 (mask1 (wWord L) (ld1 (F := F) I t)) (BitVec.ofNat 32 (hits I (wWord L) (16 * t.val)).length) natLt_1_32] : Fin 1 → IVec S16 32) 0 (ln k)) = dst1 (mask1 (wWord L) (ld1 (F := F) I t)) (BitVec.ofNat 32 (hits I (wWord L) (16 * t.val)).length) natLt_1_32 (ln k) := fun _ => rfl
  refine ⟨?_, ?_, ?_⟩
  · rw [hs, List.length_append, List.length_map]
    show BitVec.ofNat 32 _ + scan (d := ![16]) .sum (extui 32 (mask1 (wWord L) (ld1 (F := F) I t)) natLt_1_32) (ln 15) = _
    rw [scan_last, ← BitVec.ofNat_add]
    rfl
  · rw [Memref.write_access_whole_univ, Memref.read_access_whole]
    rw [hs, List.map_append, List.map_map]
    refine (Holds.storeIdx (F := F) h6 (pick (mask1 (wWord L) (ld1 (F := F) I t))) _ _ _ (fun k hk => .inl ?_) fun k hk => ?_).of_eq ?_
    · rw [List.length_map]; exact dst1_in _ _ _ (by omega) _ hk
    · exact (dst1_out _ _ _ _ hk).ge
    · congr 1; apply List.map_congr_left; intro k _; exact ld1_ln (F := F) I t k
  · rw [Memref.write_access_whole_univ, Memref.read_access_whole]
    rw [hs, List.map_append, List.map_map]
    refine (Holds.storeIdx (F := F) h7 (pick (mask1 (wWord L) (ld1 (F := F) I t))) _ _ _ (fun k hk => .inl ?_) fun k hk => ?_).of_eq ?_
    · rw [List.length_map]; exact dst1_in _ _ _ (by omega) _ hk
    · exact (dst1_out _ _ _ _ hk).ge
    · congr 1; apply List.map_congr_left; intro k _; exact pay1_ln t k

/-! ## The second pass -/

/-- The number of task `L`'s bucket `k`, as the task computes it. -/
abbrev rWord (L : grid0.Coords) (k : ℕ) : BitVec 32 := Scalar.addi (Scalar.muli (wWord L) 8#32) (BitVec.ofNat 32 k)

theorem rWord_shift : ∀ (L : grid0.Coords) (k : Fin 8), (rWord L k.val).sshiftRight 3 = wWord L := by decide +kernel

end Cert.Proof.Bucket
-- ==== Proof.ExtTrips.lean ====
/-
  The words of the row extraction: the loops' trip counts, and the places it reads and copies.
-/
module

public import proofs.«01_k».proof.Proof.Gen.KernelIdeal
public import Idealize.ShloMosaic.Lib.LoopRemainder
public import Idealize.ShloMosaic.Lib.Routing.Words

@[expose] public section

namespace Cert.Proof.Bucket

open Cert.KernelIdeal Cert.KernelIdeal.Gen
open Idealize.ShloMosaic

theorem e1_trips : ∀ n : Fin 257, (k1_t1_loop (BitVec.ofNat 32 n.val)).trips = n.val := by decide +kernel
theorem e3_trips : ∀ n : Fin 257, (k1_t3_loop (BitVec.ofNat 32 n.val)).trips = n.val := by decide +kernel
theorem e1_ok : ∀ n : Fin 257, (k1_t1_loop (BitVec.ofNat 32 n.val)).OK := by decide +kernel
theorem e3_ok : ∀ n : Fin 257, (k1_t3_loop (BitVec.ofNat 32 n.val)).OK := by decide +kernel
theorem e2_ok : ∀ n : Fin 257, (k1_t2_loop (BitVec.ofNat 32 n.val)).OK := by decide +kernel
theorem e4_ok : ∀ n : Fin 257, (k1_t4_loop (BitVec.ofNat 32 n.val)).OK := by decide +kernel
theorem e2_trips : ∀ n : Fin 257, (k1_t2_loop (BitVec.ofNat 32 n.val)).trips = 0 := by decide +kernel
theorem e4_trips : ∀ n : Fin 257, (k1_t4_loop (BitVec.ofNat 32 n.val)).trips = 0 := by decide +kernel

theorem iv1_word (k : ℕ) : Scf.iv 0#32 1#32 k = BitVec.ofNat 32 k := by
  show 0#32 + BitVec.ofNat 32 k * 1#32 = _
  rw [BitVec.zero_add, BitVec.mul_one]

theorem place_word (i k : ℕ) (hi : i < 245) (hk : k < 256) : (Scalar.addi (Scalar.muli (BitVec.ofNat 32 i) 256#32) (Scf.iv 0#32 1#32 k)).toNat = 256 * i + k := by
  rw [iv1_word]
  show (BitVec.ofNat 32 i * 256#32 + BitVec.ofNat 32 k).toNat = _
  rw [BitVec.toNat_add, BitVec.toNat_mul, BitVec.toNat_ofNat, BitVec.toNat_ofNat, BitVec.toNat_ofNat]
  omega

theorem coord1_lt (i : grid1.Coords) : (i 0).val < 245 := (i 0).isLt

theorem e_off1 (i : grid1.Coords) : k1_off1 i = ![(i 0).val] := by
  have := coord1_lt i
  show ![(BitVec.ofNat 32 (i 0).val).toNat] = _
  rw [BitVec.toNat_ofNat, Nat.mod_eq_of_lt (by omega)]

theorem e_off2 (i : grid1.Coords) (v : BitVec 32) (k : Fin (k1_t1_loop v).trips) (hk : k.val < 256) : k1_off2 i v k = ![256 * (i 0).val + k.val] := by
  show ![(Scalar.addi (Scalar.muli (BitVec.ofNat 32 (i 0).val) 256#32) (Scf.iv 0#32 1#32 k.val)).toNat] = _
  rw [place_word _ _ (coord1_lt i) hk]

theorem e_off10 (i : grid1.Coords) (v : BitVec 32) (k : Fin (k1_t3_loop v).trips) (hk : k.val < 256) : k1_off10 i v k = ![256 * (i 0).val + k.val] := by
  show ![(Scalar.addi (Scalar.muli (BitVec.ofNat 32 (i 0).val) 256#32) (Scf.iv 0#32 1#32 k.val)).toNat] = _
  rw [place_word _ _ (coord1_lt i) hk]

/-- The loops' bounds and the loads' places are in range for every count up to 256. -/
theorem e_chk1 (i : grid1.Coords) (n : Fin 257) : k1_chk1 i (BitVec.ofNat 32 n.val) := by
  have hi := coord1_lt i
  have hn := n.isLt
  have t1 := e1_trips n
  have t3 := e3_trips n
  refine ⟨e1_ok n, fun k a => ?_, e2_ok n, fun k => ?_, e3_ok n, fun k a => ?_, e4_ok n, fun k => ?_⟩
  · have hk := k.isLt
    rw [e_off2 i _ k (by omega)]
    obtain rfl : a = 0 := Fin.eq_zero a
    show 256 * (i 0).val + k.val + 1 ≤ 65536
    omega
  · exact (Nat.not_lt_zero _ (k.isLt.trans_eq (e2_trips n))).elim
  · have hk := k.isLt
    rw [e_off10 i _ k (by omega)]
    obtain rfl : a = 0 := Fin.eq_zero a
    show 256 * (i 0).val + k.val + 1 ≤ 65536
    omega
  · exact (Nat.not_lt_zero _ (k.isLt.trans_eq (e4_trips n))).elim

theorem e_off3 (b : ℕ) (hb : b < 16384) : k1_off3 (BitVec.ofNat 32 b) = ![b] := by
  show ![(BitVec.ofNat 32 b).toNat] = _
  rw [BitVec.toNat_ofNat, Nat.mod_eq_of_lt (by omega)]

theorem e_off4 (b : ℕ) (hb : b < 16384) : k1_off4 (BitVec.ofNat 32 b) = ![b, 0] := by
  show ![(BitVec.ofNat 32 b).toNat, 0] = _
  rw [BitVec.toNat_ofNat, Nat.mod_eq_of_lt (by omega)]

theorem e_off11 (b : ℕ) (hb : b < 16384) : k1_off11 (BitVec.ofNat 32 b) = ![b, 0] := e_off4 b hb

theorem e_in4 (b : ℕ) (hb : b < 16384) : ∀ a, (![b, 0] : Fin 2 → ℕ) a + S1x128.size a ≤ S16384x128.size a := by
  intro a; fin_cases a
  · show b + 1 ≤ 16384; omega
  · show 0 + 128 ≤ 128; omega

theorem e_in5 (p : ℕ) (hp : p < 4096) : ∀ a, (![p, 0] : Fin 2 → ℕ) a + S1x128.size a ≤ S4096x128.size a := by
  intro a; fin_cases a
  · show p + 1 ≤ 4096; omega
  · show 0 + 128 ≤ 128; omega

theorem e_chk2 (b : ℕ) (hb : b < 16384) : k1_chk2 (BitVec.ofNat 32 b) := by
  refine ⟨fun a => ?_, ?_⟩
  · rw [e_off3 b hb]
    obtain rfl : a = 0 := Fin.eq_zero a
    show b + 1 ≤ 16384; omega
  · rw [e_off4 b hb]; exact e_in4 b hb

theorem e_chk6 (b : ℕ) (hb : b < 16384) : k1_chk6 (BitVec.ofNat 32 b) := (e_chk2 b hb).2

/-- An index of bucket `i` is `4096 i` and a place below 4096. -/
theorem bucket_word (v : BitVec 32) (i : ℕ) (hi : i < 245) (h : v.sshiftRight 12 = BitVec.ofNat 32 i) : v.toNat / 4096 = i := by
  have hv := v.isLt
  have h' := congrArg BitVec.toNat h
  rw [BitVec.toNat_ofNat, Nat.mod_eq_of_lt (by omega)] at h'
  by_cases hm : v.msb = true
  · rw [BitVec.sshiftRight_eq_of_msb_true hm] at h'
    have hle : (~~~v >>> 12).toNat ≤ 1048576 := by
      rw [BitVec.toNat_ushiftRight, Nat.shiftRight_eq_div_pow]
      have := (~~~v).isLt
      omega
    rw [BitVec.toNat_not] at h'
    omega
  · rw [BitVec.sshiftRight_eq_of_msb_false (by simpa using hm), BitVec.toNat_ushiftRight, Nat.shiftRight_eq_div_pow] at h'
    omega

theorem e_off5 (i : grid1.Coords) (v : BitVec 32) (h : v.sshiftRight 12 = BitVec.ofNat 32 (i 0).val) : k1_off5 i v = ![v.toNat % 4096, 0] := by
  have hi := coord1_lt i
  have hv := bucket_word v _ hi h
  have hl := v.isLt
  show ![(v - BitVec.ofNat 32 (i 0).val * 4096#32).toNat, 0] = _
  rw [BitVec.toNat_sub, BitVec.toNat_mul, BitVec.toNat_ofNat, BitVec.toNat_ofNat]
  congr 1
  omega

theorem e_chk3 (i : grid1.Coords) (v : BitVec 32) (h : v.sshiftRight 12 = BitVec.ofNat 32 (i 0).val) : k1_chk3 i v := by
  unfold k1_chk3
  rw [e_off5 i v h]; exact e_in5 _ (Nat.mod_lt _ (by omega))

end Cert.Proof.Bucket
-- ==== Proof.Ext.lean ====
/-
  The row extraction's body: at grid point `i` it copies, for every batch position whose index lies in bucket `i`, that
  index's row of the transposed table block out to the position's row of the result; all the copies of a grid point are
  started on one semaphore, then all are waited for.
-/
module

public import proofs.«01_k».proof.Proof.Passes
public import proofs.«01_k».proof.Proof.ExtTrips
public import proofs.«01_k».proof.Proof.Gen.KernelIdeal.Skeleton
public import Idealize.ShloMosaic.Lib.Batch
public import Idealize.ShloMosaic.Lib.VecWindow

@[expose] public section

noncomputable section

namespace Cert.Proof.Bucket

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch pending shareTok shareDrop)
open Cert.Proof.Compact Cert.Proof.Lanes

variable {F : FTy → Type}

local notation "𝕄" => MT nD τ sig (HIx 1) (Elt F) ℕ UU ℕ
local notation "tC" => (Memref.whole Cert.KernelIdeal.main_case0b1_v15 : Memref Cert.KernelIdeal.sig Kind.tc Space.smem Cert.KernelIdeal.S256 EltTy.i32)
local notation "tI" => (Memref.whole Cert.KernelIdeal.main_case0b1_v17 : Memref Cert.KernelIdeal.sig Kind.tc Space.smem Cert.KernelIdeal.S16384 EltTy.i32)
local notation "tL" => (Memref.whole Cert.KernelIdeal.main_case0b1_v18 : Memref Cert.KernelIdeal.sig Kind.tc Space.smem Cert.KernelIdeal.S65536 EltTy.i32)
local notation "oA" => (Memref.whole Cert.KernelIdeal.main_case0b1_v19 : Memref Cert.KernelIdeal.sig Kind.tc Space.hbm Cert.KernelIdeal.S16384x128 EltTy.f32)
local notation "sA" => (Memref.whole Cert.KernelIdeal.cc1_scratch0 : Memref Cert.KernelIdeal.sig Kind.tc Space.vmem Cert.KernelIdeal.S4096x128 EltTy.f32)

variable [FloatOps F]

attribute [local irreducible] bucket

/-! ## The tables -/

/-- The positions of bucket `i`, in order. -/
abbrev bk (i : grid1.Coords) (I : S16384.Idx → BitVec 32) : List ℕ := bucket I (BitVec.ofNat 32 (i 0).val)

/-- What the prefetched tables hold: the buckets' sizes, at most 256 each, and their positions, 256 places a bucket. -/
structure TabOK (I : S16384.Idx → BitVec 32) (fN : S256.Idx → BitVec 32) (fL : S65536.Idx → BitVec 32) : Prop where
  len : ∀ i : grid1.Coords, (bk i I).length ≤ 256
  cnt : ∀ (i : grid1.Coords) (x : S256.Idx), (x 0).val = (i 0).val → fN x = BitVec.ofNat 32 (bk i I).length
  lst : ∀ (i : grid1.Coords) (x : S65536.Idx) (k : ℕ) (h : k < (bk i I).length), (x 0).val = 256 * (i 0).val + k → fL x = BitVec.ofNat 32 (bk i I)[k]

theorem bk_mem (i : grid1.Coords) (I : S16384.Idx → BitVec 32) (b : ℕ) : b ∈ bk i I ↔ b < 16384 ∧ (entry I b).sshiftRight 12 = BitVec.ofNat 32 (i 0).val := by
  unfold bk bucket
  rw [List.mem_filter, List.mem_range, decide_eq_true_iff]

theorem bk_nodup (i : grid1.Coords) (I : S16384.Idx → BitVec 32) : (bk i I).Nodup := by
  unfold bk bucket
  exact List.nodup_range.filter _

/-- The `k`-th position of bucket `i`. -/
def bp (i : grid1.Coords) (I : S16384.Idx → BitVec 32) (k : Fin (bk i I).length) : Fin 16384 := ⟨(bk i I)[k], ((bk_mem i I _).1 (List.getElem_mem _)).1⟩

theorem bp_entry (i : grid1.Coords) (I : S16384.Idx → BitVec 32) (k : Fin (bk i I).length) : (entry I (bp i I k).val).sshiftRight 12 = BitVec.ofNat 32 (i 0).val :=
  ((bk_mem i I _).1 (List.getElem_mem _)).2

theorem ret_bindE {E : Type → Type} {α β : Type} (a : α) (k : α → Prog E β) : (Prog.ret a).bind k = k a := rfl

theorem bp_inj (i : grid1.Coords) (I : S16384.Idx → BitVec 32) (k k' : Fin (bk i I).length) (h : bp i I k = bp i I k') : k = k' := by
  have := (bk_nodup i I).getElem_inj_iff (hi := k.isLt) (hj := k'.isLt)
  exact Fin.ext (this.1 (congrArg Fin.val h))

/-- An index's place in its bucket's table block. -/
def pl (v : BitVec 32) : Fin 4096 := ⟨v.toNat % 4096, Nat.mod_lt _ (by omega)⟩

/-- Row `p`, column `q` of a table block. -/
abbrev at2 (p : Fin 4096) (q : Fin 128) : S4096x128.Idx := Fin.cons p (Fin.cons q finZeroElim)

/-- The result after grid point `i`: the rows of its bucket's positions replaced. -/
def extRow (I : S16384.Idx → BitVec 32) (i : grid1.Coords) (f : S16384x128.Idx → F .f32) (P : S4096x128.Idx → F .f32) : S16384x128.Idx → F .f32 :=
  fun x => if (entry I (x 0).val).sshiftRight 12 = BitVec.ofNat 32 (i 0).val then P (at2 (pl (entry I (x 0).val)) (x 1)) else f x

/-! ## The rows copied -/

def oRow (b : Fin 16384) : Memref sig .tc .hbm S1x128 .f32 := (oA).slice (Rect.unit (s := S16384x128) ![b.val, 0] S1x128.size (e_in4 b.val b.isLt)) (fun _ => rfl)
def sRow (p : Fin 4096) : Memref sig .tc .vmem S1x128 .f32 := (sA).slice (Rect.unit (s := S4096x128) ![p.val, 0] S1x128.size (e_in5 p.val p.isLt)) (fun _ => rfl)

theorem oRow_mem (b : Fin 16384) (x : S16384x128.Idx) : x ∈ (oRow b).view.set ↔ (x 0).val = b.val := by
  have e : (oRow b).view.set = (Rect.unit (s := S16384x128) ![b.val, 0] S1x128.size (e_in4 b.val b.isLt)).set := View.set_slice_whole _ _
  refine Iff.trans (Iff.of_eq (congrArg (fun s : Finset S16384x128.Idx => x ∈ s) e)) (Iff.trans Rect.mem_set_unit ?_)
  have h1 : (x 1).val < 128 := (x 1).isLt
  constructor
  · intro H; have a0 : b.val ≤ (x 0).val ∧ (x 0).val < b.val + 1 := H 0; omega
  · intro H a; fin_cases a
    · show b.val ≤ (x 0).val ∧ (x 0).val < b.val + 1; omega
    · show 0 ≤ (x 1).val ∧ (x 1).val < 0 + 128; omega

theorem oRow_disj (b b' : Fin 16384) (h : b ≠ b') : Disjoint (oRow b).view.set (show Finset S16384x128.Idx from (oRow b').view.set) :=
  Finset.disjoint_left.2 fun y hy hy' => h (Fin.ext (((oRow_mem b y).1 hy).symm.trans ((oRow_mem b' y).1 hy')))

/-- The copy of one row, into a result whose other rows are as they may be. -/
theorem delivered (i : grid1.Coords) (I : S16384.Idx → BitVec 32) (f : S16384x128.Idx → F .f32) (P : S4096x128.Idx → F .f32) (b : Fin 16384)
    (hb : (entry I b.val).sshiftRight 12 = BitVec.ofNat 32 (i 0).val) (x : S16384x128.Idx) (hx : x ∈ (oRow b).view.set) :
    (oRow b).view.write (Elt F) f ((sRow (pl (entry I b.val))).view.read (Elt F) P) Finset.univ x = extRow I i f P x := by
  have hx0 := (oRow_mem b x).1 hx
  let y : S1x128.Idx := Fin.cons (0 : Fin 1) (Fin.cons (x 1) finZeroElim)
  have ey : (oRow b).view.emb y = x := by
    funext a; fin_cases a
    · apply Fin.ext
      show b.val + 1 * 0 = (x 0).val
      omega
    · apply Fin.ext
      show 0 + 1 * (x 1).val = (x 1).val
      omega
  have hw := View.write_emb_of_mem (Val := Elt F) (v := (oRow b).view) f ((sRow (pl (entry I b.val))).view.read (Elt F) P) (M := Finset.univ) (x := y) (Finset.mem_univ y)
  rw [ey] at hw
  refine hw.trans ?_
  unfold extRow
  rw [hx0, if_pos hb]
  show P ((sRow (pl (entry I b.val))).view.emb y) = _
  congr 1
  funext a; fin_cases a
  · apply Fin.ext
    show (pl (entry I b.val)).val + 1 * 0 = (pl (entry I b.val)).val
    omega
  · apply Fin.ext
    show 0 + 1 * (x 1).val = (x 1).val
    omega

/-! ## The copies in flight -/

/-- A row's units on the semaphore. -/
def NN : ℕ := (oRow 0).view.dmaCredit

theorem NN_pos : 0 < NN := sig.dmaCredit_pos _ _ _ _ _ (by decide)

theorem row_amount (b : Fin 16384) : (oRow b).view.amount (.dma cc1_scratch1.sem) = NN := rfl

/-- What the copy of the `k`-th position brings back: its row of the result, and its read of the table block. -/
def dlv (d : Dev nD) (i : grid1.Coords) (I : S16384.Idx → BitVec 32) (f : S16384x128.Idx → F .f32) (P : S4096x128.Idx → F .f32) (k : Fin (bk i I).length) : sProp 𝕄 :=
  iprop(((oRow (bp i I k)).view.loc (d : Thread nD τ) ↦[(oRow (bp i I k)).view.set]{fullShare} extRow I i f P)
    ∗ ((sRow (pl (entry I (bp i I k).val))).view.loc (d : Thread nD τ) ↦[(sRow (pl (entry I (bp i I k).val))).view.set]{shareTok fullShare (bk i I).length k} P))

theorem two_storable (ℓ ℓ' : Loc nD τ sig) (S : Finset (Idx ℓ)) (S' : Finset (Idx ℓ')) (q q' : PosShare TreeShare) (f : Buf (Elt F) ℓ) (f' : Buf (Elt F) ℓ') :
    BI.Storable (upEmb : UEmb _ 𝕄) (iprop((ℓ ↦[S]{q} f) ∗ (ℓ' ↦[S']{q'} f')) : sProp 𝕄) := by infer_instance

instance dlv_storable (d : Dev nD) (i : grid1.Coords) (I : S16384.Idx → BitVec 32) (f : S16384x128.Idx → F .f32) (P : S4096x128.Idx → F .f32) (k : Fin (bk i I).length) :
    BI.Storable (upEmb : UEmb _ 𝕄) (dlv d i I f P k) := by
  unfold dlv; exact two_storable _ _ _ _ _ _ _ _

/-- The same before the copy. -/
def rowsIn (d : Dev nD) (i : grid1.Coords) (I : S16384.Idx → BitVec 32) (f : S16384x128.Idx → F .f32) (P : S4096x128.Idx → F .f32) (k : Fin (bk i I).length) : sProp 𝕄 :=
  iprop(((oRow (bp i I k)).view.loc (d : Thread nD τ) ↦[(oRow (bp i I k)).view.set]{fullShare} f)
    ∗ ((sRow (pl (entry I (bp i I k).val))).view.loc (d : Thread nD τ) ↦[(sRow (pl (entry I (bp i I k).val))).view.set]{shareTok fullShare (bk i I).length k} P))

abbrev btc (d : Dev nD) (i : grid1.Coords) (I : S16384.Idx → BitVec 32) (f : S16384x128.Idx → F .f32) (P : S4096x128.Idx → F .f32) (j u : ℕ) : sProp 𝕄 :=
  Batch (countersEmb (U := UU)) (d : Thread nD τ) (.dma cc1_scratch1.sem) (none : HIx 1) NN (dlv d i I f P) j u

theorem issue_at (d : Dev nD) (i : grid1.Coords) (I : S16384.Idx → BitVec 32) (f : S16384x128.Idx → F .f32) (P : S4096x128.Idx → F .f32) (k : Fin (bk i I).length)
    (o4 o5 : Fin 2 → ℕ) (ho4 : o4 = ![(bp i I k).val, 0]) (ho5 : o5 = ![(pl (entry I (bp i I k).val)).val, 0])
    (h4 : ∀ a, o4 a + S1x128.size a ≤ S16384x128.size a) (h5 : ∀ a, o5 a + S1x128.size a ≤ S4096x128.size a) {α : Type}
    (hs : ((sA).slice (Rect.unit (s := S4096x128) o5 S1x128.size h5) (fun _ => rfl)).view.WordExact)
    (ht : ((oA).slice (Rect.unit (s := S16384x128) o4 S1x128.size h4) (fun _ => rfl)).view.WordExact)
    (hsem : DmaTarget.Typed (nD := nD) (τ := τ) (p := .tc) .vmem (.dma cc1_scratch1.sem) (.here ((oA).slice (Rect.unit (s := S16384x128) o4 S1x128.size h4) (fun _ => rfl))))
    (K : PUnit → Prog (TpuEff nD τ sig (Elt F) Λ₀ .tc) α) (Q : α → sProp 𝕄) :
    iprop(rowsIn d i I f P k ∗ btc d i I f P k.val 0)
      ⊢ iprop((btc d i I f P (k.val + 1) 0 -∗ wp frame (wpE (defs₀ (F := F)) 𝒱₀ (d : Thread nD τ) none) Set.univ (K ⟨⟩) Q)
          -∗ wp frame (wpE (defs₀ (F := F)) 𝒱₀ (d : Thread nD τ) none) Set.univ
            (.op (.enqueueDma ((sA).slice (Rect.unit (s := S4096x128) o5 S1x128.size h5) (fun _ => rfl))
              (.here ((oA).slice (Rect.unit (s := S16384x128) o4 S1x128.size h4) (fun _ => rfl))) (.dma cc1_scratch1.sem) hs ht hsem) K) Q) := by
  subst ho4; subst ho5
  unfold rowsIn btc
  iintro ⟨⟨Ho, Hs⟩, HB⟩ Hk
  iapply (Transfers.wp_dmaBatch (countersEmb (U := UU)) 𝒱₀ (d : Thread nD τ) none (src := sRow (pl (entry I (bp i I k).val))) (dst := oRow (bp i I k))
    (via := .same) (sm := .dma cc1_scratch1.sem) (Sd := (oRow (bp i I k)).view.set) (D := dlv d i I f P) (none : HIx 1) NN (row_amount _) (Finset.Subset.refl _) k.isLt (Nat.zero_le _) ?_) $$ [Ho Hs HB] Hk
  · unfold dlv
    refine sep_mono (Entails.of_eq ?_) .rfl
    exact pointsTo_congr fun x hx => delivered i I f P (bp i I k) (bp_entry i I k) x hx
  · isplitl [Hs]; · iexact Hs
    isplitl [Ho]; · iexact Ho
    iexact HB

theorem wait_at (d : Dev nD) (i : grid1.Coords) (I : S16384.Idx → BitVec 32) (f : S16384x128.Idx → F .f32) (P : S4096x128.Idx → F .f32) (u : ℕ)
    (hu : u + 1 * NN ≤ NN * (bk i I).length) (W' : Waits sig (HIx 1)) (o4 o5 : Fin 2 → ℕ)
    (h4 : ∀ a, o4 a + S1x128.size a ≤ S16384x128.size a) (h5 : ∀ a, o5 a + S1x128.size a ≤ S4096x128.size a) {α : Type}
    (hs : ((sA).slice (Rect.unit (s := S4096x128) o5 S1x128.size h5) (fun _ => rfl)).view.WordExact)
    (ht : ((oA).slice (Rect.unit (s := S16384x128) o4 S1x128.size h4) (fun _ => rfl)).view.WordExact)
    (K : PUnit → Prog (TpuEff nD τ sig (Elt F) Λ₀ .tc) α) (Q : α → sProp 𝕄) :
    iprop(btc d i I f P (bk i I).length u ∗ owes (d : Thread nD τ) 0 W')
      ⊢ iprop((iprop(btc d i I f P (bk i I).length (u + 1 * NN) ∗ owes (d : Thread nD τ) 0 (insert (SemLoc.dma cc1_scratch1.sem, (none : HIx 1)) W'))
            -∗ wp frame (wpE (defs₀ (F := F)) 𝒱₀ (d : Thread nD τ) none) Set.univ (K ⟨⟩) Q)
          -∗ wp frame (wpE (defs₀ (F := F)) 𝒱₀ (d : Thread nD τ) none) Set.univ
            (.op (.waitDma2 cc1_scratch1.sem ((sA).slice (Rect.unit (s := S4096x128) o5 S1x128.size h5) (fun _ => rfl))
              ((oA).slice (Rect.unit (s := S16384x128) o4 S1x128.size h4) (fun _ => rfl)) hs ht) K) Q) :=
  Transfers.wp_waitBatchMul (countersEmb (U := UU)) 𝒱₀ (d : Thread nD τ) none (hsrc := hs) (hdst := ht) (none : HIx 1) (N := NN) 1 (one_mul NN).symm (D := dlv d i I f P) hu

/-! ## The tables read -/

abbrev tabs (d : Dev nD) (I : S16384.Idx → BitVec 32) (fN : S256.Idx → BitVec 32) (fL : S65536.Idx → BitVec 32) : sProp 𝕄 :=
  iprop(((tC).view.loc (d : Thread nD τ) ↦{fullShare} fN) ∗ ((tI).view.loc (d : Thread nD τ) ↦{fullShare} I) ∗ ((tL).view.loc (d : Thread nD τ) ↦{fullShare} fL))

theorem read_list (I : S16384.Idx → BitVec 32) (fN : S256.Idx → BitVec 32) (fL : S65536.Idx → BitVec 32) (hT : TabOK I fN fL) (i : grid1.Coords) (k : Fin (bk i I).length)
    (off : Fin 1 → ℕ) (ho : off = ![256 * (i 0).val + k.val]) (inb : ∀ a, off a + S1.size a ≤ S65536.size a) (x : S1.Idx) :
    (tL).view.readAt (Elt F) (Rect.unit (s := S65536) off S1.size inb).toLoadRect fL x = BitVec.ofNat 32 (bp i I k).val := by
  subst ho
  refine hT.lst i ((Rect.unit (s := S65536) ![256 * (i 0).val + k.val] S1.size inb).toLoadRect.idx x) k.val k.isLt ?_
  have hx : (x 0).val < 1 := (x 0).isLt
  show 256 * (i 0).val + k.val + 1 * (x 0).val = _
  omega

theorem read_idx (I : S16384.Idx → BitVec 32) (b : Fin 16384) (off : Fin 1 → ℕ) (ho : off = ![b.val]) (inb : ∀ a, off a + S1.size a ≤ S16384.size a) (x : S1.Idx) :
    (tI).view.readAt (Elt F) (Rect.unit (s := S16384) off S1.size inb).toLoadRect I x = entry I b.val := by
  subst ho
  unfold entry
  rw [dif_pos b.isLt]
  show I _ = I _
  congr 1
  apply Shape.idx1_ext
  have hx : (x 0).val < 1 := (x 0).isLt
  show b.val + 1 * (x 0).val = b.val
  omega

theorem read_cnt (I : S16384.Idx → BitVec 32) (fN : S256.Idx → BitVec 32) (fL : S65536.Idx → BitVec 32) (hT : TabOK I fN fL) (i : grid1.Coords)
    (off : Fin 1 → ℕ) (ho : off = ![(i 0).val]) (inb : ∀ a, off a + S1.size a ≤ S256.size a) (x : S1.Idx) :
    (tC).view.readAt (Elt F) (Rect.unit (s := S256) off S1.size inb).toLoadRect fN x = BitVec.ofNat 32 (bk i I).length := by
  subst ho
  refine hT.cnt i ((Rect.unit (s := S256) ![(i 0).val] S1.size inb).toLoadRect.idx x) ?_
  have hx : (x 0).val < 1 := (x 0).isLt
  show (i 0).val + 1 * (x 0).val = _
  omega

/-! ## The two loops -/

abbrev cntW (i : grid1.Coords) (I : S16384.Idx → BitVec 32) : BitVec 32 := BitVec.ofNat 32 (bk i I).length

/-- Before trip `j` of the first loop: `j` copies started. -/
def inv1s (d : Dev nD) (i : grid1.Coords) (I : S16384.Idx → BitVec 32) (fN : S256.Idx → BitVec 32) (fL : S65536.Idx → BitVec 32)
    (f : S16384x128.Idx → F .f32) (P : S4096x128.Idx → F .f32) (j : ℕ) (_ : Unit) : sProp 𝕄 :=
  iprop(tabs d I fN fL ∗ btc d i I f P j 0 ∗ bigSep (pending j) (rowsIn d i I f P))

theorem issue_step (d : Dev nD) (i : grid1.Coords) (I : S16384.Idx → BitVec 32) (fN : S256.Idx → BitVec 32) (fL : S65536.Idx → BitVec 32) (hT : TabOK I fN fL)
    (f : S16384x128.Idx → F .f32) (P : S4096x128.Idx → F .f32) (a4 : Memref sig .tc .vmem S64x4096 .f32) (h4 : a4.IsWhole) (a5 : Memref sig .tc .vmem S64x128 .f32) (h5 : a5.IsWhole)
    (hw : k1_chk1 i (cntW i I)) (t : Fin (k1_t1_loop (cntW i I)).trips) (acc : Unit) :
    (inv1s (F := F) d i I fN fL f P t.val acc : sProp 𝕄) ⊢ wp frame (wpE (defs₀ (F := F)) 𝒱₀ (d : Thread nD τ) none) Set.univ
      (k1_t1_body i tC (Memref.isWhole_whole _) tI (Memref.isWhole_whole _) tL (Memref.isWhole_whole _) a4 h4 a5 h5 oA (Memref.isWhole_whole _) sA (Memref.isWhole_whole _)
        cc1_scratch1 (cntW i I) hw t acc)
      (inv1s (F := F) d i I fN fL f P (t.val + 1)) := by
  have hl := hT.len i
  have ht : t.val < (bk i I).length := t.isLt.trans_eq (e1_trips ⟨(bk i I).length, by omega⟩)
  unfold inv1s
  rw [Transfers.bigSep_pending_step (rowsIn d i I f P) t.val ht]
  iintro ⟨⟨HC, HI, HL⟩, HB, Hp, HP⟩
  sl_unfold [k1_t1_body]
  sl_exec
  have hv : issue_step.sl.r (F := F) i I fL hw t = BitVec.ofNat 32 (bp i I ⟨t.val, ht⟩).val :=
    read_list I fN fL hT i ⟨t.val, ht⟩ _ (e_off2 i _ t (by omega)) _ _
  have hch2 : k1_chk2 (issue_step.sl.r (F := F) i I fL hw t) := by rw [hv]; exact e_chk2 _ (bp i I _).isLt
  sl_exec
  have hv2 : issue_step.sl.r_1 (F := F) i I fL hw t hch2 = entry I (bp i I ⟨t.val, ht⟩).val :=
    read_idx I (bp i I ⟨t.val, ht⟩) _ (by rw [hv]; exact e_off3 _ (bp i I _).isLt) _ _
  have hrow := bp_entry i I ⟨t.val, ht⟩
  have hch3 : k1_chk3 i (issue_step.sl.r_1 (F := F) i I fL hw t hch2) := by rw [hv2]; exact e_chk3 i _ hrow
  rw [wp_assume_of _ _ _ _ hch3]
  iapply (issue_at d i I f P ⟨t.val, ht⟩ _ _ (by rw [hv]; exact e_off4 _ (bp i I _).isLt) (by rw [hv2]; exact e_off5 i _ hrow)) $$ [HB Hp]
  · isplitl [Hp]; · iexact Hp
    iexact HB
  iintro HB
  simp only [ret_bindE]
  sl_step
  isplitl [HC HI HL]
  · isplitl [HC]; · iexact HC
    isplitl [HI]; · iexact HI
    iexact HL
  isplitl [HB]; · iexact HB
  iexact HP

/-- Before trip `j` of the second loop: every copy started, `j` waited for. -/
def inv2s (d : Dev nD) (i : grid1.Coords) (I : S16384.Idx → BitVec 32) (fN : S256.Idx → BitVec 32) (fL : S65536.Idx → BitVec 32)
    (f : S16384x128.Idx → F .f32) (P : S4096x128.Idx → F .f32) (W : Waits sig (HIx 1)) (j : ℕ) (_ : Unit) : sProp 𝕄 :=
  iprop(tabs d I fN fL ∗ btc d i I f P (bk i I).length (j * NN) ∗ ∃ W', ⌜∀ p ∈ W', p ∈ W ∨ p = (SemLoc.dma cc1_scratch1.sem, (none : HIx 1))⌝ ∗ owes (d : Thread nD τ) 0 W')

theorem wait_step (d : Dev nD) (i : grid1.Coords) (I : S16384.Idx → BitVec 32) (fN : S256.Idx → BitVec 32) (fL : S65536.Idx → BitVec 32) (hT : TabOK I fN fL)
    (f : S16384x128.Idx → F .f32) (P : S4096x128.Idx → F .f32) (W : Waits sig (HIx 1)) (a4 : Memref sig .tc .vmem S64x4096 .f32) (h4 : a4.IsWhole) (a5 : Memref sig .tc .vmem S64x128 .f32) (h5 : a5.IsWhole)
    (hw : k1_chk1 i (cntW i I)) (t : Fin (k1_t3_loop (cntW i I)).trips) (acc : Unit) :
    (inv2s (F := F) d i I fN fL f P W t.val acc : sProp 𝕄) ⊢ wp frame (wpE (defs₀ (F := F)) 𝒱₀ (d : Thread nD τ) none) Set.univ
      (k1_t3_body i tC (Memref.isWhole_whole _) tI (Memref.isWhole_whole _) tL (Memref.isWhole_whole _) a4 h4 a5 h5 oA (Memref.isWhole_whole _) sA (Memref.isWhole_whole _)
        cc1_scratch1 (cntW i I) hw t acc)
      (inv2s (F := F) d i I fN fL f P W (t.val + 1)) := by
  have hl := hT.len i
  have ht : t.val < (bk i I).length := t.isLt.trans_eq (e3_trips ⟨(bk i I).length, by omega⟩)
  unfold inv2s
  iintro ⟨⟨HC, HI, HL⟩, HB, %W', %hW, HO⟩
  sl_unfold [k1_t3_body]
  sl_exec
  have hv : wait_step.sl.r (F := F) i I fL hw t = BitVec.ofNat 32 (bp i I ⟨t.val, ht⟩).val :=
    read_list I fN fL hT i ⟨t.val, ht⟩ _ (e_off10 i _ t (by omega)) _ _
  have hch6 : k1_chk6 (wait_step.sl.r (F := F) i I fL hw t) := by rw [hv]; exact e_chk6 _ (bp i I _).isLt
  rw [wp_assume_of _ _ _ _ hch6]
  have hu : t.val * NN + 1 * NN ≤ NN * (bk i I).length := by rw [← Nat.add_mul, Nat.mul_comm]; exact Nat.mul_le_mul_left _ ht
  iapply (wait_at d i I f P (t.val * NN) hu W' _ _ _ _) $$ [HB HO]
  · isplitl [HB]; · iexact HB
    iexact HO
  iintro ⟨HB, HO⟩
  simp only [ret_bindE]
  sl_step
  isplitl [HC HI HL]
  · isplitl [HC]; · iexact HC
    isplitl [HI]; · iexact HI
    iexact HL
  isplitl [HB]
  · rw [Nat.add_mul]; iexact HB
  iexists _
  isplitr
  swap
  · iexact HO
  ipureintro
  intro p hp
  rcases Finset.mem_insert.mp hp with rfl | hp
  · exact .inr rfl
  · exact hW p hp

/-! ## A grid point -/

theorem bsep {κ : Type} (S : Finset κ) (Φ Ψ : κ → sProp 𝕄) : bigSep S (fun k => iprop(Φ k ∗ Ψ k)) ⊣⊢ iprop(bigSep S Φ ∗ bigSep S Ψ) :=
  ⟨Entails.of_eq (BI.bigSep_sep S Φ Ψ), Entails.of_eq (BI.bigSep_sep S Φ Ψ).symm⟩

/-- The rows of a grid point taken out of the result and the table block, and put back once copied. -/
theorem rows_out (d : Dev nD) (i : grid1.Coords) (I : S16384.Idx → BitVec 32) (f : S16384x128.Idx → F .f32) (P : S4096x128.Idx → F .f32) :
    (iprop(((oA).view.loc (d : Thread nD τ) ↦{fullShare} f) ∗ ((sA).view.loc (d : Thread nD τ) ↦{fullShare} P)) : sProp 𝕄)
      ⊢ iprop(bigSep Finset.univ (rowsIn d i I f P)
          ∗ (bigSep Finset.univ (dlv d i I f P) -∗ iprop(((oA).view.loc (d : Thread nD τ) ↦{fullShare} extRow I i f P) ∗ ((sA).view.loc (d : Thread nD τ) ↦{fullShare} P)))) := by
  let Ko : Fin (bk i I).length → Finset (Idx ((oA).view.loc (d : Thread nD τ))) := fun k => (oRow (bp i I k)).view.set
  let Ks : Fin (bk i I).length → Finset (Idx ((sA).view.loc (d : Thread nD τ))) := fun k => (sRow (pl (entry I (bp i I k).val))).view.set
  have hdis : ∀ k ∈ Finset.univ, ∀ k' ∈ Finset.univ, k ≠ k' → Disjoint (Ko k) (Ko k') :=
    fun k _ k' _ h => oRow_disj _ _ fun e => h (bp_inj i I k k' e)
  have ho : ∀ g : S16384x128.Idx → F .f32, ((oA).view.loc (d : Thread nD τ) ↦{fullShare} g : sProp 𝕄)
      ⊣⊢ iprop((bigSep Finset.univ fun k => (oA).view.loc (d : Thread nD τ) ↦[Ko k]{fullShare} g) ∗ ((oA).view.loc (d : Thread nD τ) ↦[Finset.univ \ Finset.univ.biUnion Ko]{fullShare} g)) := fun g => by
    rw [← pointsTo_biUnion Finset.univ Ko hdis]
    exact pointsTo_split_subset (Finset.subset_univ _)
  have hrest : ((oA).view.loc (d : Thread nD τ) ↦[Finset.univ \ Finset.univ.biUnion Ko]{fullShare} f : sProp 𝕄)
      = ((oA).view.loc (d : Thread nD τ) ↦[Finset.univ \ Finset.univ.biUnion Ko]{fullShare} extRow I i f P) := by
    refine pointsTo_congr fun x hx => ?_
    show f x = extRow I i f P x
    unfold extRow
    rw [if_neg]
    intro hb
    refine (Finset.mem_sdiff.1 hx).2 (Finset.mem_biUnion.2 ?_)
    obtain ⟨k, hk, e⟩ := List.getElem_of_mem ((bk_mem i I (x 0).val).2 ⟨(x 0).isLt, hb⟩)
    exact ⟨⟨k, hk⟩, Finset.mem_univ _, (oRow_mem _ x).2 e.symm⟩
  have hst : ∀ k, (((sA).view.loc (d : Thread nD τ) ↦{shareTok fullShare (bk i I).length k} P : sProp 𝕄)
      ⊣⊢ iprop(((sA).view.loc (d : Thread nD τ) ↦[Ks k]{shareTok fullShare (bk i I).length k} P) ∗ ((sA).view.loc (d : Thread nD τ) ↦[Finset.univ \ Ks k]{shareTok fullShare (bk i I).length k} P))) :=
    fun k => pointsTo_split_subset (Finset.subset_univ _)
  have hstE := fun k => BI.Entails.antisymm (hst k).1 (hst k).2
  iintro ⟨Ho, Hs⟩
  ihave Ho2 := (ho f).1 $$ Ho
  icases Ho2 with ⟨Hos, Hor⟩
  ihave Hs2 := (Transfers.pointsTo_toks_split fullShare (bk i I).length) $$ Hs
  icases Hs2 with ⟨Hsr, Hst⟩
  ihave Hst2 := (show bigSep Finset.univ (fun k => ((sA).view.loc (d : Thread nD τ) ↦{shareTok fullShare (bk i I).length k} P : sProp 𝕄))
      ⊢ iprop((bigSep Finset.univ fun k => ((sA).view.loc (d : Thread nD τ) ↦[Ks k]{shareTok fullShare (bk i I).length k} P))
        ∗ (bigSep Finset.univ fun k => ((sA).view.loc (d : Thread nD τ) ↦[Finset.univ \ Ks k]{shareTok fullShare (bk i I).length k} P)))
      from (Entails.of_eq (congrArg (bigSep Finset.univ) (funext hstE))).trans (bsep _ _ _).1) $$ Hst
  icases Hst2 with ⟨Hsk, Hsn⟩
  isplitl [Hos Hsk]
  · unfold rowsIn
    iapply (bsep _ _ _).2
    isplitl [Hos]; · iexact Hos
    iexact Hsk
  iintro HD
  ihave HD2 := (show bigSep Finset.univ (dlv d i I f P) ⊢ iprop((bigSep Finset.univ fun k => ((oA).view.loc (d : Thread nD τ) ↦[Ko k]{fullShare} extRow I i f P : sProp 𝕄))
      ∗ (bigSep Finset.univ fun k => ((sA).view.loc (d : Thread nD τ) ↦[Ks k]{shareTok fullShare (bk i I).length k} P))) from (bsep _ _ _).1) $$ HD
  icases HD2 with ⟨Hos, Hsk⟩
  isplitl [Hos Hor]
  · iapply (ho (extRow I i f P)).2
    isplitl [Hos]; · iexact Hos
    iapply (Entails.of_eq hrest) $$ Hor
  iapply (Transfers.pointsTo_toks_join fullShare (bk i I).length)
  isplitl [Hsr]; · iexact Hsr
  iapply (show iprop((bigSep Finset.univ fun k => ((sA).view.loc (d : Thread nD τ) ↦[Ks k]{shareTok fullShare (bk i I).length k} P : sProp 𝕄))
        ∗ (bigSep Finset.univ fun k => ((sA).view.loc (d : Thread nD τ) ↦[Finset.univ \ Ks k]{shareTok fullShare (bk i I).length k} P)))
      ⊢ bigSep Finset.univ (fun k => ((sA).view.loc (d : Thread nD τ) ↦{shareTok fullShare (bk i I).length k} P : sProp 𝕄))
      from (bsep _ _ _).2.trans (Entails.of_eq (congrArg (bigSep Finset.univ) (funext fun k => (hstE k).symm))))
  isplitl [Hsk]; · iexact Hsk
  iexact Hsn

/-- The loops of a grid point, after its count is read. -/
def extTail (i : grid1.Coords) (a4 : Memref sig .tc .vmem S64x4096 .f32) (h4 : a4.IsWhole) (a5 : Memref sig .tc .vmem S64x128 .f32) (h5 : a5.IsWhole)
    (v9 : BitVec 32) (hw : k1_chk1 i v9) : Prog (TpuEff nD τ sig (Elt F) Λ₀ .tc) PUnit := do
  Scf.Loop.for (k1_t1_loop v9) (k1_t1_ok i v9 hw) ⟨⟩ (k1_t1_body i tC (Memref.isWhole_whole _) tI (Memref.isWhole_whole _) tL (Memref.isWhole_whole _) a4 h4 a5 h5 oA (Memref.isWhole_whole _) sA (Memref.isWhole_whole _) cc1_scratch1 v9 hw)
  Scf.Loop.for (k1_t2_loop v9) (k1_t2_ok i v9 hw) ⟨⟩ (k1_t2_body i tC (Memref.isWhole_whole _) tI (Memref.isWhole_whole _) tL (Memref.isWhole_whole _) a4 h4 a5 h5 oA (Memref.isWhole_whole _) sA (Memref.isWhole_whole _) cc1_scratch1 v9 hw)
  Scf.Loop.for (k1_t3_loop v9) (k1_t3_ok i v9 hw) ⟨⟩ (k1_t3_body i tC (Memref.isWhole_whole _) tI (Memref.isWhole_whole _) tL (Memref.isWhole_whole _) a4 h4 a5 h5 oA (Memref.isWhole_whole _) sA (Memref.isWhole_whole _) cc1_scratch1 v9 hw)
  Scf.Loop.for (k1_t4_loop v9) (k1_t4_ok i v9 hw) ⟨⟩ (k1_t4_body i tC (Memref.isWhole_whole _) tI (Memref.isWhole_whole _) tL (Memref.isWhole_whole _) a4 h4 a5 h5 oA (Memref.isWhole_whole _) sA (Memref.isWhole_whole _) cc1_scratch1 v9 hw)
  pure ⟨⟩

theorem ext_tail (d : Dev nD) (i : grid1.Coords) (I : S16384.Idx → BitVec 32) (fN : S256.Idx → BitVec 32) (fL : S65536.Idx → BitVec 32) (hT : TabOK I fN fL)
    (f : S16384x128.Idx → F .f32) (P : S4096x128.Idx → F .f32) (W : Waits sig (HIx 1)) (a4 : Memref sig .tc .vmem S64x4096 .f32) (h4 : a4.IsWhole) (a5 : Memref sig .tc .vmem S64x128 .f32) (h5 : a5.IsWhole)
    (v9 : BitVec 32) (hv9 : v9 = cntW i I) (hw : k1_chk1 i v9) :
    (iprop(tabs d I fN fL ∗ ((sA).view.loc (d : Thread nD τ) ↦{fullShare} P) ∗ ((oA).view.loc (d : Thread nD τ) ↦{fullShare} f)
        ∗ semVal ((d : Thread nD τ), SemLoc.dma cc1_scratch1.sem) 0 ∗ owes (d : Thread nD τ) 0 W) : sProp 𝕄)
      ⊢ wp frame (wpE (defs₀ (F := F)) 𝒱₀ (d : Thread nD τ) none) Set.univ (extTail i a4 h4 a5 h5 v9 hw)
        (fun _ => iprop(tabs d I fN fL ∗ ((sA).view.loc (d : Thread nD τ) ↦{fullShare} P) ∗ ((oA).view.loc (d : Thread nD τ) ↦{fullShare} extRow I i f P)
          ∗ semVal ((d : Thread nD τ), SemLoc.dma cc1_scratch1.sem) 0
          ∗ ∃ W', ⌜∀ p ∈ W', p ∈ W ∨ p = (SemLoc.dma cc1_scratch1.sem, (none : HIx 1))⌝ ∗ owes (d : Thread nD τ) 0 W')) := by
  subst hv9
  have hl := hT.len i
  have tr1 : (k1_t1_loop (cntW i I)).trips = (bk i I).length := e1_trips ⟨(bk i I).length, by omega⟩
  have tr2 : (k1_t2_loop (cntW i I)).trips = 0 := e2_trips ⟨(bk i I).length, by omega⟩
  have tr3 : (k1_t3_loop (cntW i I)).trips = (bk i I).length := e3_trips ⟨(bk i I).length, by omega⟩
  have tr4 : (k1_t4_loop (cntW i I)).trips = 0 := e4_trips ⟨(bk i I).length, by omega⟩
  iintro ⟨HT, Hs, Ho, Hv, HO⟩
  ihave HR := (rows_out d i I f P) $$ [Hs Ho]
  · isplitl [Ho]; · iexact Ho
    iexact Hs
  icases HR with ⟨Hpre, Hback⟩
  imod (Transfers.batch_alloc' (Lvl := ℕ) (countersEmb (U := UU)) (d : Thread nD τ) (none : HIx 1) NN (dlv d i I f P) (sm := .dma cc1_scratch1.sem) (E := Set.univ)) $$ Hv with HB
  ihave Hpre := (Entails.of_eq (Transfers.bigSep_pending_zero (rowsIn d i I f P))) $$ Hpre
  sl_unfold [extTail]
  sl_for (inv1s (F := F) d i I fN fL f P) $$ [HT HB Hpre]
  · intro t acc; exact issue_step d i I fN fL hT f P a4 h4 a5 h5 hw t acc
  · unfold inv1s
    isplitl [HT]; · iexact HT
    isplitl [HB]; · iexact HB
    iexact Hpre
  iintro %_ HI1
  ihave HI2 := (show inv1s (F := F) d i I fN fL f P (k1_t1_loop (cntW i I)).trips () ⊢ iprop(tabs d I fN fL ∗ btc d i I f P (bk i I).length 0) from by
    rw [tr1]; unfold inv1s
    iintro ⟨HT, HB, -⟩
    isplitl [HT]; · iexact HT
    iexact HB) $$ HI1
  icases HI2 with ⟨HT, HB⟩
  sl_for (fun (_ : ℕ) (_ : Unit) => iprop(tabs d I fN fL ∗ btc d i I f P (bk i I).length 0)) $$ [HT HB]
  · intro t acc; exact (Nat.not_lt_zero _ (t.isLt.trans_eq tr2)).elim
  · isplitl [HT]; · iexact HT
    iexact HB
  iintro %_ ⟨HT, HB⟩
  sl_for (inv2s (F := F) d i I fN fL f P W) $$ [HT HB HO]
  · intro t acc; exact wait_step d i I fN fL hT f P W a4 h4 a5 h5 hw t acc
  · unfold inv2s
    isplitl [HT]; · iexact HT
    isplitl [HB]; · rw [Nat.zero_mul]; iexact HB
    iexists W
    isplitr
    · ipureintro; exact fun p hp => .inl hp
    iexact HO
  iintro %_ HI1
  ihave HI2 := (show inv2s (F := F) d i I fN fL f P W (k1_t3_loop (cntW i I)).trips () ⊢ iprop(tabs d I fN fL ∗ btc d i I f P (bk i I).length (NN * (bk i I).length)
      ∗ ∃ W', ⌜∀ p ∈ W', p ∈ W ∨ p = (SemLoc.dma cc1_scratch1.sem, (none : HIx 1))⌝ ∗ owes (d : Thread nD τ) 0 W') from by
    rw [tr3]; unfold inv2s; rw [Nat.mul_comm NN]) $$ HI1
  icases HI2 with ⟨HT, HB, HO⟩
  imod (Transfers.batch_collect' (countersEmb (U := UU)) (d : Thread nD τ) (N := NN) NN_pos (D := dlv d i I f P)) $$ HB with ⟨Hall, Hv⟩
  sl_for (fun (_ : ℕ) (_ : Unit) => iprop(tabs d I fN fL)) $$ [HT]
  · intro t acc; exact (Nat.not_lt_zero _ (t.isLt.trans_eq tr4)).elim
  · iexact HT
  iintro %_ HT
  sl_step
  ihave HR := Hback $$ Hall
  icases HR with ⟨Ho, Hs⟩
  isplitl [HT]; · iexact HT
  isplitl [Hs]; · iexact Hs
  isplitl [Ho]; · iexact Ho
  isplitl [Hv]; · iexact Hv
  iexact HO

theorem whole_writes (b : Ref sig .tc) (s : b.ty.Contents (Elt F)) {off : Fin b.ty.shape.rank → ℕ} (inb : ∀ a, off a + b.ty.shape.size a ≤ b.ty.shape.size a)
    (w : b.ty.shape.Idx → Elt F b.ty.elt) :
    (Memref.whole b).view.writes (Elt F) s [⟨Rect.unit off b.ty.shape.size inb, w⟩] = w :=
  View.read_writes_full (Val := Elt F) (Memref.whole b).view s inb w []

theorem scratchHeld (d : Dev nD) (s P : S4096x128.Idx → F .f32) :
    ((sA).view.loc (d : Thread nD τ) ↦{fullShare} (sA).view.writes (Elt F) s [⟨Rect.unit ![0, 0] S4096x128.size inb_S4096x128_S4096x128_0_0, P⟩] : sProp 𝕄)
      ⊢ ((sA).view.loc (d : Thread nD τ) ↦{fullShare} P) :=
  Entails.of_eq (congrArg (fun g : Buf (Elt F) ((sA).view.loc (d : Thread nD τ)) => ((sA).view.loc (d : Thread nD τ) ↦{fullShare} g : sProp 𝕄)) (whole_writes cc1_scratch0 s inb_S4096x128_S4096x128_0_0 P))

/-- A grid point: the block's rows of the bucket's positions, transposed out. -/
theorem ext_wp (d : Dev nD) (i : grid1.Coords) (I : S16384.Idx → BitVec 32) (fN : S256.Idx → BitVec 32) (fL : S65536.Idx → BitVec 32) (hT : TabOK I fN fL)
    (f : S16384x128.Idx → F .f32) (W : Waits sig (HIx 1)) (a4 : Memref sig .tc .vmem S64x4096 .f32) (h4 : a4.IsWhole) (a5 : Memref sig .tc .vmem S64x128 .f32) (h5 : a5.IsWhole)
    (Y4 : S64x4096.Idx → F .f32) (Y5 : S64x128.Idx → F .f32) :
    (iprop(owns (d : Thread nD τ) a4 fullShare Y4 ∗ owns (d : Thread nD τ) a5 fullShare Y5 ∗ tabs d I fN fL
        ∗ (∃ s, (sA).view.loc (d : Thread nD τ) ↦{fullShare} s) ∗ ((oA).view.loc (d : Thread nD τ) ↦{fullShare} f)
        ∗ semVal ((d : Thread nD τ), SemLoc.dma cc1_scratch1.sem) 0 ∗ owes (d : Thread nD τ) 0 W) : sProp 𝕄)
      ⊢ wp frame (wpE (defs₀ (F := F)) 𝒱₀ (d : Thread nD τ) none) Set.univ
        (cc1__extract_body i tC (Memref.isWhole_whole _) tI (Memref.isWhole_whole _) tL (Memref.isWhole_whole _) a4 h4 a5 h5 oA (Memref.isWhole_whole _) sA (Memref.isWhole_whole _) cc1_scratch1)
        (fun _ => iprop(owns (d : Thread nD τ) a4 fullShare Y4 ∗ owns (d : Thread nD τ) a5 fullShare Y5 ∗ tabs d I fN fL
          ∗ (∃ s, (sA).view.loc (d : Thread nD τ) ↦{fullShare} s) ∗ ((oA).view.loc (d : Thread nD τ) ↦{fullShare} extRow I i f (k1_pay1 Y4 Y5))
          ∗ semVal ((d : Thread nD τ), SemLoc.dma cc1_scratch1.sem) 0
          ∗ ∃ W', ⌜∀ p ∈ W', p ∈ W ∨ p = (SemLoc.dma cc1_scratch1.sem, (none : HIx 1))⌝ ∗ owes (d : Thread nD τ) 0 W')) := by
  rw [cc1__extract_body_eq_skeleton]
  unfold owns
  iintro ⟨⟨%f4, %e4, H4⟩, ⟨%f5, %e5, H5⟩, ⟨HC, HI, HL⟩, ⟨%s, Hs⟩, Ho, Hv, HO⟩
  sl_unfold [cc1__extract_body_skel]
  sl_exec
  have hv : ext_wp.sl.r (F := F) i fN = cntW i I := read_cnt (F := F) I fN fL hT i _ (e_off1 i) _ _
  have hc : k1_chk1 i (ext_wp.sl.r (F := F) i fN) := by
    rw [hv]; exact e_chk1 i ⟨(bk i I).length, Nat.lt_succ_of_le (hT.len i)⟩
  rw [wp_assume_of _ _ _ _ hc]
  have hP : (k1_pay1
            (View.readAt (Elt F) a4.view (Rect.unit ![0, 0] S64x4096.size inb_S64x4096_S64x4096_0_0).toLoadRect f4)
            (View.readAt (Elt F) a5.view (Rect.unit ![0, 0] S64x128.size inb_S64x128_S64x128_0_0).toLoadRect f5) : S4096x128.Idx → F .f32) = k1_pay1 Y4 Y5 := by
    rw [View.readAt_full, View.readAt_full, e4, e5]
  rw [hP]
  ihave Hs := (scratchHeld d s (k1_pay1 Y4 Y5)) $$ Hs
  have hfin := ext_tail d i I fN fL hT f (k1_pay1 Y4 Y5) W a4 h4 a5 h5 _ hv hc
  iapply (wp_wand_r frame _ Set.univ)
  isplitl [HC HI HL Hs Ho Hv HO]
  · iapply hfin
    isplitl [HC HI HL]
    · unfold tabs
      isplitl [HC]; · iexact HC
      isplitl [HI]; · iexact HI
      iexact HL
    isplitl [Hs]; · iexact Hs
    isplitl [Ho]; · iexact Ho
    isplitl [Hv]; · iexact Hv
    iexact HO
  iintro %_ ⟨HT, Hs, Ho, Hv, HO⟩
  isplitl [H4]
  · iexists f4
    isplitr
    · ipureintro; exact e4
    iexact H4
  isplitl [H5]
  · iexists f5
    isplitr
    · ipureintro; exact e5
    iexact H5
  isplitl [HT]; · iexact HT
  isplitl [Hs]; · iexists _; iexact Hs
  isplitl [Ho]; · iexact Ho
  isplitl [Hv]; · iexact Hv
  iexact HO

end Cert.Proof.Bucket
-- ==== Proof.Second.lean ====
/-
  The second pass: for each of a task's eight buckets, one counted loop over the positions the first pass kept. Its
  invariant says the bucket's row holds the positions of the bucket seen so far and the rows of the earlier buckets
  hold theirs.
-/
module

public import proofs.«01_k».proof.Proof.Passes

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)

variable [FloatOps F]

/-! ## The eight rows -/

/-- Row `k` of the eight lists. -/
def row8 (f : S8x272.Idx → BitVec 32) (k : Fin 8) : (Sh 272).Idx → BitVec 32 := fun x => f (Fin.cons k (Fin.cons (x 0) finZeroElim))

abbrev rowV (k : ℕ) (hk : ∀ a, (![k, 0] : Fin 2 → ℕ) a + S1x272.size a ≤ S8x272.size a) : Memref sig .scVector .vmem S272 .i32 :=
  ((sL).slice (Rect.unit (s := S8x272) ![k, 0] S1x272.size hk) (fun _ => rfl)).squeeze S272 squeezes_S1x272_S272

theorem rowV_emb (k : Fin 8) (hk : ∀ a, (![k.val, 0] : Fin 2 → ℕ) a + S1x272.size a ≤ S8x272.size a) (x : (Sh 272).Idx) :
    ((rowV k.val hk).access (.whole S272)).emb x = (Fin.cons k (Fin.cons (x 0) finZeroElim) : S8x272.Idx) := by
  show (Rect.unit (s := S8x272) ![k.val, 0] S1x272.size hk).emb (Shape.reshapeEquiv squeezes_S1x272_S272.numel_eq ((Rect.whole S272).emb x)) = _
  have e := Shape.reshapeEquiv_cons_one (n := 1) (d := ![272]) squeezes_S1x272_S272.numel_eq ((Rect.whole S272).emb x)
  rw [e]
  funext a
  refine Fin.cases ?_ (fun b => ?_) a
  · apply Fin.ext
    show k.val + 1 * 0 = k.val
    omega
  · obtain rfl : b = 0 := Fin.eq_zero b
    apply Fin.ext
    show 0 + 1 * (0 + 1 * (x 0).val) = (x 0).val
    omega

theorem row8_read (f : S8x272.Idx → BitVec 32) (k : Fin 8) (hk : ∀ a, (![k.val, 0] : Fin 2 → ℕ) a + S1x272.size a ≤ S8x272.size a) :
    ((rowV k.val hk).access (.whole S272)).read (Elt F) f = row8 f k := by
  funext x
  show f (((rowV k.val hk).access (.whole S272)).emb x) = _
  rw [rowV_emb]; rfl

theorem row8_write_same (f : S8x272.Idx → BitVec 32) (k : Fin 8) (hk : ∀ a, (![k.val, 0] : Fin 2 → ℕ) a + S1x272.size a ≤ S8x272.size a) (v : (Sh 272).Idx → BitVec 32) :
    row8 (((rowV k.val hk).access (.whole S272)).write (Elt F) f v Finset.univ) k = v := by
  rw [← row8_read (F := F) _ k hk]
  exact View.read_write_univ _ _

theorem row8_write_other (f : S8x272.Idx → BitVec 32) (k j : Fin 8) (hkj : j ≠ k) (hk : ∀ a, (![k.val, 0] : Fin 2 → ℕ) a + S1x272.size a ≤ S8x272.size a) (v : (Sh 272).Idx → BitVec 32) :
    row8 (((rowV k.val hk).access (.whole S272)).write (Elt F) f v Finset.univ) j = row8 f j := by
  funext x
  show ((rowV k.val hk).access (.whole S272)).write (Elt F) f v Finset.univ (Fin.cons j (Fin.cons (x 0) finZeroElim) : S8x272.Idx) = _
  rw [View.write_of_not_mem]
  · rfl
  · intro hm
    rw [View.setOn_univ] at hm
    obtain ⟨y, -, hy⟩ := Finset.mem_map.1 hm
    change ((rowV k.val hk).access (.whole S272)).emb y = _ at hy
    rw [rowV_emb] at hy
    exact hkj (congrFun hy 0).symm

/-! ## The loop -/

/-- One trip over the kept positions, for the bucket `rk` listed in row `k`. -/
def p2Body (L : grid0.Coords) (k : ℕ) (hk : ∀ a, (![k, 0] : Fin 2 → ℕ) a + S1x272.size a ≤ S8x272.size a) (rk n : BitVec 32) (hw : k0_chk2 n)
    (chk : IVec S16 32 → Prop) (dec : ∀ v, Decidable (chk v)) (hidx : ∀ v, chk v → ∀ a x, ((![v] : Fin 1 → IVec S16 32) a x).toNat < S272.size a) :
    Fin (k0_t2_loop n).trips → BitVec 32 → Prog (TpuEff nD τ sig (Elt F) Λ₀ (.scVector ((L 0).castLE hcore0) ((L 1).castLE hsub0))) (BitVec 32) :=
  fun t cur => do
    let h : Vec F S16 .i32 ← Prog.lift (.load sH (Rect.unit (s := S16416) (k0_off2 n t) S16.size (k0_off2_inb n hw t)).toLoadRect (View.loadsAt_vmem h_S16))
    let b : Vec F S16 .i32 ← Prog.lift (.load sB (Rect.unit (s := S16416) (k0_off2 n t) S16.size (k0_off2_inb n hw t)).toLoadRect (View.loadsAt_vmem h_S16))
    let v : IVec S16 32 := dst2 (mask2 rk n (Scalar.muli 16#32 (Scf.iv 0#32 1#32 t.val)) (iota .scVector S16 32 [0] iota_S16_d0_w32_scVector) h) cur natLt_1_32
    have hc : chk v := (← Prog.lift (TpuEff.assume (chk v) (dec v))).down
    SparseCore.vectorStoreIdx (rowV k hk) ![v] b (fun _ => 1#1) false (hidx v hc) (View.stores_vmem_bits_univ h_S272 rfl)
    pure (Scalar.addi cur (extractAt ![15] (scan (d := ![16]) .sum (extui 32 (mask2 rk n (Scalar.muli 16#32 (Scf.iv 0#32 1#32 t.val)) (iota .scVector S16 32 [0] iota_S16_d0_w32_scVector) h) natLt_1_32)) inpos_S16_p15))

/-- The kept positions of bucket `r` the first `t` trips see. -/
abbrev seen (I : S16384.Idx → BitVec 32) (w r : BitVec 32) (t : ℕ) : List ℕ :=
  ((hits I w 16384).take (16 * t)).filter fun j => decide ((entry I j).sshiftRight 12 = r)

/-- The buffers between the loops of the second pass: what the first kept, and the rows of the buckets before `k`. -/
def inv0 (d : Dev nD) (L : grid0.Coords) (I : S16384.Idx → BitVec 32) (k : ℕ) : sProp 𝕄 :=
  iprop(∃ f6 f7 f8,
    ⌜Holds (N := 16416) f6 ((hits I (wWord L) 16384).map (entry I)) 16400
      ∧ Holds (N := 16416) f7 ((hits I (wWord L) 16384).map (BitVec.ofNat 32)) 16400
      ∧ ∀ j : Fin 8, j.val < k → Holds (row8 f8 j) ((bucket I (rWord L j.val)).map (BitVec.ofNat 32)) 270⌝
    ∗ ((sH).view.loc (thr d L) ↦{fullShare} f6) ∗ ((sB).view.loc (thr d L) ↦{fullShare} f7) ∗ ((sL).view.loc (thr d L) ↦{fullShare} f8))

/-- What the loop of row `k` has kept after `t` trips. -/
def inv2 (d : Dev nD) (L : grid0.Coords) (I : S16384.Idx → BitVec 32) (k : Fin 8) (t : ℕ) (acc : BitVec 32) : sProp 𝕄 :=
  iprop(∃ f6 f7 f8,
    ⌜acc = BitVec.ofNat 32 (seen I (wWord L) (rWord L k.val) t).length
      ∧ Holds (N := 16416) f6 ((hits I (wWord L) 16384).map (entry I)) 16400
      ∧ Holds (N := 16416) f7 ((hits I (wWord L) 16384).map (BitVec.ofNat 32)) 16400
      ∧ Holds (row8 f8 k) ((seen I (wWord L) (rWord L k.val) t).map (BitVec.ofNat 32)) 270
      ∧ ∀ j : Fin 8, j.val < k.val → Holds (row8 f8 j) ((bucket I (rWord L j.val)).map (BitVec.ofNat 32)) 270⌝
    ∗ ((sH).view.loc (thr d L) ↦{fullShare} f6) ∗ ((sB).view.loc (thr d L) ↦{fullShare} f7) ∗ ((sL).view.loc (thr d L) ↦{fullShare} f8))

theorem inv2_init (d : Dev nD) (L : grid0.Coords) (I : S16384.Idx → BitVec 32) (k : Fin 8) : (inv0 (F := F) d L I k.val : sProp 𝕄) ⊢ inv2 (F := F) d L I k 0 0#32 := by
  unfold inv0 inv2
  iintro ⟨%f6, %f7, %f8, %h, H⟩
  obtain ⟨h6, h7, h8⟩ := h
  iexists f6; iexists f7; iexists f8
  isplitr
  · ipureintro
    exact ⟨rfl, h6, h7, Holds.nil _ _, h8⟩
  · iexact H

/-- After the last trip the row holds the whole bucket. -/
theorem inv2_last (d : Dev nD) (L : grid0.Coords) (I : S16384.Idx → BitVec 32) (k : Fin 8) (t : ℕ) (ht : t = ((hits I (wWord L) 16384).length + 15) / 16) (acc : BitVec 32) :
    (inv2 (F := F) d L I k t acc : sProp 𝕄) ⊢ iprop(⌜acc = BitVec.ofNat 32 (bucket I (rWord L k.val)).length⌝ ∗ inv0 (F := F) d L I (k.val + 1)) := by
  have hb : seen I (wWord L) (rWord L k.val) t = bucket I (rWord L k.val) := by
    unfold seen
    rw [List.take_of_length_le (by omega), hits_filter _ _ _ (rWord_shift L k)]
  unfold inv0 inv2
  rw [hb]
  iintro ⟨%f6, %f7, %f8, %h, H⟩
  obtain ⟨ha, h6, h7, h8, hj⟩ := h
  isplitr
  · ipureintro; exact ha
  iexists f6; iexists f7; iexists f8
  isplitr
  · ipureintro
    refine ⟨h6, h7, fun j hjk => ?_⟩
    rcases Nat.lt_succ_iff_lt_or_eq.1 hjk with h | h
    · exact hj j h
    · obtain rfl : j = k := Fin.ext h
      exact h8
  · iexact H

/-- Sixteen entries of a kept list, as a trip loads them. -/
theorem read16_kept (f : S16416.Idx → BitVec 32) (l : List (BitVec 32)) (hf : Holds (N := 16416) f l 16400) (t : ℕ) (off : Fin 1 → ℕ) (ho : off = ![16 * t])
    (inb : ∀ a, off a + S16.size a ≤ S16416.size a) (k : Fin 16) (hlen : l.length ≤ 16384) (hk : 16 * t + k.val < l.length) :
    (sH).view.readAt (Elt F) (Rect.unit (s := S16416) off S16.size inb).toLoadRect f (ln k) = l[16 * t + k.val] := by
  subst ho
  have e : ((((Rect.unit (s := S16416) ![16 * t] S16.size inb).toLoadRect.idx (ln k) : S16416.Idx) 0).val) = 16 * t + k.val := by
    show 16 * t + 1 * k.val = _
    omega
  have := hf ((Rect.unit (s := S16416) ![16 * t] S16.size inb).toLoadRect.idx (ln k)) (by rw [e]; omega) (by rw [e]; omega)
  refine Eq.trans this ?_
  congr 1

theorem getD_of_lt (l : List ℕ) (i : ℕ) (h : i < l.length) : l.getD i 0 = l[i] := by
  rw [List.getD_eq_getElem?_getD, List.getElem?_eq_getElem h]; rfl

/-- What one trip does to the row's list and to the count. -/
theorem p2_lists (l : List ℕ) (hlen : l.length ≤ 16384) (e : ℕ → BitVec 32) (r : BitVec 32) (t : ℕ) (ht : t ≤ 1024) (V W : Vec F S16 .i32)
    (hV : ∀ j : Fin 16, ∀ h : 16 * t + j.val < l.length, V (ln j) = e (l[16 * t + j.val]))
    (hW : ∀ j : Fin 16, ∀ h : 16 * t + j.val < l.length, W (ln j) = BitVec.ofNat 32 (l[16 * t + j.val]))
    (g : (Sh 272).Idx → BitVec 32)
    (hg : Holds g (((l.take (16 * t)).filter fun j => decide ((e j).sshiftRight 12 = r)).map (BitVec.ofNat 32)) 270)
    (v : IVec S16 32)
    (hv : v = dst2 (mask2 r (BitVec.ofNat 32 l.length) (BitVec.ofNat 32 (16 * t)) (iota .scVector S16 32 [0] iota_S16_d0_w32_scVector) V)
      (BitVec.ofNat 32 ((l.take (16 * t)).filter fun j => decide ((e j).sshiftRight 12 = r)).length) natLt_1_32)
    (hin : ∀ a x, ((![v] : Fin 1 → IVec S16 32) a x).toNat < S272.size a) :
    BitVec.ofNat 32 ((l.take (16 * t)).filter fun j => decide ((e j).sshiftRight 12 = r)).length
        + scan (d := ![16]) .sum (extui 32 (mask2 r (BitVec.ofNat 32 l.length) (BitVec.ofNat 32 (16 * t)) (iota .scVector S16 32 [0] iota_S16_d0_w32_scVector) V) natLt_1_32) (ln 15)
        = BitVec.ofNat 32 ((l.take (16 * (t + 1))).filter fun j => decide ((e j).sshiftRight 12 = r)).length
      ∧ Holds (N := 272) (storeIdx (F := F) (s := S272) (d := ![16]) (e := .i32) g ![v] W (fun _ => 1#1) false hin)
        (((l.take (16 * (t + 1))).filter fun j => decide ((e j).sshiftRight 12 = r)).map (BitVec.ofNat 32)) 270 := by
  have hp : ∀ j, pick (mask2 r (BitVec.ofNat 32 l.length) (BitVec.ofNat 32 (16 * t)) (iota .scVector S16 32 [0] iota_S16_d0_w32_scVector) V) j
      = (decide (16 * t + j.val < l.length) && decide ((e (l.getD (16 * t + j.val) 0)).sshiftRight 12 = r)) := fun j => by
    rw [pick_mask2 r l.length t hlen ht _ _ iota_ln]
    by_cases h : 16 * t + j.val < l.length
    · rw [hV j h, getD_of_lt l _ h]
    · simp [h]
  have hs : ((l.take (16 * t)).filter fun j => decide ((e j).sshiftRight 12 = r)).length ≤ 16384 :=
    (List.length_filter_le _ _).trans ((List.length_take_le _ _).trans (by omega))
  have hb := block_filter l (fun j => decide ((e j).sshiftRight 12 = r)) t
  rw [← List.filter_congr fun k _ => hp k] at hb
  rw [hb]
  subst hv
  refine ⟨?_, ?_⟩
  · rw [scan_last, ← BitVec.ofNat_add, List.length_append, List.length_map]; rfl
  · rw [List.map_append, List.map_map]
    refine (Holds.storeIdx (F := F) hg (pick (mask2 r (BitVec.ofNat 32 l.length) (BitVec.ofNat 32 (16 * t)) (iota .scVector S16 32 [0] iota_S16_d0_w32_scVector) V)) _ _ _ (fun k hk => ?_) fun k hk => ?_).of_eq ?_
    · rw [List.length_map, dst2_in _ _ _ (by omega) _ hk]
      omega
    · rw [dst2_out _ _ _ _ hk]; omega
    · congr 1
      apply List.map_congr_left
      intro k hk
      have hk' := (List.mem_filter.1 hk).2
      rw [hp, Bool.and_eq_true, decide_eq_true_eq] at hk'
      show W (ln k) = BitVec.ofNat 32 (l.getD (16 * t + k.val) 0)
      have hlt := hk'.1
      rw [hW k hlt, getD_of_lt l _ hlt]

theorem p2_step (d : Dev nD) (L : grid0.Coords) (I : S16384.Idx → BitVec 32) (k : Fin 8) (hk : ∀ a, (![k.val, 0] : Fin 2 → ℕ) a + S1x272.size a ≤ S8x272.size a)
    (hw : k0_chk2 (BitVec.ofNat 32 (hits I (wWord L) 16384).length))
    (chk : IVec S16 32 → Prop) (dec : ∀ v, Decidable (chk v)) (hidx : ∀ v, chk v → ∀ a x, ((![v] : Fin 1 → IVec S16 32) a x).toNat < S272.size a)
    (hchk : ∀ v : IVec S16 32, (∀ a x, ((![v] : Fin 1 → IVec S16 32) a x).toNat < S272.size a) → chk v)
    (t : Fin (k0_t2_loop (BitVec.ofNat 32 (hits I (wWord L) 16384).length)).trips) (acc : BitVec 32) :
    (inv2 (F := F) d L I k t.val acc : sProp 𝕄) ⊢ wp frame (wpE (defs₀ (F := F)) 𝒱₀ (thr d L) none) Set.univ
      (p2Body (F := F) L k.val hk (rWord L k.val) (BitVec.ofNat 32 (hits I (wWord L) 16384).length) hw chk dec hidx t acc)
      (inv2 (F := F) d L I k (t.val + 1)) := by
  have hlen := hits_length I (wWord L) 16384
  have ht : t.val < ((hits I (wWord L) 16384).length + 15) / 16 := t.isLt.trans_eq (t2_trips _ hlen)
  have hoff := off2_eq _ hlen t
  unfold inv2
  iintro ⟨%f6, %f7, %f8, %hf, H6, H7, H8⟩
  obtain ⟨rfl, h6, h7, h8, hj⟩ := hf
  have hs : (seen I (wWord L) (rWord L k.val) t.val).length ≤ 16384 :=
    (List.length_filter_le _ _).trans ((List.length_take_le _ _).trans (by omega))
  sl_unfold [p2Body]
  sl_exec
  have hv : p2_step.sl.v (F := F) L I k hw t f6 = dst2 (mask2 (rWord L k.val) (BitVec.ofNat 32 (hits I (wWord L) 16384).length) (Scalar.muli 16#32 (Scf.iv 0#32 1#32 t.val)) (iota .scVector S16 32 [0] iota_S16_d0_w32_scVector)
      ((sH).view.readAt (Elt F) (Rect.unit (s := S16416) (k0_off2 _ t) S16.size (k0_off2_inb _ hw t)).toLoadRect f6)) (BitVec.ofNat 32 (seen I (wWord L) (rWord L k.val) t.val).length) natLt_1_32 := rfl
  rw [iv_word] at hv
  have hch : chk (p2_step.sl.v (F := F) L I k hw t f6) := by
    apply hchk
    rw [hv]
    intro a x
    obtain rfl : a = 0 := Fin.eq_zero a
    exact dst2_lt _ _ _ hs x
  rw [wp_assume_of _ _ _ _ hch]
  iapply (wp_scatter (F := F) (thr d L) (base := rowV k.val hk) (S := Finset.univ) (Finset.subset_univ _)) $$ H8
  iintro H8
  sl_exec
  sl_step
  iexists f6; iexists f7; iexists _
  isplitr
  swap
  · isplitl [H6]; · iexact H6
    isplitl [H7]; · iexact H7
    iexact H8
  ipureintro
  have hV : ∀ j : Fin 16, ∀ h : 16 * t.val + j.val < (hits I (wWord L) 16384).length,
      (sH).view.readAt (Elt F) (Rect.unit (s := S16416) (k0_off2 _ t) S16.size (k0_off2_inb _ hw t)).toLoadRect f6 (ln j) = entry I ((hits I (wWord L) 16384)[16 * t.val + j.val]) := fun j h => by
    rw [read16_kept (F := F) f6 _ h6 t.val _ hoff _ j (by rw [List.length_map]; exact hlen) (by rw [List.length_map]; exact h), List.getElem_map]
  have hW : ∀ j : Fin 16, ∀ h : 16 * t.val + j.val < (hits I (wWord L) 16384).length,
      (sB).view.readAt (Elt F) (Rect.unit (s := S16416) (k0_off2 _ t) S16.size (k0_off2_inb _ hw t)).toLoadRect f7 (ln j) = BitVec.ofNat 32 ((hits I (wWord L) 16384)[16 * t.val + j.val]) := fun j h => by
    refine Eq.trans (read16_kept (F := F) f7 _ h7 t.val _ hoff _ j (by rw [List.length_map]; exact hlen) (by rw [List.length_map]; exact h)) ?_
    rw [List.getElem_map]
  obtain ⟨q1, q2⟩ := p2_lists (F := F) (hits I (wWord L) 16384) hlen (entry I) (rWord L k.val) t.val (by omega) _ _ hV hW (row8 f8 k) h8 (p2_step.sl.v (F := F) L I k hw t f6) hv (hidx _ hch)
  refine ⟨?_, h6, h7, ?_, ?_⟩
  · rw [← q1, iv_word]; rfl
  · rw [row8_read, row8_write_same (F := F)]
    exact q2
  · intro j hjk
    rw [row8_write_other (F := F) _ _ _ (by rintro rfl; omega)]
    exact hj j hjk

end Cert.Proof.Bucket
-- ==== Proof.Tile.lean ====
/-
  One task of the bucketing call: from a read share of the indices to its eight counts and its eight lists.
-/
module

public import proofs.«01_k».proof.Proof.Second

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]

abbrev ΛP : Labels := Pipeline.Sig Λ₀ (Fin 2) fun p => (pcfgs (F := F) p).Adm
abbrev K : SparseCore.Cfg τ sig (ΛP (F := F)) 1 := sc (F := F)

abbrev xLoc (d : Dev nD) : Loc nD τ sig := (SparseCore.T d).loc main_arg1
abbrev nLoc (d : Dev nD) : Loc nD τ sig := (SparseCore.T d).loc main_v3_0
abbrev lLoc (d : Dev nD) : Loc nD τ sig := (SparseCore.T d).loc main_v3_1

/-- The task's eight counts and eight lists in the results. -/
abbrev nRowK (L : grid0.Coords) : Memref sig .scVector .hbm S8 .i32 := (nV).slice (Rect.unit (s := S256) (k0_off19 L) S8.size (k0_off19_inb L)) (fun _ => rfl)
abbrev lRowK (L : grid0.Coords) : Memref sig .scVector .hbm S8x256 .i32 := (lV).slice (Rect.unit (s := S256x256) (k0_off18 L) S8x256.size (k0_off18_inb L)) (fun _ => rfl)

/-- What the first pass leaves the second. -/
theorem inv1_last (d : Dev nD) (L : grid0.Coords) (I : S16384.Idx → BitVec 32) (fL : Buf (Elt F) ((sL).view.loc (thr d L))) (acc : BitVec 32) :
    iprop(inv1 (F := F) d L I k0_t1_loop.trips acc ∗ ((sL).view.loc (thr d L) ↦{fullShare} fL) : sProp 𝕄)
      ⊢ iprop(⌜acc = BitVec.ofNat 32 (hits I (wWord L) 16384).length⌝ ∗ ((sX).view.loc (thr d L) ↦{fullShare} I) ∗ inv0 (F := F) d L I 0) := by
  unfold inv1 inv0
  rw [t1_trips, show 16 * 1024 = 16384 from rfl]
  iintro ⟨⟨HX, %f6, %f7, %hf, H6, H7⟩, H8⟩
  obtain ⟨ha, h6, h7⟩ := hf
  isplitr; · ipureintro; exact ha
  isplitl [HX]; · iexact HX
  iexists f6; iexists f7; iexists fL
  isplitr
  · ipureintro; exact ⟨h6, h7, fun j h => absurd h (Nat.not_lt_zero _)⟩
  isplitl [H6]; · iexact H6
  isplitl [H7]; · iexact H7
  iexact H8

theorem fetched (d : Dev nD) (L : grid0.Coords) (fX : Buf (Elt F) ((sX).view.loc (thr d L))) (I : S16384.Idx → BitVec 32) (v : S16384.Idx → Elt F .i32) (hv : v = I) :
    ((sX).view.loc (thr d L) ↦{fullShare} View.write (Elt F) (sX).view fX v Finset.univ : sProp 𝕄) ⊢ ((sX).view.loc (thr d L) ↦{fullShare} I) := by
  subst hv
  exact Entails.of_eq (congrArg _ (View.write_whole_univ (Val := Elt F) _ _ _))

/-- The number of positions the first pass keeps, as a word. -/
abbrev nW (L : grid0.Coords) (I : S16384.Idx → BitVec 32) : BitVec 32 := BitVec.ofNat 32 (hits I (wWord L) 16384).length
/-- The size of the task's bucket `k`, as a word. -/
abbrev cW (L : grid0.Coords) (I : S16384.Idx → BitVec 32) (k : ℕ) : BitVec 32 := BitVec.ofNat 32 (bucket I (rWord L k)).length
theorem hcW (L : grid0.Coords) (I : S16384.Idx → BitVec 32) : k0_chk2 (nW L I) := chk2_of _ (hits_length I (wWord L) 16384)
/-- The sixteen lane numbers. -/
abbrev io16 : IVec S16 32 := iota .scVector S16 32 [0] iota_S16_d0_w32_scVector

/-- The copy of the indices, the first pass, and the list of bucket 0. -/
theorem part1_wp (d : Dev nD) (L : grid0.Coords) (I : S16384.Idx → BitVec 32) (q : PosShare TreeShare) (O : CellTallies nD τ sig (HIx 1)) (W : Waits sig (HIx 1))
    (fX : Buf (Elt F) ((sX).view.loc (thr d L))) (fH : Buf (Elt F) ((sH).view.loc (thr d L))) (fB : Buf (Elt F) ((sB).view.loc (thr d L)))
    (fL : Buf (Elt F) ((sL).view.loc (thr d L))) :
    iprop(Transfers.MayWaits (thr d L) (default : HIx 1) O
        ∗ ((xV).view.loc (thr d L) ↦{q} I)
        ∗ ((sX).view.loc (thr d L) ↦{fullShare} fX) ∗ ((sH).view.loc (thr d L) ↦{fullShare} fH) ∗ ((sB).view.loc (thr d L) ↦{fullShare} fB)
        ∗ ((sL).view.loc (thr d L) ↦{fullShare} fL)
        ∗ semVal (thr d L, .dma cc0_scoped0.sem) 0
        ∗ owes (thr d L) O W : sProp 𝕄)
      ⊢ wp frame (wpE (defs₀ (F := F)) 𝒱₀ (thr d L) none) Set.univ
          (k0_part1 L xV (Memref.isWhole_whole _) nV (Memref.isWhole_whole _) lV (Memref.isWhole_whole _) sX (Memref.isWhole_whole _)
        sH (Memref.isWhole_whole _) sB (Memref.isWhole_whole _) sL (Memref.isWhole_whole _) sC (Memref.isWhole_whole _) cc0_scratch5 cc0_scoped0 cc0_scoped1 cc0_scoped2)
          fun a => iprop(∃ v22 W', ⌜a = ⟨wWord L, io16, nW L I, hcW L I, v22, k0_pay5, cW L I 0⟩⌝
            ∗ ((xV).view.loc (thr d L) ↦{q} I) ∗ ((sX).view.loc (thr d L) ↦{fullShare} I) ∗ inv0 (F := F) d L I 1
            ∗ semVal (thr d L, .dma cc0_scoped0.sem) 0 ∗ owes (thr d L) O W') := by
  iintro ⟨#Hmw, Hx, HX, HH, HB, HL, Hs0, HO⟩
  rw [k0_part1_eq_skeleton]
  sl_unfold [k0_part1_skel]
  sl_exec
  ihave HX := (fetched (F := F) d L fX I (part1_wp.sl.dma0 (F := F) I) rfl) $$ HX
  sl_for (inv1 (F := F) d L I) $$ [HX HH HB]
  case region => exact fun t acc => p1_step d L I t acc
  · unfold inv1
    isplitl [HX]; · iexact HX
    iexists _; iexists _
    isplitr
    swap
    · isplitl [HH]; · iexact HH
      iexact HB
    ipureintro
    exact ⟨rfl, Holds.nil _ _, Holds.nil _ _⟩
  iintro %n HI
  ihave HI := (inv1_last (F := F) d L I fL n) $$ [HI HL]
  · isplitl [HI]; · iexact HI
    iexact HL
  icases HI with ⟨%hn, HX, HI⟩
  subst hn
  have hlen := hits_length I (wWord L) 16384
  have hc2 := hcW L I
  sl_exec
  sl_for (inv2 (F := F) d L I 0) $$ [HI]
  case region => exact fun t acc => p2_step d L I 0 inb_S8x272_S1x272_0_0 (hcW L I) k0_chk3 k0_chk3.dec k0_idx3_inb (fun _ h => h) t acc
  · iapply (inv2_init d L I 0); iexact HI
  iintro %n0 HI
  ihave HI := (inv2_last (F := F) d L I 0 _ (t2_trips _ hlen) n0) $$ HI
  icases HI with ⟨%hn0, HI⟩
  subst hn0
  sl_exec
  sl_step
  iexists _; iexists _
  isplitr; · ipureintro; rfl
  isplitl [Hx]; · iexact Hx
  isplitl [HX]; · iexact HX
  isplitl [HI]; · iexact HI
  isplitl [Hs0]; · iexact Hs0
  iexact HO

end Cert.Proof.Bucket
-- ==== Proof.Parts.lean ====
/-
  The second pass of a task of the bucketing call, its last copies, and the task whole.
-/
module

public import proofs.«01_k».proof.Proof.Tile
public import Idealize.ShloMosaic.Lib.VecWindow

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]
/-- The lists of buckets 1 and 2. -/
theorem part2_wp (d : Dev nD) (L : grid0.Coords) (I : S16384.Idx → BitVec 32) (v22 : BitVec 32) (v23 : IVec S16 32) (v32 : BitVec 32) :
    (inv0 (F := F) d L I 1 : sProp 𝕄)
      ⊢ wp frame (wpE (defs₀ (F := F)) 𝒱₀ (thr d L) none) Set.univ
          (k0_part2 L xV (Memref.isWhole_whole _) nV (Memref.isWhole_whole _) lV (Memref.isWhole_whole _) sX (Memref.isWhole_whole _)
        sH (Memref.isWhole_whole _) sB (Memref.isWhole_whole _) sL (Memref.isWhole_whole _) sC (Memref.isWhole_whole _) cc0_scratch5 cc0_scoped0 cc0_scoped1 cc0_scoped2
            (wWord L) io16 (nW L I) (hcW L I) v22 v23 v32)
          fun a => iprop(∃ v69, ⌜a = ⟨k0_pay24 io16 v23 v32 (cW L I 1) (cW L I 2), rWord L 3, 0#32, 0#32, v69, 1#32⟩⌝ ∗ inv0 (F := F) d L I 3) := by
  have hlen := hits_length I (wWord L) 16384
  iintro HI
  rw [k0_part2_eq_skeleton]
  sl_unfold [k0_part2_skel]
  sl_for (inv2 (F := F) d L I 1) $$ [HI]
  case region => exact fun t acc => p2_step d L I 1 inb_S8x272_S1x272_1_0 (hcW L I) k0_chk5 k0_chk5.dec k0_idx5_inb (fun _ h => h) t acc
  · iapply (inv2_init d L I 1); iexact HI
  iintro %n1 HI
  ihave HI := (inv2_last (F := F) d L I 1 _ (t2_trips _ hlen) n1) $$ HI
  icases HI with ⟨%hn1, HI⟩
  subst hn1
  sl_exec
  sl_for (inv2 (F := F) d L I 2) $$ [HI]
  case region => exact fun t acc => p2_step d L I 2 inb_S8x272_S1x272_2_0 (hcW L I) k0_chk7 k0_chk7.dec k0_idx7_inb (fun _ h => h) t acc
  · iapply (inv2_init d L I 2); iexact HI
  iintro %n2 HI
  ihave HI := (inv2_last (F := F) d L I 2 _ (t2_trips _ hlen) n2) $$ HI
  icases HI with ⟨%hn2, HI⟩
  subst hn2
  sl_exec
  sl_step
  iexists _
  isplitr; · ipureintro; rfl
  iexact HI

/-- The lists of buckets 3, 4 and 5. -/
theorem part3_wp (d : Dev nD) (L : grid0.Coords) (I : S16384.Idx → BitVec 32) (v22 : BitVec 32) (v62 : IVec S16 32) (v69 : BitVec 32) :
    (inv0 (F := F) d L I 3 : sProp 𝕄)
      ⊢ wp frame (wpE (defs₀ (F := F)) 𝒱₀ (thr d L) none) Set.univ
          (k0_part3 L xV (Memref.isWhole_whole _) nV (Memref.isWhole_whole _) lV (Memref.isWhole_whole _) sX (Memref.isWhole_whole _)
        sH (Memref.isWhole_whole _) sB (Memref.isWhole_whole _) sL (Memref.isWhole_whole _) sC (Memref.isWhole_whole _) cc0_scratch5 cc0_scoped0 cc0_scoped1 cc0_scoped2
            (wWord L) io16 (nW L I) (hcW L I) v22 v62 (rWord L 3) 0#32 0#32 v69 1#32)
          fun a => iprop(∃ v106, ⌜a = ⟨k0_pay43 io16 v62 (cW L I 3) (cW L I 4) (cW L I 5), rWord L 6, 0#32, 0#32, 1#32, v106⟩⌝ ∗ inv0 (F := F) d L I 6) := by
  have hlen := hits_length I (wWord L) 16384
  iintro HI
  rw [k0_part3_eq_skeleton]
  sl_unfold [k0_part3_skel]
  sl_for (inv2 (F := F) d L I 3) $$ [HI]
  case region => exact fun t acc => p2_step d L I 3 inb_S8x272_S1x272_3_0 (hcW L I) k0_chk9 k0_chk9.dec k0_idx9_inb (fun _ h => h) t acc
  · iapply (inv2_init d L I 3); iexact HI
  iintro %n3 HI
  ihave HI := (inv2_last (F := F) d L I 3 _ (t2_trips _ hlen) n3) $$ HI
  icases HI with ⟨%hn3, HI⟩
  subst hn3
  sl_exec
  sl_for (inv2 (F := F) d L I 4) $$ [HI]
  case region => exact fun t acc => p2_step d L I 4 inb_S8x272_S1x272_4_0 (hcW L I) k0_chk11 k0_chk11.dec k0_idx11_inb (fun _ h => h) t acc
  · iapply (inv2_init d L I 4); iexact HI
  iintro %n4 HI
  ihave HI := (inv2_last (F := F) d L I 4 _ (t2_trips _ hlen) n4) $$ HI
  icases HI with ⟨%hn4, HI⟩
  subst hn4
  sl_exec
  sl_for (inv2 (F := F) d L I 5) $$ [HI]
  case region => exact fun t acc => p2_step d L I 5 inb_S8x272_S1x272_5_0 (hcW L I) k0_chk13 k0_chk13.dec k0_idx13_inb (fun _ h => h) t acc
  · iapply (inv2_init d L I 5); iexact HI
  iintro %n5 HI
  ihave HI := (inv2_last (F := F) d L I 5 _ (t2_trips _ hlen) n5) $$ HI
  icases HI with ⟨%hn5, HI⟩
  subst hn5
  sl_exec
  sl_step
  iexists _
  isplitr; · ipureintro; rfl
  iexact HI

theorem countsHeld (d : Dev nD) (L : grid0.Coords) (fC : Buf (Elt F) ((sC).view.loc (thr d L))) (v : S16.Idx → BitVec 32) :
    ((sC).view.loc (thr d L) ↦{fullShare} (sC).view.writes (Elt F) fC [⟨Rect.unit ![0] S16.size inb_S16_S16_0, v⟩] : sProp 𝕄) ⊢ ((sC).view.loc (thr d L) ↦{fullShare} v) :=
  Entails.of_eq (congrArg _ (View.read_writes_full (Val := Elt F) (sC).view fC inb_S16_S16_0 v []))

set_option maxHeartbeats 4000000 in
/-- The lists of buckets 6 and 7, the counts put together, and the lists copied out. -/
theorem part4_wp (d : Dev nD) (L : grid0.Coords) (I : S16384.Idx → BitVec 32) (v22 : BitVec 32) (v101 : IVec S16 32) (v106 : BitVec 32)
    (O : CellTallies nD τ sig (HIx 1)) (W : Waits sig (HIx 1))
    (fC : Buf (Elt F) ((sC).view.loc (thr d L))) (fl : Buf (Elt F) ((lRowK L).view.loc (thr d L))) :
    iprop(Transfers.MayWaits (thr d L) (default : HIx 1) O ∗ inv0 (F := F) d L I 6
        ∗ ((lRowK L).view.loc (thr d L) ↦[(lRowK L).view.set]{fullShare} fl)
        ∗ ((sC).view.loc (thr d L) ↦{fullShare} fC)
        ∗ semVal (thr d L, .dma cc0_scoped1.sem) 0
        ∗ owes (thr d L) O W : sProp 𝕄)
      ⊢ wp frame (wpE (defs₀ (F := F)) 𝒱₀ (thr d L) none) Set.univ
          (k0_part4 L xV (Memref.isWhole_whole _) nV (Memref.isWhole_whole _) lV (Memref.isWhole_whole _) sX (Memref.isWhole_whole _)
        sH (Memref.isWhole_whole _) sB (Memref.isWhole_whole _) sL (Memref.isWhole_whole _) sC (Memref.isWhole_whole _) cc0_scratch5 cc0_scoped0 cc0_scoped1 cc0_scoped2
            (wWord L) io16 (nW L I) (hcW L I) v22 v101 (rWord L 6) 0#32 0#32 1#32 v106)
          fun _ => iprop(∃ fl' W', ⌜∀ k : Fin 8, ∀ j : Fin 256, ∀ h : j.val < (bucket I (rWord L k.val)).length,
              fl' ((lRowK L).view.emb (Fin.cons k (Fin.cons j finZeroElim))) = BitVec.ofNat 32 (bucket I (rWord L k.val))[j.val]⌝
            ∗ inv0 (F := F) d L I 8 ∗ ((lRowK L).view.loc (thr d L) ↦[(lRowK L).view.set]{fullShare} fl')
            ∗ ((sC).view.loc (thr d L) ↦{fullShare} k0_pay56 io16 v101 (cW L I 6) (cW L I 7))
            ∗ semVal (thr d L, .dma cc0_scoped1.sem) 0 ∗ owes (thr d L) O W') := by
  have hlen := hits_length I (wWord L) 16384
  iintro ⟨#Hmw, HI, Hl, HC, Hs1, HO⟩
  rw [k0_part4_eq_skeleton]
  sl_unfold [k0_part4_skel]
  sl_for (inv2 (F := F) d L I 6) $$ [HI]
  case region => exact fun t acc => p2_step d L I 6 inb_S8x272_S1x272_6_0 (hcW L I) k0_chk15 k0_chk15.dec k0_idx15_inb (fun _ h => h) t acc
  · iapply (inv2_init d L I 6); iexact HI
  iintro %n6 HI
  ihave HI := (inv2_last (F := F) d L I 6 _ (t2_trips _ hlen) n6) $$ HI
  icases HI with ⟨%hn6, HI⟩
  subst hn6
  sl_exec
  sl_for (inv2 (F := F) d L I 7) $$ [HI]
  case region => exact fun t acc => p2_step d L I 7 inb_S8x272_S1x272_7_0 (hcW L I) k0_chk17 k0_chk17.dec k0_idx17_inb (fun _ h => h) t acc
  · iapply (inv2_init d L I 7); iexact HI
  iintro %n7 HI
  ihave HI := (inv2_last (F := F) d L I 7 _ (t2_trips _ hlen) n7) $$ HI
  icases HI with ⟨%hn7, HI⟩
  subst hn7
  unfold inv0
  icases HI with ⟨%f6, %f7, %f8, %hf, H6, H7, H8⟩
  sl_exec
  sl_step
  iexists _; iexists _
  isplitr
  swap
  · isplitl [H6 H7 H8]
    · iexists _; iexists _; iexists _
      isplitr
      · ipureintro; exact hf
      isplitl [H6]; · iexact H6
      isplitl [H7]; · iexact H7
      iexact H8
    isplitl [Hl]; · iexact Hl
    isplitl [HC]; · iapply (countsHeld (F := F) d L fC); iexact HC
    isplitl [Hs1]; · iexact Hs1
    iexact HO
  ipureintro
  intro k j hj
  have hr : (lRowK L).view.read (Elt F) ((lRowK L).view.writes (Elt F) fl [⟨Rect.whole S8x256, part4_wp.sl.dma2 f8⟩]) (Fin.cons k (Fin.cons j finZeroElim)) = part4_wp.sl.dma2 f8 (Fin.cons k (Fin.cons j finZeroElim)) := congrFun (View.read_writes_whole (lRowK L).view fl (part4_wp.sl.dma2 f8)) (Fin.cons k (Fin.cons j finZeroElim))
  refine hr.trans ?_
  have h := (hf.2.2 k k.isLt) (Fin.cons ⟨j.val, (show j.val < 272 by omega)⟩ finZeroElim) (show j.val < 270 by omega) (by rw [List.length_map]; exact hj)
  rw [List.getElem_map] at h
  refine Eq.trans ?_ h
  show f8 _ = f8 _
  refine congrArg f8 ?_
  funext a
  refine Fin.cases ?_ (fun b => ?_) a
  · apply Fin.ext
    show 0 + 1 * k.val = k.val
    omega
  · obtain rfl : b = 0 := Fin.eq_zero b
    apply Fin.ext
    show 0 + 1 * j.val = j.val
    omega

theorem counts_lane (c : ℕ → BitVec 32) (k : Fin 8) :
    k0_pay56 io16 (k0_pay43 io16 (k0_pay24 io16 k0_pay5 (c 0) (c 1) (c 2)) (c 3) (c 4) (c 5)) (c 6) (c 7) (Fin.cons ⟨k.val, show k.val < 16 by omega⟩ finZeroElim) = c k.val := by
  fin_cases k <;> rfl

end Cert.Proof.Bucket
-- ==== Proof.Body.lean ====
/-
  A task of the bucketing call, whole: from a read share of the indices to its eight counts and its eight lists.
-/
module

public import proofs.«01_k».proof.Proof.Parts

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]

/-- What the task's eight counts are. -/
def RowN (L : grid0.Coords) (I : S16384.Idx → BitVec 32) (fn : S256.Idx → BitVec 32) : Prop :=
  ∀ k : Fin 8, fn ((nRowK L).view.emb (Fin.cons k finZeroElim)) = cW L I k.val
/-- What the task's eight lists begin with. -/
def RowL (L : grid0.Coords) (I : S16384.Idx → BitVec 32) (fl : S256x256.Idx → BitVec 32) : Prop :=
  ∀ k : Fin 8, ∀ j : Fin 256, ∀ h : j.val < (bucket I (rWord L k.val)).length,
    fl ((lRowK L).view.emb (Fin.cons k (Fin.cons j finZeroElim))) = BitVec.ofNat 32 (bucket I (rWord L k.val))[j.val]

/-- The eight counts copied out. -/
theorem tail_wp (d : Dev nD) (L : grid0.Coords) (I : S16384.Idx → BitVec 32) (O : CellTallies nD τ sig (HIx 1)) (W : Waits sig (HIx 1))
    (fC : Buf (Elt F) ((sC).view.loc (thr d L))) (hC : ∀ k : Fin 8, (fC : S16.Idx → BitVec 32) (Fin.cons ⟨k.val, show k.val < 16 by omega⟩ finZeroElim) = cW L I k.val)
    (fn : Buf (Elt F) ((nRowK L).view.loc (thr d L))) :
    iprop(Transfers.MayWaits (thr d L) (default : HIx 1) O
        ∗ ((nRowK L).view.loc (thr d L) ↦[(nRowK L).view.set]{fullShare} fn)
        ∗ ((sC).view.loc (thr d L) ↦{fullShare} fC)
        ∗ semVal (thr d L, .dma cc0_scoped2.sem) 0
        ∗ owes (thr d L) O W : sProp 𝕄)
      ⊢ wp frame (wpE (defs₀ (F := F)) 𝒱₀ (thr d L) none) Set.univ
          (do
            let v134_r2 : Memref sig .scVector .hbm S8 .i32 := (nV).slice (Rect.unit (s := S256) (k0_off19 L) S8.size (k0_off19_inb L)) (fun _ => rfl)
            let v135_r2 : Memref sig .scVector .vmem S8 .i32 := (sC).slice (Rect.unit (s := S16) ![0] S8.size inb_S16_S8_0) (fun _ => rfl)
            Prog.lift (.enqueueDma v135_r2 (.here v134_r2) (.dma cc0_scoped2.sem) (View.wordExact_bits rfl) (View.wordExact_bits rfl) ⟨Or.inl rfl, trivial⟩)
            let v138_r2 : Memref sig .scVector .hbm S8 .i32 := (nV).slice (Rect.unit (s := S256) (k0_off19 L) S8.size (k0_off19_inb L)) (fun _ => rfl)
            let v139_r2 : Memref sig .scVector .vmem S8 .i32 := (sC).slice (Rect.unit (s := S16) ![0] S8.size inb_S16_S8_0) (fun _ => rfl)
            Prog.lift (.waitDma2 cc0_scoped2.sem v139_r2 v138_r2 (View.wordExact_bits rfl) (View.wordExact_bits rfl))
            pure ⟨⟩ : Prog (TpuEff nD τ sig (Elt F) Λ₀ (.scVector ((L 0).castLE hcore0) ((L 1).castLE hsub0))) PUnit)
          fun _ => iprop(∃ fn' W', ⌜RowN L I fn'⌝
            ∗ ((nRowK L).view.loc (thr d L) ↦[(nRowK L).view.set]{fullShare} fn')
            ∗ ((sC).view.loc (thr d L) ↦{fullShare} fC)
            ∗ semVal (thr d L, .dma cc0_scoped2.sem) 0
            ∗ owes (thr d L) O W') := by
  iintro ⟨#Hmw, Hn, HC, Hs2, HO⟩
  sl_exec
  sl_step
  iexists _; iexists _
  isplitr
  swap
  · isplitl [Hn]; · iexact Hn
    isplitl [HC]; · iexact HC
    isplitl [Hs2]; · iexact Hs2
    iexact HO
  ipureintro
  intro k
  have hr : (nRowK L).view.read (Elt F) ((nRowK L).view.writes (Elt F) fn [⟨Rect.whole S8, tail_wp.sl.dma0 d L fC⟩]) (Fin.cons k finZeroElim) = tail_wp.sl.dma0 d L fC (Fin.cons k finZeroElim) :=
    congrFun (View.read_writes_whole (nRowK L).view fn (tail_wp.sl.dma0 d L fC)) (Fin.cons k finZeroElim)
  refine hr.trans (Eq.trans ?_ (hC k))
  show fC _ = fC _
  refine congrArg fC ?_
  funext a
  obtain rfl : a = 0 := Fin.eq_zero a
  apply Fin.ext
  show 0 + 1 * k.val = k.val
  omega

set_option maxHeartbeats 4000000 in
theorem body_wp (d : Dev nD) (L : grid0.Coords) (I : S16384.Idx → BitVec 32) (q : PosShare TreeShare) (O : CellTallies nD τ sig (HIx 1)) (W : Waits sig (HIx 1))
    (fX : Buf (Elt F) ((sX).view.loc (thr d L))) (fH : Buf (Elt F) ((sH).view.loc (thr d L))) (fB : Buf (Elt F) ((sB).view.loc (thr d L)))
    (fL : Buf (Elt F) ((sL).view.loc (thr d L))) (fC : Buf (Elt F) ((sC).view.loc (thr d L)))
    (fn : Buf (Elt F) ((nRowK L).view.loc (thr d L))) (fl : Buf (Elt F) ((lRowK L).view.loc (thr d L))) :
    iprop(Transfers.MayWaits (thr d L) (default : HIx 1) O
        ∗ ((xV).view.loc (thr d L) ↦{q} I)
        ∗ ((nRowK L).view.loc (thr d L) ↦[(nRowK L).view.set]{fullShare} fn)
        ∗ ((lRowK L).view.loc (thr d L) ↦[(lRowK L).view.set]{fullShare} fl)
        ∗ ((sX).view.loc (thr d L) ↦{fullShare} fX) ∗ ((sH).view.loc (thr d L) ↦{fullShare} fH) ∗ ((sB).view.loc (thr d L) ↦{fullShare} fB)
        ∗ ((sL).view.loc (thr d L) ↦{fullShare} fL) ∗ ((sC).view.loc (thr d L) ↦{fullShare} fC)
        ∗ semVal (thr d L, .dma cc0_scoped0.sem) 0 ∗ semVal (thr d L, .dma cc0_scoped1.sem) 0 ∗ semVal (thr d L, .dma cc0_scoped2.sem) 0
        ∗ owes (thr d L) O W : sProp 𝕄)
      ⊢ wp frame (wpE (defs₀ (F := F)) 𝒱₀ (thr d L) none) Set.univ
          (cc0__bucketize_body L xV (Memref.isWhole_whole _) nV (Memref.isWhole_whole _) lV (Memref.isWhole_whole _) sX (Memref.isWhole_whole _)
            sH (Memref.isWhole_whole _) sB (Memref.isWhole_whole _) sL (Memref.isWhole_whole _) sC (Memref.isWhole_whole _) cc0_scratch5 cc0_scoped0 cc0_scoped1 cc0_scoped2)
          fun _ => iprop(∃ fX' fH' fB' fL' fC' fn' fl' W', ⌜RowN L I fn' ∧ RowL L I fl'⌝
            ∗ ((xV).view.loc (thr d L) ↦{q} I)
            ∗ ((nRowK L).view.loc (thr d L) ↦[(nRowK L).view.set]{fullShare} fn')
            ∗ ((lRowK L).view.loc (thr d L) ↦[(lRowK L).view.set]{fullShare} fl')
            ∗ ((sX).view.loc (thr d L) ↦{fullShare} fX') ∗ ((sH).view.loc (thr d L) ↦{fullShare} fH') ∗ ((sB).view.loc (thr d L) ↦{fullShare} fB')
            ∗ ((sL).view.loc (thr d L) ↦{fullShare} fL') ∗ ((sC).view.loc (thr d L) ↦{fullShare} fC')
            ∗ semVal (thr d L, .dma cc0_scoped0.sem) 0 ∗ semVal (thr d L, .dma cc0_scoped1.sem) 0 ∗ semVal (thr d L, .dma cc0_scoped2.sem) 0
            ∗ owes (thr d L) O W') := by
  iintro ⟨#Hmw, Hx, Hn, Hl, HX, HH, HB, HL, HC, Hs0, Hs1, Hs2, HO⟩
  rw [cc0__bucketize_body_eq_skeleton]
  sl_unfold [cc0__bucketize_body_skel]
  rw [wp_bind]
  ihave Hwp := (part1_wp (F := F) d L I q O W fX fH fB fL) $$ [Hx HX HH HB HL Hs0 HO]
  · isplitr; · iexact Hmw
    isplitl [Hx]; · iexact Hx
    isplitl [HX]; · iexact HX
    isplitl [HH]; · iexact HH
    isplitl [HB]; · iexact HB
    isplitl [HL]; · iexact HL
    isplitl [Hs0]; · iexact Hs0
    iexact HO
  iapply (wp_wand_r frame _ Set.univ)
  isplitl [Hwp]; · iexact Hwp
  iintro %a H
  icases H with ⟨%v22, %W1, %ha, Hx, HX, HI, Hs0, HO⟩
  subst ha
  dsimp only
  rw [wp_bind]
  ihave Hwp := (part2_wp (F := F) d L I v22 k0_pay5 (cW L I 0)) $$ HI
  iapply (wp_wand_r frame _ Set.univ)
  isplitl [Hwp]; · iexact Hwp
  iintro %a H
  icases H with ⟨%v69, %ha, HI⟩
  subst ha
  dsimp only
  rw [wp_bind]
  ihave Hwp := (part3_wp (F := F) d L I v22 _ v69) $$ HI
  iapply (wp_wand_r frame _ Set.univ)
  isplitl [Hwp]; · iexact Hwp
  iintro %a H
  icases H with ⟨%v106, %ha, HI⟩
  subst ha
  dsimp only
  rw [wp_bind]
  ihave Hwp := (part4_wp (F := F) d L I v22 _ v106 O W1 fC fl) $$ [HI Hl HC Hs1 HO]
  · isplitr; · iexact Hmw
    isplitl [HI]; · iexact HI
    isplitl [Hl]; · iexact Hl
    isplitl [HC]; · iexact HC
    isplitl [Hs1]; · iexact Hs1
    iexact HO
  iapply (wp_wand_r frame _ Set.univ)
  isplitl [Hwp]; · iexact Hwp
  iintro %a H
  icases H with ⟨%fl', %W2, %hfl, HI, Hl, HC, Hs1, HO⟩
  ihave Hwp := (tail_wp (F := F) d L I O W2 _ (fun k => counts_lane (cW L I) k) fn) $$ [Hn HC Hs2 HO]
  · isplitr; · iexact Hmw
    isplitl [Hn]; · iexact Hn
    isplitl [HC]; · iexact HC
    isplitl [Hs2]; · iexact Hs2
    iexact HO
  iapply (wp_wand_r frame _ Set.univ)
  isplitl [Hwp]; · iexact Hwp
  iintro %a H
  icases H with ⟨%fn', %W3, %hfn, Hn, HC, Hs2, HO⟩
  unfold inv0
  icases HI with ⟨%f6, %f7, %f8, -, H6, H7, H8⟩
  iexists _; iexists _; iexists _; iexists _; iexists _; iexists _; iexists _; iexists _
  isplitr
  swap
  · isplitl [Hx]; · iexact Hx
    isplitl [Hn]; · iexact Hn
    isplitl [Hl]; · iexact Hl
    isplitl [HX]; · iexact HX
    isplitl [H6]; · iexact H6
    isplitl [H7]; · iexact H7
    isplitl [H8]; · iexact H8
    isplitl [HC]; · iexact HC
    isplitl [Hs0]; · iexact Hs0
    isplitl [Hs1]; · iexact Hs1
    isplitl [Hs2]; · iexact Hs2
    iexact HO
  ipureintro
  exact ⟨hfn, hfl⟩

end Cert.Proof.Bucket
-- ==== Proof.Rows.lean ====
/-
  The call of the bucketing kernel: what each core and each task is lent and gives back, and the tasks put together.
-/
module

public import proofs.«01_k».proof.Proof.Body

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

omit [FloatOps F] in
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The rows each task and each core has -/

/-- The counts of task `w`. -/
def nSet (w : ℕ) : Finset S256.Idx := Finset.univ.filter fun x => (x 0).val / 8 = w
/-- The lists of task `w`. -/
def lSet (w : ℕ) : Finset S256x256.Idx := Finset.univ.filter fun x => (x 0).val / 8 = w
/-- The counts of core `c`'s tasks. -/
def nCoreSet (c : ℕ) : Finset S256.Idx := Finset.univ.filter fun x => (x 0).val / 8 % 2 = c
/-- The lists of core `c`'s tasks. -/
def lCoreSet (c : ℕ) : Finset S256x256.Idx := Finset.univ.filter fun x => (x 0).val / 8 % 2 = c

/-- The counts, right on `S`. -/
def GoodN (I : S16384.Idx → BitVec 32) (S : Finset S256.Idx) (fn : S256.Idx → BitVec 32) : Prop :=
  ∀ x ∈ S, fn x = BitVec.ofNat 32 (bucket I (BitVec.ofNat 32 (x 0).val)).length
/-- The lists, right on `S` as far as they are written. -/
def GoodL (I : S16384.Idx → BitVec 32) (S : Finset S256x256.Idx) (fl : S256x256.Idx → BitVec 32) : Prop :=
  ∀ x ∈ S, ∀ h : (x 1).val < (bucket I (BitVec.ofNat 32 (x 0).val)).length, fl x = BitVec.ofNat 32 (bucket I (BitVec.ofNat 32 (x 0).val))[(x 1).val]

abbrev wNat (L : grid0.Coords) : ℕ := 2 * (L 1).val + (L 0).val

theorem wWord_eq (L : grid0.Coords) : wWord L = BitVec.ofNat 32 (wNat L) := by
  apply BitVec.eq_of_toNat_eq
  have h0 : (L 0).val < 2 := (L 0).isLt
  have h1 : (L 1).val < 16 := (L 1).isLt
  simp [wWord, wNat, Scalar.addi, Scalar.muli, IntOp.addi, IntOp.muli, BitVec.toNat_add, BitVec.toNat_mul]
  omega

theorem rWord_eq (L : grid0.Coords) (k : Fin 8) : rWord L k.val = BitVec.ofNat 32 (8 * wNat L + k.val) := by
  unfold rWord
  rw [wWord_eq]
  apply BitVec.eq_of_toNat_eq
  have h0 : (L 0).val < 2 := (L 0).isLt
  have h1 : (L 1).val < 16 := (L 1).isLt
  simp [wNat, Scalar.addi, Scalar.muli, IntOp.addi, IntOp.muli, BitVec.toNat_add, BitVec.toNat_mul]
  omega

theorem nRow_emb (L : grid0.Coords) (k : Fin 8) : (((nRowK L).view.emb (Fin.cons k finZeroElim) : S256.Idx) 0).val = 8 * wNat L + k.val := by
  show (k0_off19 L) 0 + 1 * k.val = _
  rw [k0_off19_eq]
  show 16 * (L 1).val + 8 * (L 0).val + 1 * k.val = _
  unfold wNat; omega
theorem lRow_emb0 (L : grid0.Coords) (k : Fin 8) (j : Fin 256) :
    (((lRowK L).view.emb (Fin.cons k (Fin.cons j finZeroElim)) : S256x256.Idx) 0).val = 8 * wNat L + k.val := by
  show (k0_off18 L) 0 + 1 * k.val = _
  rw [k0_off18_eq]
  show 16 * (L 1).val + 8 * (L 0).val + 1 * k.val = _
  unfold wNat; omega
theorem lRow_emb1 (L : grid0.Coords) (k : Fin 8) (j : Fin 256) :
    (((lRowK L).view.emb (Fin.cons k (Fin.cons j finZeroElim)) : S256x256.Idx) 1).val = j.val := by
  show (k0_off18 L) 1 + 1 * j.val = _
  rw [k0_off18_eq]
  show 0 + 1 * j.val = _
  omega

theorem idx1_eq (x : S8.Idx) : x = Fin.cons (x 0) finZeroElim := by
  funext a; obtain rfl : a = 0 := Fin.eq_zero a; rfl
theorem idx2_eq (x : S8x256.Idx) : x = Fin.cons (x 0) (Fin.cons (x 1) finZeroElim) := by
  funext a
  match a with
  | ⟨0, _⟩ => rfl
  | ⟨1, _⟩ => rfl

theorem mem_nRow (L : grid0.Coords) (y : S256.Idx) : y ∈ (nRowK L).view.set ↔ ∃ k : Fin 8, (nRowK L).view.emb (Fin.cons k finZeroElim) = y := by
  constructor
  · intro h
    obtain ⟨x, -, hx⟩ := Finset.mem_map.1 h
    exact ⟨x 0, by rw [← hx]; exact congrArg _ (idx1_eq x).symm⟩
  · rintro ⟨k, rfl⟩
    exact Finset.mem_map.2 ⟨_, Finset.mem_univ _, rfl⟩
theorem mem_lRow (L : grid0.Coords) (y : S256x256.Idx) :
    y ∈ (lRowK L).view.set ↔ ∃ k : Fin 8, ∃ j : Fin 256, (lRowK L).view.emb (Fin.cons k (Fin.cons j finZeroElim)) = y := by
  constructor
  · intro h
    obtain ⟨x, -, hx⟩ := Finset.mem_map.1 h
    exact ⟨x 0, x 1, by rw [← hx]; exact congrArg _ (idx2_eq x).symm⟩
  · rintro ⟨k, j, rfl⟩
    exact Finset.mem_map.2 ⟨_, Finset.mem_univ _, rfl⟩

theorem set_nRow (L : grid0.Coords) : (nRowK L).view.set = nSet (wNat L) := by
  ext y
  rw [mem_nRow, nSet, Finset.mem_filter]
  constructor
  · rintro ⟨k, rfl⟩
    refine ⟨Finset.mem_univ _, ?_⟩
    rw [nRow_emb]; omega
  · rintro ⟨-, h⟩
    refine ⟨⟨(y 0).val % 8, by omega⟩, ?_⟩
    funext a
    obtain rfl : a = 0 := Fin.eq_zero a
    apply Fin.ext
    rw [nRow_emb]
    show 8 * wNat L + (y 0).val % 8 = _
    omega
theorem set_lRow (L : grid0.Coords) : (lRowK L).view.set = lSet (wNat L) := by
  ext y
  rw [mem_lRow, lSet, Finset.mem_filter]
  constructor
  · rintro ⟨k, j, rfl⟩
    refine ⟨Finset.mem_univ _, ?_⟩
    rw [lRow_emb0]; omega
  · rintro ⟨-, h⟩
    refine ⟨⟨(y 0).val % 8, by omega⟩, y 1, ?_⟩
    funext a
    refine Fin.cases ?_ (fun b => ?_) a
    · apply Fin.ext
      refine (lRow_emb0 L ⟨(y 0).val % 8, by omega⟩ (y 1)).trans ?_
      show 8 * wNat L + (y 0).val % 8 = _
      omega
    · obtain rfl : b = 0 := Fin.eq_zero b
      apply Fin.ext
      exact lRow_emb1 L _ _

theorem goodN_of (L : grid0.Coords) (I : S16384.Idx → BitVec 32) (fn : S256.Idx → BitVec 32) (h : RowN L I fn) : GoodN I (nSet (wNat L)) fn := by
  intro y hy
  rw [← set_nRow, mem_nRow] at hy
  obtain ⟨k, rfl⟩ := hy
  rw [h k, nRow_emb, ← rWord_eq]
set_option maxRecDepth 20000 in
theorem goodL_of (L : grid0.Coords) (I : S16384.Idx → BitVec 32) (fl : S256x256.Idx → BitVec 32) (h : RowL L I fl) : GoodL I (lSet (wNat L)) fl := by
  intro y hy
  rw [← set_lRow, mem_lRow] at hy
  obtain ⟨k, j, rfl⟩ := hy
  have h' := h k j
  have key : ∀ (r c : ℕ), r = 8 * wNat L + k.val → c = j.val → ∀ hc : c < (bucket I (BitVec.ofNat 32 r)).length,
      fl ((lRowK L).view.emb (Fin.cons k (Fin.cons j finZeroElim))) = BitVec.ofNat 32 (bucket I (BitVec.ofNat 32 r))[c] := by
    rintro r c rfl rfl hc
    have key2 : ∀ B, B = bucket I (rWord L k.val) → ∀ hB : j.val < B.length,
        fl ((lRowK L).view.emb (Fin.cons k (Fin.cons j finZeroElim))) = BitVec.ofNat 32 B[j.val] := by
      rintro B rfl hB; exact h' hB
    exact key2 _ (by rw [rWord_eq]) hc
  exact key _ _ (lRow_emb0 L k j) (lRow_emb1 L k j)

end Cert.Proof.Bucket
-- ==== Proof.Call.lean ====
/-
  What the call of the bucketing kernel is lent and gives back, and its obligations.
-/
module

public import proofs.«01_k».proof.Proof.Rows

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]

variable (m : (ℓ : Loc nD τ sig) → Buf (Elt F) ℓ)

/-- Core `c`'s read share of the indices, and task `(c, i)`'s. -/
abbrev shC (c : ℕ) : PosShare TreeShare := Transfers.shareTokN fullShare c
abbrev shT (c i : ℕ) : PosShare TreeShare := Transfers.shareTokN (shC c) i

abbrev xC (d : Dev nD) (c : ℕ) : sProp 𝕄 := xLoc d ↦{shC c} m (xLoc d)
abbrev xT (d : Dev nD) (c i : ℕ) : sProp 𝕄 := xLoc d ↦{shT c i} m (xLoc d)
abbrev nPts (d : Dev nD) (S : Finset S256.Idx) (f : Buf (Elt F) (nLoc d)) : sProp 𝕄 := nLoc d ↦[S]{fullShare} f
abbrev lPts (d : Dev nD) (S : Finset S256x256.Idx) (f : Buf (Elt F) (lLoc d)) : sProp 𝕄 := lLoc d ↦[S]{fullShare} f
/-- The counts on `S`, right; the lists on `S`, right. -/
abbrev nDone (d : Dev nD) (S : Finset S256.Idx) : sProp 𝕄 := iprop(∃ f, ⌜GoodN (m (xLoc d)) S f⌝ ∗ nPts d S f)
abbrev lDone (d : Dev nD) (S : Finset S256x256.Idx) : sProp 𝕄 := iprop(∃ f, ⌜GoodL (m (xLoc d)) S f⌝ ∗ lPts d S f)

abbrev coreIn (d : Dev nD) (c : ℕ) : sProp 𝕄 := iprop(xC m d c ∗ nPts d (nCoreSet c) (m (nLoc d)) ∗ lPts d (lCoreSet c) (m (lLoc d)))
abbrev coreOut (d : Dev nD) (c : ℕ) : sProp 𝕄 := iprop(xC m d c ∗ nDone m d (nCoreSet c) ∗ lDone m d (lCoreSet c))
abbrev taskIn (d : Dev nD) (c i : ℕ) : sProp 𝕄 := iprop(xT m d c i ∗ nPts d (nSet (2 * i + c)) (m (nLoc d)) ∗ lPts d (lSet (2 * i + c)) (m (lLoc d)))
abbrev taskOut (d : Dev nD) (c i : ℕ) : sProp 𝕄 := iprop(xT m d c i ∗ nDone m d (nSet (2 * i + c)) ∗ lDone m d (lSet (2 * i + c)))

def P : (K (F := F)).Pay (nD := nD) (Val := Elt F) (Name := ℕ) (U := UU) where
  st := fun q d c => match q with | 0 => coreIn m d c.val
  dn := fun q d c => match q with | 0 => coreOut m d c.val
  go := fun q d c i => match q with | 0 => taskIn m d c.val i.val
  td := fun q d c i => match q with | 0 => taskOut m d c.val i.val
  x := fun _ _ => iprop(emp)

instance P_storable : (P (F := F) m).IsStorable where
  st q d c := match q with
    | 0 => (inferInstance : BI.Storable (upEmb : UEmb _ 𝕄) (coreIn m d c.val))
  dn q d c := match q with
    | 0 => (inferInstance : BI.Storable (upEmb : UEmb _ 𝕄) (coreOut m d c.val))
  go q d c i := match q with
    | 0 => (inferInstance : BI.Storable (upEmb : UEmb _ 𝕄) (taskIn m d c.val i.val))
  td q d c i := match q with
    | 0 => (inferInstance : BI.Storable (upEmb : UEmb _ 𝕄) (taskOut m d c.val i.val))

/-! ## The task -/

abbrev c0cell (d : Dev nD) (L : grid0.Coords) : GSem nD τ sig := (thr d L, .dma cc0_scoped0.sem)
abbrev c1cell (d : Dev nD) (L : grid0.Coords) : GSem nD τ sig := (thr d L, .dma cc0_scoped1.sem)
abbrev c2cell (d : Dev nD) (L : grid0.Coords) : GSem nD τ sig := (thr d L, .dma cc0_scoped2.sem)

omit [FloatOps F] in
theorem ownSems0_V (d : Dev nD) (L : grid0.Coords) :
    (ownSems0 (thr d L) : sProp 𝕄)
      = iprop(semVal (c0cell d L) 0 ∗ semVal (c1cell d L) 0 ∗ semVal (c2cell d L) 0
          ∗ bigSep ((((ownCells (thr d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

abbrev rf (L : grid0.Coords) (b : Ref sig .scVector) : DevRef τ sig := (Proc.scVector (cV L) (jV L)).devRef b

omit [FloatOps F] in
theorem ownBufs_V (d : Dev nD) (L : grid0.Coords) :
    (ownBufs (thr d L) : sProp 𝕄)
      = iprop((∃ f, (sX).view.loc (thr d L) ↦{fullShare} f) ∗ (∃ f, (sH).view.loc (thr d L) ↦{fullShare} f)
          ∗ (∃ f, (sB).view.loc (thr d L) ↦{fullShare} f) ∗ (∃ f, (sL).view.loc (thr d L) ↦{fullShare} f) ∗ (∃ f, (sC).view.loc (thr d L) ↦{fullShare} f)
          ∗ bigSep ((((((ownRefs (τ := τ) (.scVector (cV L) (jV L))).erase (rf L cc0_scratch0)).erase (rf L cc0_scratch1)).erase (rf L cc0_scratch2)).erase
              (rf L cc0_scratch3)).erase (rf L cc0_scratch4))
              fun b => iprop(∃ f, ((d, b) : Loc nD τ sig) ↦{fullShare} f)) := by
  have ne : ∀ a b : Ref sig .scVector, a ≠ b → rf L a ≠ rf L b := fun a b h e => h (Proc.devRef_injective _ e)
  unfold SparseCore.Cfg.ownBufs
  refine (SparseCore.bigSep_erase' (SparseCore.Cfg.mem_ownRefs_of_owner (p := Proc.scVector (cV L) (jV L)) (b := rf L cc0_scratch0) rfl)).trans ?_
  rw [SparseCore.bigSep_erase' (i := rf L cc0_scratch1) (Finset.mem_erase.mpr ⟨ne _ _ (by decide),
      SparseCore.Cfg.mem_ownRefs_of_owner (p := Proc.scVector (cV L) (jV L)) (b := rf L cc0_scratch1) rfl⟩),
    SparseCore.bigSep_erase' (i := rf L cc0_scratch2) (Finset.mem_erase.mpr ⟨ne _ _ (by decide), Finset.mem_erase.mpr ⟨ne _ _ (by decide),
      SparseCore.Cfg.mem_ownRefs_of_owner (p := Proc.scVector (cV L) (jV L)) (b := rf L cc0_scratch2) rfl⟩⟩),
    SparseCore.bigSep_erase' (i := rf L cc0_scratch3) (Finset.mem_erase.mpr ⟨ne _ _ (by decide), Finset.mem_erase.mpr ⟨ne _ _ (by decide), Finset.mem_erase.mpr ⟨ne _ _ (by decide),
      SparseCore.Cfg.mem_ownRefs_of_owner (p := Proc.scVector (cV L) (jV L)) (b := rf L cc0_scratch3) rfl⟩⟩⟩),
    SparseCore.bigSep_erase' (i := rf L cc0_scratch4) (Finset.mem_erase.mpr ⟨ne _ _ (by decide), Finset.mem_erase.mpr ⟨ne _ _ (by decide), Finset.mem_erase.mpr ⟨ne _ _ (by decide),
      Finset.mem_erase.mpr ⟨ne _ _ (by decide), SparseCore.Cfg.mem_ownRefs_of_owner (p := Proc.scVector (cV L) (jV L)) (b := rf L cc0_scratch4) rfl⟩⟩⟩⟩)]

omit [FloatOps F] in
theorem pts_n (d : Dev nD) (L : grid0.Coords) (f : Buf (Elt F) (nLoc d)) :
    ((nRowK L).view.loc (thr d L) ↦[(nRowK L).view.set]{fullShare} f : sProp 𝕄) = nPts d (nSet (wNat L)) f := by
  rw [set_nRow]
omit [FloatOps F] in
theorem pts_l (d : Dev nD) (L : grid0.Coords) (f : Buf (Elt F) (lLoc d)) :
    ((lRowK L).view.loc (thr d L) ↦[(lRowK L).view.set]{fullShare} f : sProp 𝕄) = lPts d (lSet (wNat L)) f := by
  rw [set_lRow]

theorem tile_body (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp
        ∗ taskIn m d (L 0).val (L 1).val
        ∗ scopedBufs (thr d L) ∗ scopedSems0 (thr d L) ∗ owes (thr d L) O W)
      ⊢ wp frame (wpE (defs₀ (F := F)) 𝒱₀ (thr d L) none) Set.univ
          (cc0__bucketize_body L xV (Memref.isWhole_whole _) nV (Memref.isWhole_whole _) lV (Memref.isWhole_whole _) sX (Memref.isWhole_whole _)
            sH (Memref.isWhole_whole _) sB (Memref.isWhole_whole _) sL (Memref.isWhole_whole _) sC (Memref.isWhole_whole _) cc0_scratch5 cc0_scoped0 cc0_scoped1 cc0_scoped2)
          fun _ => iprop(taskOut m d (L 0).val (L 1).val
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hx, Hn, Hl⟩, ⟨⟨%fX, HX⟩, ⟨%fH, HH⟩, ⟨%fB, HB⟩, ⟨%fL, HL⟩, ⟨%fC, HC⟩, Hbufs⟩, ⟨Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hn' := (Entails.of_eq (pts_n (F := F) d L _).symm) $$ Hn
  ihave Hl' := (Entails.of_eq (pts_l (F := F) d L _).symm) $$ Hl
  ihave Hwp := (body_wp (F := F) d L (m (xLoc d)) (shT (L 0).val (L 1).val) O W fX fH fB fL fC (m (nLoc d)) (m (lLoc d)))
      $$ [Hmw Hx Hn' Hl' HX HH HB HL HC Hs0 Hs1 Hs2 HO]
  · isplitl [Hmw]; · iexact Hmw
    isplitl [Hx]; · iexact Hx
    isplitl [Hn']; · iexact Hn'
    isplitl [Hl']; · iexact Hl'
    isplitl [HX]; · iexact HX
    isplitl [HH]; · iexact HH
    isplitl [HB]; · iexact HB
    isplitl [HL]; · iexact HL
    isplitl [HC]; · iexact HC
    isplitl [Hs0]; · iexact Hs0
    isplitl [Hs1]; · iexact Hs1
    isplitl [Hs2]; · iexact Hs2
    iexact HO
  iapply (wp_wand_r frame _ Set.univ)
  isplitl [Hwp]; · iexact Hwp
  iintro %a H
  icases H with ⟨%fX', %fH', %fB', %fL', %fC', %fn', %fl', %W', %hg, Hx, Hn, Hl, HX, HH, HB, HL, HC, Hs0, Hs1, Hs2, HO⟩
  isplitl [Hx Hn Hl]
  · isplitl [Hx]; · iexact Hx
    isplitl [Hn]
    · iexists fn'
      isplitr; · ipureintro; exact goodN_of L _ _ hg.1
      iapply (Entails.of_eq (pts_n (F := F) d L _)); iexact Hn
    iexists fl'
    isplitr; · ipureintro; exact goodL_of L _ _ hg.2
    iapply (Entails.of_eq (pts_l (F := F) d L _)); iexact Hl
  isplitl [HX HH HB HL HC Hbufs]
  · isplitl [HX]; · iexists _; iexact HX
    isplitl [HH]; · iexists _; iexact HH
    isplitl [HB]; · iexists _; iexact HB
    isplitl [HL]; · iexists _; iexact HL
    isplitl [HC]; · iexists _; iexact HC
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  ipureintro; intro p _
  rcases p.2 with _ | q
  · exact .inr (.inl rfl)
  · exact .inr (.inr (congrArg some (Subsingleton.elim q 0)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__bucketize_body (coordsV c s) xV (Memref.isWhole_whole _) nV (Memref.isWhole_whole _) lV (Memref.isWhole_whole _)
          sX (Memref.isWhole_whole _) sH (Memref.isWhole_whole _) sB (Memref.isWhole_whole _) sL (Memref.isWhole_whole _) sC (Memref.isWhole_whole _)
          cc0_scratch5 cc0_scoped0 cc0_scoped1 cc0_scoped2) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hF d (coordsV ⟨_, hci.1⟩ ⟨_, hci.2⟩) O W hO

end Cert.Proof.Bucket
-- ==== Proof.Split.lean ====
/-
  The rows of the counts and the lists split among the tasks and joined again, and the call seen from the cores.
-/
module

public import proofs.«01_k».proof.Proof.Call
public import proofs.«01_k».proof.Proof.Gen.KernelIdeal.Launch

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]

variable (m : (ℓ : Loc nD τ sig) → Buf (Elt F) ℓ)

/-! ## Which rows -/

theorem nSet_disj (c : ℕ) : ∀ i ∈ (Finset.univ : Finset (Fin 16)), ∀ j ∈ (Finset.univ : Finset (Fin 16)), i ≠ j → Disjoint (nSet (2 * i.val + c)) (nSet (2 * j.val + c)) := by
  intro i _ j _ h
  refine Finset.disjoint_left.mpr fun x hx hy => h (Fin.ext ?_)
  have h1 := (Finset.mem_filter.mp hx).2
  have h2 := (Finset.mem_filter.mp hy).2
  omega
theorem lSet_disj (c : ℕ) : ∀ i ∈ (Finset.univ : Finset (Fin 16)), ∀ j ∈ (Finset.univ : Finset (Fin 16)), i ≠ j → Disjoint (lSet (2 * i.val + c)) (lSet (2 * j.val + c)) := by
  intro i _ j _ h
  refine Finset.disjoint_left.mpr fun x hx hy => h (Fin.ext ?_)
  have h1 := (Finset.mem_filter.mp hx).2
  have h2 := (Finset.mem_filter.mp hy).2
  omega
theorem nSet_cover (c : ℕ) (hc : c < 2) : (Finset.univ : Finset (Fin 16)).biUnion (fun i => nSet (2 * i.val + c)) = nCoreSet c := by
  ext x
  have hx : (x 0).val < 256 := (x 0).isLt
  simp only [Finset.mem_biUnion, Finset.mem_univ, true_and, nSet, nCoreSet, Finset.mem_filter]
  constructor
  · rintro ⟨i, h⟩; omega
  · intro h; exact ⟨⟨(x 0).val / 8 / 2, by omega⟩, by show _ = 2 * ((x 0).val / 8 / 2) + c; omega⟩
theorem lSet_cover (c : ℕ) (hc : c < 2) : (Finset.univ : Finset (Fin 16)).biUnion (fun i => lSet (2 * i.val + c)) = lCoreSet c := by
  ext x
  have hx : (x 0).val < 256 := (x 0).isLt
  simp only [Finset.mem_biUnion, Finset.mem_univ, true_and, lSet, lCoreSet, Finset.mem_filter]
  constructor
  · rintro ⟨i, h⟩; omega
  · intro h; exact ⟨⟨(x 0).val / 8 / 2, by omega⟩, by show _ = 2 * ((x 0).val / 8 / 2) + c; omega⟩
theorem nCore_disj : ∀ i ∈ (Finset.univ : Finset (Fin 2)), ∀ j ∈ (Finset.univ : Finset (Fin 2)), i ≠ j → Disjoint (nCoreSet i.val) (nCoreSet j.val) := by
  intro i _ j _ h
  refine Finset.disjoint_left.mpr fun x hx hy => h (Fin.ext ?_)
  have h1 := (Finset.mem_filter.mp hx).2
  have h2 := (Finset.mem_filter.mp hy).2
  omega
theorem lCore_disj : ∀ i ∈ (Finset.univ : Finset (Fin 2)), ∀ j ∈ (Finset.univ : Finset (Fin 2)), i ≠ j → Disjoint (lCoreSet i.val) (lCoreSet j.val) := by
  intro i _ j _ h
  refine Finset.disjoint_left.mpr fun x hx hy => h (Fin.ext ?_)
  have h1 := (Finset.mem_filter.mp hx).2
  have h2 := (Finset.mem_filter.mp hy).2
  omega
theorem nCore_cover : (Finset.univ : Finset (Fin 2)).biUnion (fun i => nCoreSet i.val) = Finset.univ := by
  ext x
  simp only [Finset.mem_biUnion, Finset.mem_univ, true_and, nCoreSet, Finset.mem_filter, iff_true]
  exact ⟨⟨(x 0).val / 8 % 2, by omega⟩, rfl⟩
theorem lCore_cover : (Finset.univ : Finset (Fin 2)).biUnion (fun i => lCoreSet i.val) = Finset.univ := by
  ext x
  simp only [Finset.mem_biUnion, Finset.mem_univ, true_and, lCoreSet, Finset.mem_filter, iff_true]
  exact ⟨⟨(x 0).val / 8 % 2, by omega⟩, rfl⟩

/-! ## Joining what the parts leave -/

theorem nJoin {n : ℕ} (d : Dev nD) (S : Fin n → Finset S256.Idx) (T : Finset S256.Idx) (i₀ : Fin n)
    (hd : ∀ i ∈ (Finset.univ : Finset (Fin n)), ∀ j ∈ (Finset.univ : Finset (Fin n)), i ≠ j → Disjoint (S i) (S j)) (hc : Finset.univ.biUnion S = T) :
    (bigSep Finset.univ fun i : Fin n => nDone m d (S i)) ⊢ (nDone m d T : sProp 𝕄) := by
  refine (bigSep_exists_pi Finset.univ (fun i (f : Buf (Elt F) (nLoc d)) => iprop(⌜GoodN (m (xLoc d)) (S i) f⌝ ∗ nPts d (S i) f))).trans ?_
  iintro ⟨%fs, H⟩
  ihave H := (bigSep_pure_sep Finset.univ (fun i => GoodN (m (xLoc d)) (S i) (fs i)) (fun i => nPts d (S i) (fs i))) $$ H
  icases H with ⟨%hg, H⟩
  have : Nonempty (Buf (Elt F) (nLoc d)) := ⟨fs i₀⟩
  ihave H' := (pointsTo_biUnion_join (ℓ := nLoc d) (q := fullShare) (Val := Elt F) Finset.univ S fs (fs i₀) hd) $$ H
  icases H' with ⟨%g, %hgf, Hg⟩
  rw [hc]
  iexists g
  isplitr
  · ipureintro
    intro x hx
    rw [← hc] at hx
    obtain ⟨i, hi, hxi⟩ := Finset.mem_biUnion.1 hx
    rw [hgf i hi x hxi]
    exact hg i hi x hxi
  iexact Hg
theorem lJoin {n : ℕ} (d : Dev nD) (S : Fin n → Finset S256x256.Idx) (T : Finset S256x256.Idx) (i₀ : Fin n)
    (hd : ∀ i ∈ (Finset.univ : Finset (Fin n)), ∀ j ∈ (Finset.univ : Finset (Fin n)), i ≠ j → Disjoint (S i) (S j)) (hc : Finset.univ.biUnion S = T) :
    (bigSep Finset.univ fun i : Fin n => lDone m d (S i)) ⊢ (lDone m d T : sProp 𝕄) := by
  refine (bigSep_exists_pi Finset.univ (fun i (f : Buf (Elt F) (lLoc d)) => iprop(⌜GoodL (m (xLoc d)) (S i) f⌝ ∗ lPts d (S i) f))).trans ?_
  iintro ⟨%fs, H⟩
  ihave H := (bigSep_pure_sep Finset.univ (fun i => GoodL (m (xLoc d)) (S i) (fs i)) (fun i => lPts d (S i) (fs i))) $$ H
  icases H with ⟨%hg, H⟩
  have : Nonempty (Buf (Elt F) (lLoc d)) := ⟨fs i₀⟩
  ihave H' := (pointsTo_biUnion_join (ℓ := lLoc d) (q := fullShare) (Val := Elt F) Finset.univ S fs (fs i₀) hd) $$ H
  icases H' with ⟨%g, %hgf, Hg⟩
  rw [hc]
  iexists g
  isplitr
  · ipureintro
    intro x hx
    rw [← hc] at hx
    obtain ⟨i, hi, hxi⟩ := Finset.mem_biUnion.1 hx
    intro hlt
    rw [hgf i hi x hxi]
    exact hg i hi x hxi hlt
  iexact Hg

omit [FloatOps F] in
theorem nSplit {n : ℕ} (d : Dev nD) (S : Fin n → Finset S256.Idx) (T : Finset S256.Idx) (f : Buf (Elt F) (nLoc d))
    (hd : ∀ i ∈ (Finset.univ : Finset (Fin n)), ∀ j ∈ (Finset.univ : Finset (Fin n)), i ≠ j → Disjoint (S i) (S j)) (hc : Finset.univ.biUnion S = T) :
    (nPts d T f : sProp 𝕄) = bigSep Finset.univ fun i : Fin n => nPts d (S i) f := by
  rw [← pointsTo_biUnion Finset.univ (ℓ := nLoc d) S hd, hc]
omit [FloatOps F] in
theorem lSplit {n : ℕ} (d : Dev nD) (S : Fin n → Finset S256x256.Idx) (T : Finset S256x256.Idx) (f : Buf (Elt F) (lLoc d))
    (hd : ∀ i ∈ (Finset.univ : Finset (Fin n)), ∀ j ∈ (Finset.univ : Finset (Fin n)), i ≠ j → Disjoint (S i) (S j)) (hc : Finset.univ.biUnion S = T) :
    (lPts d T f : sProp 𝕄) = bigSep Finset.univ fun i : Fin n => lPts d (S i) f := by
  rw [← pointsTo_biUnion Finset.univ (ℓ := lLoc d) S hd, hc]
omit [FloatOps F] in
theorem xSplit (d : Dev nD) (q : PosShare TreeShare) (n : ℕ) (f : Buf (Elt F) (xLoc d)) :
    (xLoc d ↦{q} f : sProp 𝕄) = iprop((xLoc d ↦{Transfers.shareDrop q n} f) ∗ bigSep Finset.univ fun i : Fin n => xLoc d ↦{Transfers.shareTokN q i.val} f) :=
  BI.equiv_iff.mp ⟨(Transfers.pointsTo_toks (ℓ := xLoc d) (S := Finset.univ) (f := f) q n).1, (Transfers.pointsTo_toks (ℓ := xLoc d) (S := Finset.univ) (f := f) q n).2⟩

/-! ## A core's tasks, and the two cores -/

theorem vecSplit : (K (F := F)).VecSplit' (P m) 0 := by
  intro d c
  have hc : c.val < 2 := c.isLt
  show (coreIn m d c.val : sProp 𝕄) ⊢ |={Set.univ}=> iprop(
      (bigSep Finset.univ fun i : Fin 16 => taskIn m d c.val i.val)
      ∗ ((bigSep Finset.univ fun i : Fin 16 => taskOut m d c.val i.val) -∗ coreOut m d c.val))
  simp only [taskIn, taskOut, coreIn, coreOut]
  rw [bigSep_sep', bigSep_sep', bigSep_sep', bigSep_sep']
  rw [show (xC m d c.val : sProp 𝕄) = _ from xSplit d (shC c.val) 16 (m (xLoc d)),
    nSplit d _ _ (m (nLoc d)) (nSet_disj c.val) (nSet_cover c.val hc), lSplit d _ _ (m (lLoc d)) (lSet_disj c.val) (lSet_cover c.val hc)]
  iintro ⟨⟨Hd, Hx⟩, Hn, Hl⟩
  imodintro
  isplitl [Hx Hn Hl]
  · isplitl [Hx]; · iexact Hx
    isplitl [Hn]; · iexact Hn
    iexact Hl
  iintro ⟨Hx, Hn, Hl⟩
  isplitl [Hd Hx]
  · isplitl [Hd]; · iexact Hd
    iexact Hx
  isplitl [Hn]
  · iapply (nJoin m d (fun i : Fin 16 => nSet (2 * i.val + c.val)) _ 0 (nSet_disj c.val) (nSet_cover c.val hc)); iexact Hn
  iapply (lJoin m d (fun i : Fin 16 => lSet (2 * i.val + c.val)) _ 0 (lSet_disj c.val) (lSet_cover c.val hc)); iexact Hl

/-- What the call is lent: the indices' read tokens for the two cores, the counts and the lists. -/
theorem st0_of (d : Dev nD) :
    iprop((xLoc d ↦{fullShare} m (xLoc d)) ∗ (nLoc d ↦{fullShare} m (nLoc d)) ∗ (lLoc d ↦{fullShare} m (lLoc d)) : sProp 𝕄)
      ⊢ iprop((xLoc d ↦{Transfers.shareDrop fullShare 2} m (xLoc d)) ∗ bigSep Finset.univ fun c : Fin ((K (F := F)).nCore 0) => (P m).st 0 d c) := by
  show _ ⊢ iprop(_ ∗ bigSep Finset.univ fun c : Fin 2 => coreIn m d c.val)
  simp only [coreIn]
  rw [bigSep_sep', bigSep_sep', xSplit d fullShare 2 (m (xLoc d)),
    show (nLoc d ↦{fullShare} m (nLoc d) : sProp 𝕄) = _ from nSplit d (fun c : Fin 2 => nCoreSet c.val) Finset.univ (m (nLoc d)) nCore_disj nCore_cover,
    show (lLoc d ↦{fullShare} m (lLoc d) : sProp 𝕄) = _ from lSplit d (fun c : Fin 2 => lCoreSet c.val) Finset.univ (m (lLoc d)) lCore_disj lCore_cover]
  iintro ⟨⟨Hd, Hx⟩, Hn, Hl⟩
  isplitl [Hd]; · iexact Hd
  isplitl [Hx]; · iexact Hx
  isplitl [Hn]; · iexact Hn
  iexact Hl

/-- What the call leaves: the indices, the counts right, the lists right as far as they are written. -/
theorem dn0_to (d : Dev nD) :
    iprop((xLoc d ↦{Transfers.shareDrop fullShare 2} m (xLoc d)) ∗ bigSep Finset.univ fun c : Fin ((K (F := F)).nCore 0) => (P m).dn 0 d c : sProp 𝕄)
      ⊢ iprop((xLoc d ↦{fullShare} m (xLoc d)) ∗ nDone m d Finset.univ ∗ lDone m d Finset.univ) := by
  show iprop(_ ∗ bigSep Finset.univ fun c : Fin 2 => coreOut m d c.val) ⊢ _
  simp only [coreOut]
  rw [bigSep_sep', bigSep_sep', xSplit d fullShare 2 (m (xLoc d))]
  iintro ⟨Hd, Hx, Hn, Hl⟩
  isplitl [Hd Hx]
  · isplitl [Hd]; · iexact Hd
    iexact Hx
  isplitl [Hn]
  · iapply (nJoin m d (fun c : Fin 2 => nCoreSet c.val) _ 0 nCore_disj nCore_cover); iexact Hn
  iapply (lJoin m d (fun c : Fin 2 => lCoreSet c.val) _ 0 lCore_disj lCore_cover); iexact Hl

/-! ## The launch element -/

/-- Some contents of the tables, at which the launch deals the pipelines' ghost state. -/
def a₀ : (p : Fin 2) → (pcfgs (F := F) p).Adm
  | ⟨0, _⟩ => ⟨fun k => match k with | 0 => fun _ => 0#32 | 1 => fun _ => 0#32 | 2 => fun _ => 0#32 | ⟨_ + 3, h⟩ => absurd h (Nat.not_lt.2 (Nat.le_add_left _ _)), trivial⟩
  | ⟨1, _⟩ => ⟨fun k => k.elim0, trivial⟩

/-- The pipelines' rounds within the machine's resources. -/
abbrev EP : Emb UP 𝕄 := (Emb.inl : Emb UP (UP × Counters)).trans embR

theorem pinj : Function.Injective (Pipeline.PerCore.cellOf (nD := nD) (τ := τ) (Pipeline.pinD (pcfgs (F := F)) fun _ => a₀)) := cellOf_inj a₀

def u₀ : UU := (initOf (K (F := F)).hsCells (K (F := F)).hsToks,
  (initOf (Pipeline.PerCore.cells (Pipeline.pinD (pcfgs (F := F)) fun _ => a₀) pinj) (Pipeline.PerCore.launchToks (Pipeline.pinD (pcfgs (F := F)) fun _ => a₀) pinj), 1))

/-- The pipelines' ghost state dealt to a core. -/
def G (c : Dev nD) : sProp 𝕄 :=
  iprop((bigSep Finset.univ fun p => Pipeline.PerCore.cellsGhost (Pipeline.pinD (pcfgs (F := F)) fun _ => a₀) EP p c)
    ∗ bigSep Finset.univ fun p => Pipeline.PerCore.toksInit (Pipeline.pinD (pcfgs (F := F)) fun _ => a₀) EP p c)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave HR := (own_pair_emb (embR : Emb (UP × Counters) 𝕄) _ _) $$ HR
  icases HR with ⟨HP, -⟩
  imod (Pipeline.PerCore.fund_ghost (Pipeline.pinD (pcfgs (F := F)) fun _ => a₀) EP pinj) $$ HP with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof.Bucket
-- ==== Proof.Held.lean ====
/-
  @main's run: the bucketing call from the buffers @main holds.
-/
module

public import proofs.«01_k».proof.Proof.Split
public import Idealize.ShloMosaic.Lib.SparseCore.Quiescent

@[expose] public section

noncomputable section

namespace Cert.Proof.Bucket

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "xV" => (Memref.whole Cert.KernelIdeal.main_arg1_scv : Memref Cert.KernelIdeal.sig Kind.scVector Space.hbm Cert.KernelIdeal.S16384 EltTy.i32)
local notation "nV" => (Memref.whole Cert.KernelIdeal.main_v3_0_scv : Memref Cert.KernelIdeal.sig Kind.scVector Space.hbm Cert.KernelIdeal.S256 EltTy.i32)
local notation "lV" => (Memref.whole Cert.KernelIdeal.main_v3_1_scv : Memref Cert.KernelIdeal.sig Kind.scVector Space.hbm Cert.KernelIdeal.S256x256 EltTy.i32)
local notation "sX" => (Memref.whole Cert.KernelIdeal.cc0_scratch0 : Memref Cert.KernelIdeal.sig Kind.scVector Space.vmem Cert.KernelIdeal.S16384 EltTy.i32)
local notation "sH" => (Memref.whole Cert.KernelIdeal.cc0_scratch1 : Memref Cert.KernelIdeal.sig Kind.scVector Space.vmem Cert.KernelIdeal.S16416 EltTy.i32)
local notation "sB" => (Memref.whole Cert.KernelIdeal.cc0_scratch2 : Memref Cert.KernelIdeal.sig Kind.scVector Space.vmem Cert.KernelIdeal.S16416 EltTy.i32)
local notation "sL" => (Memref.whole Cert.KernelIdeal.cc0_scratch3 : Memref Cert.KernelIdeal.sig Kind.scVector Space.vmem Cert.KernelIdeal.S8x272 EltTy.i32)
local notation "sC" => (Memref.whole Cert.KernelIdeal.cc0_scratch4 : Memref Cert.KernelIdeal.sig Kind.scVector Space.vmem Cert.KernelIdeal.S16 EltTy.i32)

variable [FloatOps F]

variable (m : (ℓ : Loc nD τ sig) → Buf (Elt F) ℓ)

/-! ## The call, from the buffers @main holds -/

abbrev rX : DevRef τ sig := Proc.devRef .tc main_arg1
abbrev rN : DevRef τ sig := Proc.devRef .tc main_v3_0
abbrev rL : DevRef τ sig := Proc.devRef .tc main_v3_1

/-- The three buffers the call works on. -/
def callRefs : Finset (DevRef τ sig) := {rX, rN, rL}

theorem callRefs_sub : callRefs ⊆ Pipeline.ucRefs τ sig := by
  intro b hb
  simp only [callRefs, Finset.mem_insert, Finset.mem_singleton] at hb
  rcases hb with rfl | rfl | rfl
  · exact Finset.mem_filter.mpr ⟨StableHlo.devRef_mem_tcRefs _, by decide⟩
  · exact Finset.mem_filter.mpr ⟨StableHlo.devRef_mem_tcRefs _, by decide⟩
  · exact Finset.mem_filter.mpr ⟨StableHlo.devRef_mem_tcRefs _, by decide⟩

omit [FloatOps F] in
theorem held_call (d : Dev nD) (W : Valuation τ sig (Elt F)) :
    (StableHlo.held (d.tc : Thread nD τ) callRefs W : sProp 𝕄)
      = iprop((xLoc d ↦{fullShare} W rX) ∗ (nLoc d ↦{fullShare} W rN) ∗ lLoc d ↦{fullShare} W rL) := by
  unfold StableHlo.held callRefs
  rw [SparseCore.bigSep_insert' (by decide), SparseCore.bigSep_insert' (by decide), bigSep_singleton]

/-- What the call does to the buffers: the counts right, the lists right as far as they are written, the rest as it was. -/
def Called (I : S16384.Idx → BitVec 32) (W W' : Valuation τ sig (Elt F)) : Prop :=
  (∀ b, b ≠ rN → b ≠ rL → W' b = W b) ∧ GoodN I Finset.univ (W' rN) ∧ GoodL I Finset.univ (W' rL)

/-- The call within the buffers @main holds, from a valuation with the call's three buffers as at launch. -/
theorem call_wp (κ : GSem nD τ sig → ℕ) (d : Dev nD) (W : Valuation τ sig (Elt F)) (hx : W rX = m (xLoc d)) (hn : W rN = m (nLoc d)) (hl : W rL = m (lLoc d))
    (Ψ : PUnit → sProp 𝕄) :
    iprop((K (F := F)).ctx EH (P m) κ ∗ (K (F := F)).tcSt EH d 0 ∗ StableHlo.held (d.tc : Thread nD τ) (Pipeline.ucRefs τ sig) W
        ∗ ((K (F := F)).tcSt EH d 1 -∗ (∃ W', ⌜Called (m (xLoc d)) W W'⌝ ∗ StableHlo.held (d.tc : Thread nD τ) (Pipeline.ucRefs τ sig) W') -∗ Ψ ⟨⟩))
      ⊢ wp frame (wpE ((K (F := F)).defs (D (F := F))) 𝒱 (SparseCore.T d) none) Set.univ ((K (F := F)).run d 0) Ψ := by
  rw [StableHlo.held_sub_split (d.tc : Thread nD τ) callRefs_sub W, held_call, hx, hn, hl]
  iintro ⟨#Hctx, Hst, ⟨H3, Hrest⟩, HΨ⟩
  ihave H := (st0_of m d) $$ H3
  icases H with ⟨Hd, Hs⟩
  iapply ((K (F := F)).wp_run (D (F := F)) 𝒱 (EH := EH) (P := P m) κ d 0) $$ [Hst Hs Hd Hrest HΨ]
  isplitr; · iexact Hctx
  isplitl [Hst]; · iexact Hst
  isplitl [Hs]; · iexact Hs
  iintro ⟨Hst, Hdn⟩
  ihave H := (dn0_to m d) $$ [Hd Hdn]
  · isplitl [Hd]; · iexact Hd
    iexact Hdn
  icases H with ⟨Hx, ⟨%fn, %gn, Hn⟩, ⟨%fl, %gl, Hl⟩⟩
  ihave Hst1 := (show (K (F := F)).tcSt EH d ((0 : Fin 1).val + 1) ⊢ ((K (F := F)).tcSt EH d 1 : sProp 𝕄) from Entails.of_eq rfl) $$ Hst
  iapply HΨ $$ Hst1
  iexists (Function.update (Function.update W rN fn) rL fl)
  isplitr
  · ipureintro
    refine ⟨fun b h1 h2 => ?_, ?_, ?_⟩
    · rw [Function.update_of_ne h2, Function.update_of_ne h1]
    · rw [Function.update_of_ne (by decide), Function.update_self]; exact gn
    · rw [Function.update_self]; exact gl
  rw [StableHlo.held_sub_split (d.tc : Thread nD τ) callRefs_sub, held_call]
  isplitl [Hx Hn Hl]
  · rw [Function.update_self, Function.update_of_ne (show rX ≠ rL by decide), Function.update_of_ne (show rX ≠ rN by decide),
      Function.update_of_ne (show rN ≠ rL by decide), Function.update_self, hx]
    isplitl [Hx]; · iexact Hx
    isplitl [Hn]; · iexact Hn
    iexact Hl
  rw [show (StableHlo.held (d.tc : Thread nD τ) (Pipeline.ucRefs τ sig \ callRefs) (Function.update (Function.update W rN fn) rL fl) : sProp 𝕄)
      = StableHlo.held (d.tc : Thread nD τ) (Pipeline.ucRefs τ sig \ callRefs) W from StableHlo.held_congr (d.tc : Thread nD τ) (fun b hb => by
    have hb' := (Finset.mem_sdiff.mp hb).2
    simp only [callRefs, Finset.mem_insert, Finset.mem_singleton, not_or] at hb'
    rw [Function.update_of_ne hb'.2.2, Function.update_of_ne hb'.2.1])]
  iexact Hrest

end Cert.Proof.Bucket
-- ==== Proof.ExtRegion.lean ====
/-
  The row extraction's region: its proof data, its body's obligation at every grid point, and the region as @main enters it.
-/
module

public import proofs.«01_k».proof.Proof.Ext
public import proofs.«01_k».proof.Proof.Held
public import Idealize.ShloMosaic.Lib.Pipeline.RegionArraysT
public import Idealize.ShloMosaic.Lib.Pipeline.FrameBody

@[expose] public section

noncomputable section

namespace Cert.Proof.Bucket

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ
local notation "oA" => (Memref.whole Cert.KernelIdeal.main_case0b1_v19 : Memref Cert.KernelIdeal.sig Kind.tc Space.hbm Cert.KernelIdeal.S16384x128 EltTy.f32)
local notation "sA" => (Memref.whole Cert.KernelIdeal.cc1_scratch0 : Memref Cert.KernelIdeal.sig Kind.tc Space.vmem Cert.KernelIdeal.S4096x128 EltTy.f32)

variable [FloatOps F]

attribute [local irreducible] bucket

/-- The contents of a pipeline's tables, of what @main's buffers hold. -/
def aV (W : Dev nD → Valuation τ sig (Elt F)) : Dev nD → (p : Fin 2) → (pcfgs (F := F) p).Adm := fun c p =>
  match p with
  | ⟨0, _⟩ => ⟨fun k => W c (Proc.devRef .tc (pre1.ref k)), trivial⟩
  | ⟨1, _⟩ => ⟨fun k => k.elim0, trivial⟩

abbrev rT : DevRef τ sig := Proc.devRef .tc main_v0
abbrev rE : DevRef τ sig := Proc.devRef .tc main_case0b1_v13
abbrev rC : DevRef τ sig := Proc.devRef .tc main_case0b1_v15
abbrev rI : DevRef τ sig := Proc.devRef .tc main_case0b1_v17
abbrev rS : DevRef τ sig := Proc.devRef .tc main_case0b1_v18
abbrev rO : DevRef τ sig := Proc.devRef .tc main_case0b1_v19

/-- The windows' arrays at entry. -/
def base0 (W : Dev nD → Valuation τ sig (Elt F)) (c : Dev nD) : Pipeline.RDat τ (Elt F) (HIx 1) ℕ UU ℕ (Pipeline.pinD (pcfgs (F := F)) (aV W) c 0) c where
  A w := W c (Proc.devRef .tc (Pipeline.arrRef spec1 w))
  after _ _ Y X := X = Y
  Φ _ := BIBase.emp
  q _ := fullShare
  owed _ := 0

/-- The result once the grid points below `n` have run: at every position whose index lies in a bucket below `n`, the row
    the bucket's block gives. -/
def OutOK (W : Dev nD → Valuation τ sig (Elt F)) (c : Dev nD) (n : ℕ) (f : S16384x128.Idx → F .f32) : Prop :=
  ∀ (x : S16384x128.Idx) (t : Fin grid1.N), t.val < n → (entry (W c rI) (x 0).val).sshiftRight 12 = BitVec.ofNat 32 t.val →
    ∃ (Y4 : S64x4096.Idx → F .f32) (Y5 : S64x128.Idx → F .f32), (∃ e, Y4 = (base0 W c).fetched 0 t e) ∧ (∃ e, Y5 = (base0 W c).fetched 1 t e)
      ∧ f x = k1_pay1 Y4 Y5 (at2 (pl (entry (W c rI) (x 0).val)) (x 1))

/-- The pairs the TensorCore's waits may have recorded: those at the lowest levels. -/
def recd (c : Dev nD) (n : ℕ) : Set (SemLoc sig × HIx 1) := {p | (K (F := F)).lev (T c, p.1) p.2 ≤ n}

def rd0 (W : Dev nD → Valuation τ sig (Elt F)) (n : ℕ) (c : Dev nD) : Pipeline.RDat τ (Elt F) (HIx 1) ℕ UU ℕ (Pipeline.pinD (pcfgs (F := F)) (aV W) c 0) c where
  A w := W c (Proc.devRef .tc (Pipeline.arrRef spec1 w))
  after _ _ Y X := X = Y
  Φ t := iprop(tabs c (W c rI) (W c rC) (W c rS) ∗ Pipeline.scopedRest spec1 c ∗ semVal ((c : Thread nD τ), SemLoc.dma cc1_scratch1.sem) 0
    ∗ ∃ f, ⌜OutOK W c t.val f⌝ ∗ ((oA).view.loc (c : Thread nD τ) ↦{fullShare} f))
  q _ := fullShare
  owed _ := 0
  recorded _ := recd (F := F) c n

theorem coords1_val (t : Fin grid1.N) : ((grid1.coords t) 0).val = t.val := by
  have h : t.val < 245 := t.isLt.trans_eq N_1
  rw [Pipeline.Grid.coords_val t 0 (S := 1) (B := 245) (by decide) rfl, Nat.div_one, Nat.mod_eq_of_lt h]

theorem out_step (W : Dev nD → Valuation τ sig (Elt F)) (c : Dev nD) (t : Fin grid1.N) (f : S16384x128.Idx → F .f32)
    (Y4 : S64x4096.Idx → F .f32) (Y5 : S64x128.Idx → F .f32) (h4 : ∃ e, Y4 = (base0 W c).fetched 0 t e) (h5 : ∃ e, Y5 = (base0 W c).fetched 1 t e)
    (hf : OutOK W c t.val f) : OutOK W c (t.val + 1) (extRow (W c rI) (grid1.coords t) f (k1_pay1 Y4 Y5)) := by
  intro x u hu hx
  unfold extRow
  rw [coords1_val t]
  by_cases hut : u = t
  · subst hut
    rw [if_pos hx]
    exact ⟨Y4, Y5, h4, h5, rfl⟩
  · have hlt : u.val < t.val := by
      have : u.val ≠ t.val := fun h => hut (Fin.ext h)
      omega
    have hu' : u.val < 245 := u.isLt.trans_eq N_1
    have ht' : t.val < 245 := t.isLt.trans_eq N_1
    rw [if_neg]
    · exact hf x u hlt hx
    · rw [hx]; intro h
      have := congrArg BitVec.toNat h
      simp only [BitVec.toNat_ofNat] at this
      omega

/-- The scoped buffers no window stages: the transposed block's, and the rest. -/
theorem rest_split (c : Dev nD) : ∃ R : sProp 𝕄, (Pipeline.scopedRest (Ix := HIx 1) (Name := ℕ) (U := UU) (Lvl := ℕ) (Val := Elt F) spec1 c : sProp 𝕄)
    = iprop((∃ s, (sA).view.loc (c : Thread nD τ) ↦{fullShare} s) ∗ R) := ⟨_, scopedRest1_eq (Ix := HIx 1) (Name := ℕ) (U := UU) (Lvl := ℕ) (Val := Elt F) c⟩

theorem body0 (W : Dev nD → Valuation τ sig (Elt F)) (n : ℕ) (hT : ∀ c, TabOK (W c rI) (W c rC) (W c rS)) (c : Dev nD) :
    (rd0 W n c).BodyObligation (defs₀ (F := F)) 𝒱₀ (none : HIx 1) Set.univ := by
  intro t Y hY
  obtain ⟨R, hR⟩ := rest_split (F := F) c
  have h4 : ∃ e, Y 0 = (base0 W c).fetched 0 t e := (rd0 W n c).finds_in_eq_fetched 0 rfl (fun t t' h => funext fun a => congrArg (fun z => Pipeline.Clip.of z (S64x4096.size a) (S64x1000000.size a)) (congrFun h a)) (fun _ _ _ h => h) t _ (hY 0)
  have h5 : ∃ e, Y 1 = (base0 W c).fetched 1 t e := (rd0 W n c).finds_in_eq_fetched 1 rfl (fun _ _ _ => rfl) (fun _ _ _ h => h) t _ (hY 1)
  have hb := ext_wp (F := F) c (grid1.coords t) (W c rI) (W c rC) (W c rS) (hT c)
  refine (sep_mono .rfl (sep_mono .rfl (Entails.of_eq (bigSep_W1 _)))).trans ?_
  show iprop(iprop(tabs c (W c rI) (W c rC) (W c rS) ∗ Pipeline.scopedRest spec1 c ∗ semVal ((c : Thread nD τ), SemLoc.dma cc1_scratch1.sem) 0
    ∗ ∃ f, ⌜OutOK W c t.val f⌝ ∗ ((oA).view.loc (c : Thread nD τ) ↦{fullShare} f)) ∗ (∃ Wd, ⌜↑Wd ⊆ (rd0 W n c).bound none t.castSucc⌝ ∗ owes (c : Thread nD τ) 0 Wd) ∗ _) ⊢ _
  rw [hR]
  iintro ⟨⟨HT, ⟨Hs, HR⟩, Hv, ⟨%f, %hf, Ho⟩⟩, ⟨%Wd, %hWd, HO⟩, H4, H5⟩
  iapply (wp_wand_r frame _ Set.univ)
  isplitl [HT Hs Hv Ho HO H4 H5]
  · iapply (hb f Wd (spec1_0.stage _) (hstage1_0 _) (spec1_1.stage _) (hstage1_1 _) (Y 0) (Y 1))
    isplitl [H4]; · iexact H4
    isplitl [H5]; · iexact H5
    isplitl [HT]; · iexact HT
    isplitl [Hs]; · iexact Hs
    isplitl [Ho]; · iexact Ho
    isplitl [Hv]; · iexact Hv
    iexact HO
  iintro %_ ⟨H4, H5, HT, Hs, Ho, Hv, ⟨%W', %hW', HO⟩⟩
  isplitl [HT Hs HR Ho Hv]
  · iapply (show iprop(tabs c (W c rI) (W c rC) (W c rS) ∗ Pipeline.scopedRest spec1 c ∗ semVal ((c : Thread nD τ), SemLoc.dma cc1_scratch1.sem) 0
      ∗ ∃ f, ⌜OutOK W c (t.val + 1) f⌝ ∗ ((oA).view.loc (c : Thread nD τ) ↦{fullShare} f)) ⊢ (rd0 W n c).Φ t.succ from Entails.of_eq rfl)
    rw [hR]
    isplitl [HT]; · iexact HT
    isplitl [Hs HR]
    · isplitl [Hs]; · iexact Hs
      iexact HR
    isplitl [Hv]; · iexact Hv
    iexists _
    isplitr
    · ipureintro; exact out_step W c t f (Y 0) (Y 1) h4 h5 hf
    iexact Ho
  isplitl [HO]
  · iexists W'
    isplitr
    · ipureintro
      intro p hp
      rcases hW' p hp with h | rfl
      · exact hWd h
      · exact Or.inl (show (K (F := F)).lev (T c, SemLoc.dma cc1_scratch1.sem) none ≤ n from Nat.zero_le _)
    iexact HO
  rw [bigSep_W1]
  isplitl [H4]
  · iexists (Y 0)
    isplitr
    · ipureintro; rfl
    iexact H4
  iexists (Y 1)
  isplitr
  · ipureintro; rfl
  iexact H5

/-! ## The region -/

/-- The buffers the region works on. -/
def extRefs : Finset (DevRef τ sig) := {rT, rE, rC, rI, rS, rO}

theorem extRefs_sub : extRefs ⊆ Pipeline.ucRefs τ sig := by
  intro b hb
  simp only [extRefs, Finset.mem_insert, Finset.mem_singleton] at hb
  rcases hb with rfl | rfl | rfl | rfl | rfl | rfl <;> exact Finset.mem_filter.mpr ⟨StableHlo.devRef_mem_tcRefs _, by decide⟩

omit [FloatOps F] in
theorem held_ext (c : Dev nD) (W : Valuation τ sig (Elt F)) :
    (StableHlo.held (c.tc : Thread nD τ) extRefs W : sProp 𝕄)
      = iprop((((c.tc : Thread nD τ).loc main_v0) ↦{fullShare} W rT) ∗ (((c.tc : Thread nD τ).loc main_case0b1_v13) ↦{fullShare} W rE)
        ∗ (((c.tc : Thread nD τ).loc main_case0b1_v15) ↦{fullShare} W rC) ∗ (((c.tc : Thread nD τ).loc main_case0b1_v17) ↦{fullShare} W rI)
        ∗ (((c.tc : Thread nD τ).loc main_case0b1_v18) ↦{fullShare} W rS) ∗ ((c.tc : Thread nD τ).loc main_case0b1_v19) ↦{fullShare} W rO) := by
  unfold StableHlo.held extRefs
  rw [SparseCore.bigSep_insert' (by decide), SparseCore.bigSep_insert' (by decide), SparseCore.bigSep_insert' (by decide), SparseCore.bigSep_insert' (by decide),
    SparseCore.bigSep_insert' (by decide), bigSep_singleton]

/-- The tables held are the three buffers at their contents. -/
theorem pref_tabs (W : Dev nD → Valuation τ sig (Elt F)) (c : Dev nD) :
    (Pipeline.prefHeld pre1 c (fun _ => fullShare) (aV W c 0).1 : sProp 𝕄) = tabs c (W c rI) (W c rC) (W c rS) := by
  unfold Pipeline.prefHeld
  exact bigSep_univ_eq_bigSepL [(0 : Fin 3), (1 : Fin 3), (2 : Fin 3)] (by decide) (by decide) _

/-- What the region leaves: the result's rows right, the rest as it was. -/
def Extracted (W : Dev nD → Valuation τ sig (Elt F)) (c : Dev nD) (W' : Valuation τ sig (Elt F)) : Prop :=
  (∀ b, b ≠ rO → W' b = W c b) ∧ OutOK W c 245 (W' rO)

/-- The proof data of both pipelines: the row extraction's, and some for the other. -/
def rds0 (W : Dev nD → Valuation τ sig (Elt F)) (n : ℕ) : (p : Fin 2) → (c : Dev nD) → Pipeline.RDat τ (Elt F) (HIx 1) ℕ UU ℕ (Pipeline.pinD (pcfgs (F := F)) (aV W) c p) c
  | ⟨0, _⟩ => rd0 W n
  | ⟨1, _⟩ => fun c => { A := fun w => W c (Proc.devRef .tc (Pipeline.arrRef spec2 w)), after := fun _ _ _ _ => True, Φ := fun _ => BIBase.emp, q := fun _ => fullShare, owed := fun _ => 0 }

def ownSem0 : Unit → SemLoc sig := fun _ => SemLoc.dma cc1_scratch1.sem

theorem ho0 : Pipeline.OwnSemFacts spec1 ownSem0 := by decide

theorem own0 (c : Dev nD) : (Pipeline.ownSems0 ownSem0 c : sProp 𝕄) = semVal ((c : Thread nD τ), SemLoc.dma cc1_scratch1.sem) 0 :=
  bigSep_univ_of_subsingleton ()

theorem arrays0 (W : Dev nD → Valuation τ sig (Elt F)) (n : ℕ) (c : Dev nD)
    (Fv : (w : Fin 2) → Buf (Elt F) (((Pipeline.pinD (pcfgs (F := F)) (aV W) c 0).win w).arr.view.loc (c.tc : Thread nD τ))) :
    ((rd0 W n c).arrays Fv : sProp 𝕄) = iprop((((c.tc : Thread nD τ).loc main_v0) ↦{fullShare} Fv 0) ∗ (((c.tc : Thread nD τ).loc main_case0b1_v13) ↦{fullShare} Fv 1)) := by
  unfold Pipeline.RDat.arrays
  refine (bigSep_W1 _).trans ?_
  show iprop((((c.tc : Thread nD τ).loc main_v0) ↦[(View.whole main_v0).set]{fullShare} Fv 0) ∗ (((c.tc : Thread nD τ).loc main_case0b1_v13) ↦[(View.whole main_case0b1_v13).set]{fullShare} Fv 1)) = _
  rw [View.set_whole, View.set_whole]

theorem arraysAt0 (W : Dev nD → Valuation τ sig (Elt F)) (n : ℕ) (c : Dev nD) (t : ℕ) :
    ((rd0 W n c).arraysAt t : sProp 𝕄) ⊢ iprop((((c.tc : Thread nD τ).loc main_v0) ↦{fullShare} W c rT) ∗ (((c.tc : Thread nD τ).loc main_case0b1_v13) ↦{fullShare} W c rE)) := by
  unfold Pipeline.RDat.arraysAt
  refine (Entails.of_eq (bigSep_W1 _)).trans ?_
  rw [(rd0 W n c).ArrAt_in 0 rfl, (rd0 W n c).ArrAt_in 1 rfl]
  iintro ⟨⟨%f, %hf, H0⟩, ⟨%g, %hg, H1⟩⟩
  subst hf
  subst hg
  isplitl [H0]
  · iapply (show ((((c.tc : Thread nD τ).loc main_v0) ↦[(View.whole main_v0).set]{fullShare} W c rT) : sProp 𝕄) ⊢ (((c.tc : Thread nD τ).loc main_v0) ↦{fullShare} W c rT) from by rw [View.set_whole])
    iexact H0
  · iapply (show ((((c.tc : Thread nD τ).loc main_case0b1_v13) ↦[(View.whole main_case0b1_v13).set]{fullShare} W c rE) : sProp 𝕄) ⊢ (((c.tc : Thread nD τ).loc main_case0b1_v13) ↦{fullShare} W c rE) from by rw [View.set_whole])
    iexact H1

/-- What the core owes, its recorded pairs at the lowest levels. -/
abbrev owesLow (c : Dev nD) (n : ℕ) : sProp 𝕄 := iprop(∃ Wd, ⌜(K (F := F)).WBelow (T c) Wd n⌝ ∗ owes (c : Thread nD τ) 0 Wd)

def reg0 (W : Dev nD → Valuation τ sig (Elt F)) (n : ℕ) (hT : ∀ c, TabOK (W c rI) (W c rC) (W c rS)) :
    Pipeline.PerCore.RDat.RegionSeg (pcfgs (F := F)) (aV W) (rds0 W n) (none : HIx 1) (defs₀ (F := F)) 𝒱₀ (K (F := F)).L (K (F := F)).lev 0 where
  win := winFacts1.to₀
  block_pos := block_pos1
  stage_whole := stage_whole1
  K := Unit
  osem := ownSem0
  ho := ho0
  hbody c := body0 W n hT c
  hwaits c := by
    iintro -
    iapply (Pipeline.PerCore.RDat.cellsWaits_of_owed_zero (Pipeline.pinD (pcfgs (F := F)) (aV W)) (rds0 W n) (none : HIx 1) 0 c (fun _ => rfl))
    iempintro
  pre c := iprop(StableHlo.held (c.tc : Thread nD τ) (Pipeline.ucRefs τ sig) (W c) ∗ owesLow c n)
  post c := iprop((∃ W', ⌜Extracted W c W'⌝ ∗ StableHlo.held (c.tc : Thread nD τ) (Pipeline.ucRefs τ sig) W') ∗ owesLow c n)
  X c := iprop(semVal ((c : Thread nD τ), SemLoc.dma cc1_scratch1.sem) 0 ∗ ((oA).view.loc (c : Thread nD τ) ↦{fullShare} W c rO))
  Y c := iprop(tabs c (W c rI) (W c rC) (W c rS) ∗ ∃ f, ⌜OutOK W c 245 f⌝ ∗ ((oA).view.loc (c : Thread nD τ) ↦{fullShare} f))
  Z c := StableHlo.held (c.tc : Thread nD τ) (Pipeline.ucRefs τ sig \ extRefs) (W c)
  hentry c := by
    rw [own0, StableHlo.held_sub_split (c.tc : Thread nD τ) extRefs_sub (W c), held_ext]
    show _ ⊢ iprop(|={Set.univ}=> iprop((rd0 W n c).arrays (rd0 W n c).A ∗ Pipeline.prefHeld pre1 c (fun _ => fullShare) (aV W c 0).1 ∗ (rd0 W n c).owesAt none 0 ∗ _))
    rw [arrays0, pref_tabs]
    iintro ⟨⟨⟨⟨HT, HE, HC, HI, HS, HO⟩, Hr⟩, ⟨%Wd, %hW, Ho⟩⟩, Hv, -⟩
    imodintro
    isplitl [HT HE]
    · isplitl [HT]; · iexact HT
      iexact HE
    isplitl [HC HI HS]
    · isplitl [HC]; · iexact HC
      isplitl [HI]; · iexact HI
      iexact HS
    isplitl [Ho]
    · iexists Wd
      isplitr
      · ipureintro; exact fun p hp => Or.inl (hW p hp)
      iexact Ho
    isplitl [Hv HO]
    · isplitl [Hv]; · iexact Hv
      iexact HO
    iexact Hr
  hin c := by
    show iprop(_ ∗ Pipeline.prefHeld pre1 c (fun _ => fullShare) (aV W c 0).1 ∗ Pipeline.scopedRest spec1 c) ⊢ iprop(tabs c (W c rI) (W c rC) (W c rS) ∗ Pipeline.scopedRest spec1 c ∗ semVal ((c : Thread nD τ), SemLoc.dma cc1_scratch1.sem) 0
      ∗ ∃ f, ⌜OutOK W c 0 f⌝ ∗ ((oA).view.loc (c : Thread nD τ) ↦{fullShare} f))
    rw [pref_tabs]
    iintro ⟨⟨Hv, HO⟩, HT, Hr⟩
    isplitl [HT]; · iexact HT
    isplitl [Hr]; · iexact Hr
    isplitl [Hv]; · iexact Hv
    iexists (W c rO)
    isplitr
    · ipureintro; exact fun x t ht => absurd ht (Nat.not_lt_zero _)
    iexact HO
  hout c := by
    show iprop(tabs c (W c rI) (W c rC) (W c rS) ∗ Pipeline.scopedRest spec1 c ∗ semVal ((c : Thread nD τ), SemLoc.dma cc1_scratch1.sem) 0
      ∗ ∃ f, ⌜OutOK W c grid1.N f⌝ ∗ ((oA).view.loc (c : Thread nD τ) ↦{fullShare} f)) ⊢ iprop(_ ∗ Pipeline.ownSems0 ownSem0 c ∗ Pipeline.scopedRest spec1 c)
    rw [own0, N_1]
    iintro ⟨HT, Hr, Hv, HO⟩
    isplitl [HT HO]
    · isplitl [HT]; · iexact HT
      iexact HO
    isplitl [Hv]; · iexact Hv
    iexact Hr
  hexit c := by
    show iprop((rd0 W n c).arraysAt _ ∗ (rd0 W n c).owesAt none _ ∗ _) ⊢ _
    refine (sep_mono (arraysAt0 W n c _) .rfl).trans ?_
    iintro ⟨⟨HT, HE⟩, ⟨%Wd, %hW, Ho⟩, ⟨⟨HC, HI, HS⟩, ⟨%f, %hf, HO⟩⟩, Hr⟩
    imodintro
    isplitr [Ho]
    · iexists (Function.update (W c) rO f)
      isplitr
      · ipureintro
        refine ⟨fun b hb => Function.update_of_ne hb _ _, ?_⟩
        rw [Function.update_self]; exact hf
      rw [StableHlo.held_sub_split (c.tc : Thread nD τ) extRefs_sub, held_ext]
      isplitr [Hr]
      · rw [Function.update_self, Function.update_of_ne (show rT ≠ rO by decide), Function.update_of_ne (show rE ≠ rO by decide), Function.update_of_ne (show rC ≠ rO by decide),
          Function.update_of_ne (show rI ≠ rO by decide), Function.update_of_ne (show rS ≠ rO by decide)]
        isplitl [HT]; · iexact HT
        isplitl [HE]; · iexact HE
        isplitl [HC]; · iexact HC
        isplitl [HI]; · iexact HI
        isplitl [HS]; · iexact HS
        iexact HO
      rw [show (StableHlo.held (c.tc : Thread nD τ) (Pipeline.ucRefs τ sig \ extRefs) (Function.update (W c) rO f) : sProp 𝕄)
          = StableHlo.held (c.tc : Thread nD τ) (Pipeline.ucRefs τ sig \ extRefs) (W c) from StableHlo.held_congr (c.tc : Thread nD τ) (fun b hb => by
        have hb' := (Finset.mem_sdiff.mp hb).2
        simp only [extRefs, Finset.mem_insert, Finset.mem_singleton, not_or] at hb'
        rw [Function.update_of_ne hb'.2.2.2.2.2])]
      iexact Hr
    iexists Wd
    isplitr
    · ipureintro
      intro p hp
      rcases hW hp with h | ⟨w, s, rfl⟩
      · exact h
      · exact Nat.zero_le _
    iexact Ho

end Cert.Proof.Bucket
-- ==== Proof.Mlp.lean ====
/-
  The two-layer network's region: its body, its proof data, and the region as @main enters it.
-/
module

public import proofs.«01_k».proof.Proof.ExtRegion
public import Idealize.ShloMosaic.Lib.Pipeline.ValueKit
public import Idealize.ShloMosaic.Lib.Pipeline.RegionArraysT
public import Idealize.ShloMosaic.Lib.Pipeline.FrameBody

@[expose] public section

noncomputable section

namespace Cert.Proof.Bucket

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ

variable [FloatOps F]

theorem pay2_congr {A1 B1 : S2048x128.Idx → F .f32} {A2 B2 : S2048x128.Idx → F .f32} {A3 B3 : S128x128.Idx → F .f32} {A4 B4 : S1x128.Idx → F .f32} {A5 B5 : S128x256.Idx → F .f32} {A6 B6 : S128x256.Idx → F .f32} {A7 B7 : S1x256.Idx → F .f32} {A8 B8 : S256x64.Idx → F .f32} {A9 B9 : S1x64.Idx → F .f32}
    (h1 : A1 = B1) (h2 : A2 = B2) (h3 : A3 = B3) (h4 : A4 = B4) (h5 : A5 = B5) (h6 : A6 = B6) (h7 : A7 = B7) (h8 : A8 = B8) (h9 : A9 = B9) :
    k2_pay1 A1 A3 A4 A5 A2 A6 A7 A8 A9 = k2_pay1 B1 B3 B4 B5 B2 B6 B7 B8 B9 := by
  subst h1 h2 h3 h4 h5 h6 h7 h8 h9
  rfl

/-- The body at any staging buffers: it leaves its nine inputs as found and the tenth at the network's rows. -/
theorem mlp_wp (d : Dev nD) (i : grid2.Coords) (a1 : Memref sig .tc .vmem S2048x128 .f32) (h1 : a1.IsWhole) (a2 : Memref sig .tc .vmem S2048x128 .f32) (h2 : a2.IsWhole) (a3 : Memref sig .tc .vmem S128x128 .f32) (h3 : a3.IsWhole) (a4 : Memref sig .tc .vmem S1x128 .f32) (h4 : a4.IsWhole) (a5 : Memref sig .tc .vmem S128x256 .f32) (h5 : a5.IsWhole) (a6 : Memref sig .tc .vmem S128x256 .f32) (h6 : a6.IsWhole) (a7 : Memref sig .tc .vmem S1x256 .f32) (h7 : a7.IsWhole) (a8 : Memref sig .tc .vmem S256x64 .f32) (h8 : a8.IsWhole) (a9 : Memref sig .tc .vmem S1x64 .f32) (h9 : a9.IsWhole) (a10 : Memref sig .tc .vmem S2048x64 .f32) (h10 : a10.IsWhole)
    (Y1 : S2048x128.Idx → F .f32) (Y2 : S2048x128.Idx → F .f32) (Y3 : S128x128.Idx → F .f32) (Y4 : S1x128.Idx → F .f32) (Y5 : S128x256.Idx → F .f32) (Y6 : S128x256.Idx → F .f32) (Y7 : S1x256.Idx → F .f32) (Y8 : S256x64.Idx → F .f32) (Y9 : S1x64.Idx → F .f32) (Y10 : S2048x64.Idx → F .f32) :
    (iprop(owns (d : Thread nD τ) a1 fullShare Y1 ∗ owns (d : Thread nD τ) a2 fullShare Y2 ∗ owns (d : Thread nD τ) a3 fullShare Y3 ∗ owns (d : Thread nD τ) a4 fullShare Y4 ∗ owns (d : Thread nD τ) a5 fullShare Y5 ∗ owns (d : Thread nD τ) a6 fullShare Y6 ∗ owns (d : Thread nD τ) a7 fullShare Y7 ∗ owns (d : Thread nD τ) a8 fullShare Y8 ∗ owns (d : Thread nD τ) a9 fullShare Y9 ∗ owns (d : Thread nD τ) a10 fullShare Y10) : sProp 𝕄)
      ⊢ wp frame (wpE (defs₀ (F := F)) 𝒱₀ (d : Thread nD τ) none) Set.univ
        (cc2__mlp_fast_body i a1 h1 a2 h2 a3 h3 a4 h4 a5 h5 a6 h6 a7 h7 a8 h8 a9 h9 a10 h10)
        (fun _ => iprop(owns (d : Thread nD τ) a1 fullShare Y1 ∗ owns (d : Thread nD τ) a2 fullShare Y2 ∗ owns (d : Thread nD τ) a3 fullShare Y3 ∗ owns (d : Thread nD τ) a4 fullShare Y4 ∗ owns (d : Thread nD τ) a5 fullShare Y5 ∗ owns (d : Thread nD τ) a6 fullShare Y6 ∗ owns (d : Thread nD τ) a7 fullShare Y7 ∗ owns (d : Thread nD τ) a8 fullShare Y8 ∗ owns (d : Thread nD τ) a9 fullShare Y9 ∗ owns (d : Thread nD τ) a10 fullShare (k2_pay1 Y1 Y3 Y4 Y5 Y2 Y6 Y7 Y8 Y9))) := by
  rw [cc2__mlp_fast_body_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  sl_unfold [cc2__mlp_fast_body_skel]
  sl_exec
  sl_step
  isplitl [H1]
  · iexists f1
    isplitr
    · ipureintro; exact e1
    iexact H1
  isplitl [H2]
  · iexists f2
    isplitr
    · ipureintro; exact e2
    iexact H2
  isplitl [H3]
  · iexists f3
    isplitr
    · ipureintro; exact e3
    iexact H3
  isplitl [H4]
  · iexists f4
    isplitr
    · ipureintro; exact e4
    iexact H4
  isplitl [H5]
  · iexists f5
    isplitr
    · ipureintro; exact e5
    iexact H5
  isplitl [H6]
  · iexists f6
    isplitr
    · ipureintro; exact e6
    iexact H6
  isplitl [H7]
  · iexists f7
    isplitr
    · ipureintro; exact e7
    iexact H7
  isplitl [H8]
  · iexists f8
    isplitr
    · ipureintro; exact e8
    iexact H8
  isplitl [H9]
  · iexists f9
    isplitr
    · ipureintro; exact e9
    iexact H9
  iexists _
  isplitr
  swap
  · iexact H10
  ipureintro
  exact (View.read_writes_full _ _ _ _ _).trans (pay2_congr ((View.readAt_full _ _ _).trans e1) ((View.readAt_full _ _ _).trans e2) ((View.readAt_full _ _ _).trans e3) ((View.readAt_full _ _ _).trans e4) ((View.readAt_full _ _ _).trans e5) ((View.readAt_full _ _ _).trans e6) ((View.readAt_full _ _ _).trans e7) ((View.readAt_full _ _ _).trans e8) ((View.readAt_full _ _ _).trans e9))

/-! ## The region's proof data -/

/-- The windows' arrays at entry, and nothing said of the body. -/
def mbase (W : Dev nD → Valuation τ sig (Elt F)) (c : Dev nD) : Pipeline.Dat τ (Elt F) (HIx 1) ℕ UU ℕ (Pipeline.pinD (pcfgs (F := F)) (aV W) c 1) c where
  A w := W c (Proc.devRef .tc (Pipeline.arrRef spec2 w))
  after _ _ := fun _ => Classical.arbitrary _
  Φ _ := BIBase.emp
  q _ := fullShare
  owed _ := 0

/-- An input window's block at a grid point. -/
abbrev mIn (W : Dev nD → Valuation τ sig (Elt F)) (c : Dev nD) (w : Fin 10) (t : Fin grid2.N) := (mbase W c).fetched w t (fun _ => Classical.arbitrary _)

/-- The rows the body leaves at a grid point. -/
def mOut (W : Dev nD → Valuation τ sig (Elt F)) (c : Dev nD) (t : Fin grid2.N) : S2048x64.Idx → F .f32 :=
  k2_pay1 (mIn W c 0 t) (mIn W c 2 t) (mIn W c 3 t) (mIn W c 4 t) (mIn W c 1 t) (mIn W c 5 t) (mIn W c 6 t) (mIn W c 7 t) (mIn W c 8 t)

/-- What the body leaves in each staging buffer. -/
def mAfter (W : Dev nD → Valuation τ sig (Elt F)) (c : Dev nD) : (w : Fin 10) → (t : Fin grid2.N) → (win2 w).block.Idx → Elt F (win2 w).elt
  | 0 => fun t => mIn W c 0 t
  | 1 => fun t => mIn W c 1 t
  | 2 => fun t => mIn W c 2 t
  | 3 => fun t => mIn W c 3 t
  | 4 => fun t => mIn W c 4 t
  | 5 => fun t => mIn W c 5 t
  | 6 => fun t => mIn W c 6 t
  | 7 => fun t => mIn W c 7 t
  | 8 => fun t => mIn W c 8 t
  | 9 => fun t => mOut W c t
  | ⟨_ + 10, h⟩ => absurd h (Nat.not_lt.2 (Nat.le_add_left _ _))

def md (W : Dev nD → Valuation τ sig (Elt F)) (n : ℕ) (c : Dev nD) : Pipeline.Dat τ (Elt F) (HIx 1) ℕ UU ℕ (Pipeline.pinD (pcfgs (F := F)) (aV W) c 1) c where
  A w := W c (Proc.devRef .tc (Pipeline.arrRef spec2 w))
  after := mAfter W c
  Φ _ := Pipeline.scopedRest spec2 c
  q _ := fullShare
  owed _ := 0
  recorded _ := recd (F := F) c n

/-- What an input's buffer holds when the body runs is the window's block there. -/
theorem mbefore0 (W : Dev nD → Valuation τ sig (Elt F)) (n : ℕ) (c : Dev nD) (t : Fin grid2.N) (e : (win2 0).block.Idx → Elt F (win2 0).elt) : (md W n c).before 0 t e = mIn W c 0 t :=
  ((md W n c).before_in_eq_fetched 0 rfl (fun _ => rfl) (fun _ _ _ => rfl) (fun t => (mbase W c).cut_fetched 0 t (fun _ => Classical.arbitrary _)) t e).trans
    ((mbase W c).fetched_of_clip_none 0 t (fun _ => rfl) e _)
theorem mbefore1 (W : Dev nD → Valuation τ sig (Elt F)) (n : ℕ) (c : Dev nD) (t : Fin grid2.N) (e : (win2 1).block.Idx → Elt F (win2 1).elt) : (md W n c).before 1 t e = mIn W c 1 t :=
  ((md W n c).before_in_eq_fetched 1 rfl (fun _ => rfl) (fun _ _ _ => rfl) (fun t => (mbase W c).cut_fetched 1 t (fun _ => Classical.arbitrary _)) t e).trans
    ((mbase W c).fetched_of_clip_none 1 t (fun _ => rfl) e _)
theorem mbefore2 (W : Dev nD → Valuation τ sig (Elt F)) (n : ℕ) (c : Dev nD) (t : Fin grid2.N) (e : (win2 2).block.Idx → Elt F (win2 2).elt) : (md W n c).before 2 t e = mIn W c 2 t :=
  ((md W n c).before_in_eq_fetched 2 rfl (fun _ => rfl) (fun _ _ _ => rfl) (fun t => (mbase W c).cut_fetched 2 t (fun _ => Classical.arbitrary _)) t e).trans
    ((mbase W c).fetched_of_clip_none 2 t (fun _ => rfl) e _)
theorem mbefore3 (W : Dev nD → Valuation τ sig (Elt F)) (n : ℕ) (c : Dev nD) (t : Fin grid2.N) (e : (win2 3).block.Idx → Elt F (win2 3).elt) : (md W n c).before 3 t e = mIn W c 3 t :=
  ((md W n c).before_in_eq_fetched 3 rfl (fun _ => rfl) (fun _ _ _ => rfl) (fun t => (mbase W c).cut_fetched 3 t (fun _ => Classical.arbitrary _)) t e).trans
    ((mbase W c).fetched_of_clip_none 3 t (fun _ => rfl) e _)
theorem mbefore4 (W : Dev nD → Valuation τ sig (Elt F)) (n : ℕ) (c : Dev nD) (t : Fin grid2.N) (e : (win2 4).block.Idx → Elt F (win2 4).elt) : (md W n c).before 4 t e = mIn W c 4 t :=
  ((md W n c).before_in_eq_fetched 4 rfl (fun _ => rfl) (fun _ _ _ => rfl) (fun t => (mbase W c).cut_fetched 4 t (fun _ => Classical.arbitrary _)) t e).trans
    ((mbase W c).fetched_of_clip_none 4 t (fun _ => rfl) e _)
theorem mbefore5 (W : Dev nD → Valuation τ sig (Elt F)) (n : ℕ) (c : Dev nD) (t : Fin grid2.N) (e : (win2 5).block.Idx → Elt F (win2 5).elt) : (md W n c).before 5 t e = mIn W c 5 t :=
  ((md W n c).before_in_eq_fetched 5 rfl (fun _ => rfl) (fun _ _ _ => rfl) (fun t => (mbase W c).cut_fetched 5 t (fun _ => Classical.arbitrary _)) t e).trans
    ((mbase W c).fetched_of_clip_none 5 t (fun _ => rfl) e _)
theorem mbefore6 (W : Dev nD → Valuation τ sig (Elt F)) (n : ℕ) (c : Dev nD) (t : Fin grid2.N) (e : (win2 6).block.Idx → Elt F (win2 6).elt) : (md W n c).before 6 t e = mIn W c 6 t :=
  ((md W n c).before_in_eq_fetched 6 rfl (fun _ => rfl) (fun _ _ _ => rfl) (fun t => (mbase W c).cut_fetched 6 t (fun _ => Classical.arbitrary _)) t e).trans
    ((mbase W c).fetched_of_clip_none 6 t (fun _ => rfl) e _)
theorem mbefore7 (W : Dev nD → Valuation τ sig (Elt F)) (n : ℕ) (c : Dev nD) (t : Fin grid2.N) (e : (win2 7).block.Idx → Elt F (win2 7).elt) : (md W n c).before 7 t e = mIn W c 7 t :=
  ((md W n c).before_in_eq_fetched 7 rfl (fun _ => rfl) (fun _ _ _ => rfl) (fun t => (mbase W c).cut_fetched 7 t (fun _ => Classical.arbitrary _)) t e).trans
    ((mbase W c).fetched_of_clip_none 7 t (fun _ => rfl) e _)
theorem mbefore8 (W : Dev nD → Valuation τ sig (Elt F)) (n : ℕ) (c : Dev nD) (t : Fin grid2.N) (e : (win2 8).block.Idx → Elt F (win2 8).elt) : (md W n c).before 8 t e = mIn W c 8 t :=
  ((md W n c).before_in_eq_fetched 8 rfl (fun _ => rfl) (fun _ _ _ => rfl) (fun t => (mbase W c).cut_fetched 8 t (fun _ => Classical.arbitrary _)) t e).trans
    ((mbase W c).fetched_of_clip_none 8 t (fun _ => rfl) e _)

theorem body1 (W : Dev nD → Valuation τ sig (Elt F)) (n : ℕ) (c : Dev nD) : Pipeline.BodyObligationLoose (md W n c) (defs₀ (F := F)) 𝒱₀ (none : HIx 1) Set.univ := by
  intro t
  show _ ⊢ wp frame (wpE (defs₀ (F := F)) 𝒱₀ (c : Thread nD τ) none) Set.univ (defs₀ .tc cfg2.body (cfg2.bodyArgs t (cfg2.slots t)))
    (fun _ => iprop(Pipeline.scopedRest spec2 c ∗ (md W n c).owesAt none t.succ
      ∗ bigSep Finset.univ fun w : Fin 10 => owns c.tc ((win2 w).stage (cfg2.slots t w)) fullShare (mAfter W c w t)))
  refine (sep_mono .rfl (sep_mono .rfl (Entails.of_eq (bigSep_W2 _)))).trans ?_
  show iprop(Pipeline.scopedRest spec2 c ∗ (md W n c).owesAt none t.castSucc ∗ _) ⊢ _
  iintro ⟨HP, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩⟩
  rw [mbefore0]
  rw [mbefore1]
  rw [mbefore2]
  rw [mbefore3]
  rw [mbefore4]
  rw [mbefore5]
  rw [mbefore6]
  rw [mbefore7]
  rw [mbefore8]
  iapply (wp_wand_r frame _ Set.univ)
  isplitl [H0 H1 H2 H3 H4 H5 H6 H7 H8 H9]
  · iapply (mlp_wp c (grid2.coords t) (win2_0.stage _) (hstage2_0 _) (win2_1.stage _) (hstage2_1 _) (win2_2.stage _) (hstage2_2 _) (win2_3.stage _) (hstage2_3 _) (win2_4.stage _) (hstage2_4 _) (win2_5.stage _) (hstage2_5 _) (win2_6.stage _) (hstage2_6 _) (win2_7.stage _) (hstage2_7 _) (win2_8.stage _) (hstage2_8 _) (win2_9.stage _) (hstage2_9 _) (mIn W c 0 t) (mIn W c 1 t) (mIn W c 2 t) (mIn W c 3 t) (mIn W c 4 t) (mIn W c 5 t) (mIn W c 6 t) (mIn W c 7 t) (mIn W c 8 t) ((md W n c).before 9 t e9))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H0, H1, H2, H3, H4, H5, H6, H7, H8, H9⟩
  isplitl [HP]; · iexact HP
  isplitl [HO]; · iexact HO
  rw [bigSep_W2]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The region -/

abbrev m0 : DevRef τ sig := Proc.devRef .tc main_arg0
abbrev m1 : DevRef τ sig := Proc.devRef .tc main_case0b1_v19
abbrev m2 : DevRef τ sig := Proc.devRef .tc main_arg4
abbrev m3 : DevRef τ sig := Proc.devRef .tc main_case0b1_v22
abbrev m4 : DevRef τ sig := Proc.devRef .tc main_v1
abbrev m5 : DevRef τ sig := Proc.devRef .tc main_case0b1_v21
abbrev m6 : DevRef τ sig := Proc.devRef .tc main_case0b1_v23
abbrev m7 : DevRef τ sig := Proc.devRef .tc main_arg8
abbrev m8 : DevRef τ sig := Proc.devRef .tc main_case0b1_v24
abbrev m9 : DevRef τ sig := Proc.devRef .tc main_case0b1_v25

/-- The buffers the region works on. -/
def mlpRefs : Finset (DevRef τ sig) := {m0, m1, m2, m3, m4, m5, m6, m7, m8, m9}

theorem mlpRefs_sub : mlpRefs ⊆ Pipeline.ucRefs τ sig := by
  intro b hb
  simp only [mlpRefs, Finset.mem_insert, Finset.mem_singleton] at hb
  rcases hb with rfl | rfl | rfl | rfl | rfl | rfl | rfl | rfl | rfl | rfl <;> exact Finset.mem_filter.mpr ⟨StableHlo.devRef_mem_tcRefs _, by decide⟩

omit [FloatOps F] in
theorem held_mlp (c : Dev nD) (W : Valuation τ sig (Elt F)) :
    (StableHlo.held (c.tc : Thread nD τ) mlpRefs W : sProp 𝕄)
      = iprop((((c.tc : Thread nD τ).loc main_arg0) ↦{fullShare} W m0) ∗ (((c.tc : Thread nD τ).loc main_case0b1_v19) ↦{fullShare} W m1) ∗ (((c.tc : Thread nD τ).loc main_arg4) ↦{fullShare} W m2) ∗ (((c.tc : Thread nD τ).loc main_case0b1_v22) ↦{fullShare} W m3) ∗ (((c.tc : Thread nD τ).loc main_v1) ↦{fullShare} W m4) ∗ (((c.tc : Thread nD τ).loc main_case0b1_v21) ↦{fullShare} W m5) ∗ (((c.tc : Thread nD τ).loc main_case0b1_v23) ↦{fullShare} W m6) ∗ (((c.tc : Thread nD τ).loc main_arg8) ↦{fullShare} W m7) ∗ (((c.tc : Thread nD τ).loc main_case0b1_v24) ↦{fullShare} W m8) ∗ (((c.tc : Thread nD τ).loc main_case0b1_v25) ↦{fullShare} W m9)) := by
  unfold StableHlo.held mlpRefs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem arrays1 (W : Dev nD → Valuation τ sig (Elt F)) (n : ℕ) (c : Dev nD)
    (Fv : (w : Fin 10) → Buf (Elt F) (((Pipeline.pinD (pcfgs (F := F)) (aV W) c 1).win w).arr.view.loc (c.tc : Thread nD τ))) :
    ((md W n c).arrays Fv : sProp 𝕄) = iprop((((c.tc : Thread nD τ).loc main_arg0) ↦{fullShare} Fv 0) ∗ (((c.tc : Thread nD τ).loc main_case0b1_v19) ↦{fullShare} Fv 1) ∗ (((c.tc : Thread nD τ).loc main_arg4) ↦{fullShare} Fv 2) ∗ (((c.tc : Thread nD τ).loc main_case0b1_v22) ↦{fullShare} Fv 3) ∗ (((c.tc : Thread nD τ).loc main_v1) ↦{fullShare} Fv 4) ∗ (((c.tc : Thread nD τ).loc main_case0b1_v21) ↦{fullShare} Fv 5) ∗ (((c.tc : Thread nD τ).loc main_case0b1_v23) ↦{fullShare} Fv 6) ∗ (((c.tc : Thread nD τ).loc main_arg8) ↦{fullShare} Fv 7) ∗ (((c.tc : Thread nD τ).loc main_case0b1_v24) ↦{fullShare} Fv 8) ∗ (((c.tc : Thread nD τ).loc main_case0b1_v25) ↦{fullShare} Fv 9)) := by
  unfold Pipeline.Dat.arrays
  refine (bigSep_W2 _).trans ?_
  show iprop((((c.tc : Thread nD τ).loc main_arg0) ↦[(View.whole main_arg0).set]{fullShare} Fv 0) ∗ (((c.tc : Thread nD τ).loc main_case0b1_v19) ↦[(View.whole main_case0b1_v19).set]{fullShare} Fv 1) ∗ (((c.tc : Thread nD τ).loc main_arg4) ↦[(View.whole main_arg4).set]{fullShare} Fv 2) ∗ (((c.tc : Thread nD τ).loc main_case0b1_v22) ↦[(View.whole main_case0b1_v22).set]{fullShare} Fv 3) ∗ (((c.tc : Thread nD τ).loc main_v1) ↦[(View.whole main_v1).set]{fullShare} Fv 4) ∗ (((c.tc : Thread nD τ).loc main_case0b1_v21) ↦[(View.whole main_case0b1_v21).set]{fullShare} Fv 5) ∗ (((c.tc : Thread nD τ).loc main_case0b1_v23) ↦[(View.whole main_case0b1_v23).set]{fullShare} Fv 6) ∗ (((c.tc : Thread nD τ).loc main_arg8) ↦[(View.whole main_arg8).set]{fullShare} Fv 7) ∗ (((c.tc : Thread nD τ).loc main_case0b1_v24) ↦[(View.whole main_case0b1_v24).set]{fullShare} Fv 8) ∗ (((c.tc : Thread nD τ).loc main_case0b1_v25) ↦[(View.whole main_case0b1_v25).set]{fullShare} Fv 9)) = _
  have hs : ∀ (b : Ref sig .tc) (g : Buf (Elt F) ((c.tc : Thread nD τ).loc b)), ((((c.tc : Thread nD τ).loc b) ↦[(View.whole b).set]{fullShare} g) : sProp 𝕄) = (((c.tc : Thread nD τ).loc b) ↦{fullShare} g) :=
    fun b g => by rw [View.set_whole]
  exact congrArg₂ _ (hs main_arg0 _) <| congrArg₂ _ (hs main_case0b1_v19 _) <| congrArg₂ _ (hs main_arg4 _) <| congrArg₂ _ (hs main_case0b1_v22 _) <|
    congrArg₂ _ (hs main_v1 _) <| congrArg₂ _ (hs main_case0b1_v21 _) <| congrArg₂ _ (hs main_case0b1_v23 _) <| congrArg₂ _ (hs main_arg8 _) <|
    congrArg₂ _ (hs main_case0b1_v24 _) (hs main_case0b1_v25 _)

omit [FloatOps F] in
/-- The buffers held again, the result at new contents. -/
theorem held_set (c : Dev nD) (W : Valuation τ sig (Elt F)) (f : S16384x64.Idx → F .f32) :
    (iprop(((((c.tc : Thread nD τ).loc main_arg0) ↦{fullShare} W m0) ∗ (((c.tc : Thread nD τ).loc main_case0b1_v19) ↦{fullShare} W m1) ∗ (((c.tc : Thread nD τ).loc main_arg4) ↦{fullShare} W m2) ∗ (((c.tc : Thread nD τ).loc main_case0b1_v22) ↦{fullShare} W m3) ∗ (((c.tc : Thread nD τ).loc main_v1) ↦{fullShare} W m4) ∗ (((c.tc : Thread nD τ).loc main_case0b1_v21) ↦{fullShare} W m5) ∗ (((c.tc : Thread nD τ).loc main_case0b1_v23) ↦{fullShare} W m6) ∗ (((c.tc : Thread nD τ).loc main_arg8) ↦{fullShare} W m7) ∗ (((c.tc : Thread nD τ).loc main_case0b1_v24) ↦{fullShare} W m8) ∗ (((c.tc : Thread nD τ).loc main_case0b1_v25) ↦{fullShare} f)) ∗ StableHlo.held (c.tc : Thread nD τ) (Pipeline.ucRefs τ sig \ mlpRefs) W) : sProp 𝕄)
      ⊢ StableHlo.held (c.tc : Thread nD τ) (Pipeline.ucRefs τ sig) (Function.update W m9 f) := by
  obtain ⟨W', hW'⟩ : ∃ W' : Valuation τ sig (Elt F), W' = Function.update W m9 f := ⟨_, rfl⟩
  have hne : ∀ b, b ≠ m9 → W' b = W b := fun b hb => by rw [hW']; exact Function.update_of_ne hb _ _
  have e9 : W' m9 = f := by rw [hW']; exact Function.update_self _ _ _
  rw [← hW']
  clear hW'
  rw [StableHlo.held_sub_split (c.tc : Thread nD τ) mlpRefs_sub, held_mlp, e9]
  rw [hne m0 (by decide), hne m1 (by decide), hne m2 (by decide), hne m3 (by decide), hne m4 (by decide), hne m5 (by decide), hne m6 (by decide), hne m7 (by decide), hne m8 (by decide)]
  rw [show (StableHlo.held (c.tc : Thread nD τ) (Pipeline.ucRefs τ sig \ mlpRefs) W' : sProp 𝕄)
      = StableHlo.held (c.tc : Thread nD τ) (Pipeline.ucRefs τ sig \ mlpRefs) W from StableHlo.held_congr (c.tc : Thread nD τ) (fun b hb => by
    have hb' := (Finset.mem_sdiff.mp hb).2
    simp only [mlpRefs, Finset.mem_insert, Finset.mem_singleton, not_or] at hb'
    exact hne b hb'.2.2.2.2.2.2.2.2.2)]

/-- The result's contents at the end. -/
def mFin (W : Dev nD → Valuation τ sig (Elt F)) (n : ℕ) (c : Dev nD) : S16384x64.Idx → F .f32 := (md W n c).arrAt 9 grid2.N

theorem arrays1_end (W : Dev nD → Valuation τ sig (Elt F)) (n : ℕ) (c : Dev nD) :
    ((md W n c).arrays ((md W n c).arrAt · grid2.N) : sProp 𝕄) = iprop((((c.tc : Thread nD τ).loc main_arg0) ↦{fullShare} W c m0) ∗ (((c.tc : Thread nD τ).loc main_case0b1_v19) ↦{fullShare} W c m1) ∗ (((c.tc : Thread nD τ).loc main_arg4) ↦{fullShare} W c m2) ∗ (((c.tc : Thread nD τ).loc main_case0b1_v22) ↦{fullShare} W c m3) ∗ (((c.tc : Thread nD τ).loc main_v1) ↦{fullShare} W c m4) ∗ (((c.tc : Thread nD τ).loc main_case0b1_v21) ↦{fullShare} W c m5) ∗ (((c.tc : Thread nD τ).loc main_case0b1_v23) ↦{fullShare} W c m6) ∗ (((c.tc : Thread nD τ).loc main_arg8) ↦{fullShare} W c m7) ∗ (((c.tc : Thread nD τ).loc main_case0b1_v24) ↦{fullShare} W c m8) ∗ (((c.tc : Thread nD τ).loc main_case0b1_v25) ↦{fullShare} mFin W n c)) := by
  refine (arrays1 W n c _).trans ?_
  have h0 : (md W n c).arrAt 0 grid2.N = W c m0 := (md W n c).arrAt_in 0 rfl _
  have h1 : (md W n c).arrAt 1 grid2.N = W c m1 := (md W n c).arrAt_in 1 rfl _
  have h2 : (md W n c).arrAt 2 grid2.N = W c m2 := (md W n c).arrAt_in 2 rfl _
  have h3 : (md W n c).arrAt 3 grid2.N = W c m3 := (md W n c).arrAt_in 3 rfl _
  have h4 : (md W n c).arrAt 4 grid2.N = W c m4 := (md W n c).arrAt_in 4 rfl _
  have h5 : (md W n c).arrAt 5 grid2.N = W c m5 := (md W n c).arrAt_in 5 rfl _
  have h6 : (md W n c).arrAt 6 grid2.N = W c m6 := (md W n c).arrAt_in 6 rfl _
  have h7 : (md W n c).arrAt 7 grid2.N = W c m7 := (md W n c).arrAt_in 7 rfl _
  have h8 : (md W n c).arrAt 8 grid2.N = W c m8 := (md W n c).arrAt_in 8 rfl _
  exact congrArg₂ _ (congrArg (fun g => (((c.tc : Thread nD τ).loc main_arg0) ↦{fullShare} g : sProp 𝕄)) h0) <| congrArg₂ _ (congrArg (fun g => (((c.tc : Thread nD τ).loc main_case0b1_v19) ↦{fullShare} g : sProp 𝕄)) h1) <| congrArg₂ _ (congrArg (fun g => (((c.tc : Thread nD τ).loc main_arg4) ↦{fullShare} g : sProp 𝕄)) h2) <| congrArg₂ _ (congrArg (fun g => (((c.tc : Thread nD τ).loc main_case0b1_v22) ↦{fullShare} g : sProp 𝕄)) h3) <| congrArg₂ _ (congrArg (fun g => (((c.tc : Thread nD τ).loc main_v1) ↦{fullShare} g : sProp 𝕄)) h4) <| congrArg₂ _ (congrArg (fun g => (((c.tc : Thread nD τ).loc main_case0b1_v21) ↦{fullShare} g : sProp 𝕄)) h5) <| congrArg₂ _ (congrArg (fun g => (((c.tc : Thread nD τ).loc main_case0b1_v23) ↦{fullShare} g : sProp 𝕄)) h6) <| congrArg₂ _ (congrArg (fun g => (((c.tc : Thread nD τ).loc main_arg8) ↦{fullShare} g : sProp 𝕄)) h7) <|
    congrArg₂ _ (congrArg (fun g => (((c.tc : Thread nD τ).loc main_case0b1_v24) ↦{fullShare} g : sProp 𝕄)) h8) rfl

/-- What the region leaves: the network's rows in its result, the rest as it was. -/
def Mlped (W : Dev nD → Valuation τ sig (Elt F)) (n : ℕ) (c : Dev nD) (W' : Valuation τ sig (Elt F)) : Prop :=
  (∀ b, b ≠ m9 → W' b = W c b) ∧ W' m9 = mFin W n c

/-- The proof data of both pipelines: the network's, and some for the other. -/
def mds (W : Dev nD → Valuation τ sig (Elt F)) (n : ℕ) : (p : Fin 2) → (c : Dev nD) → Pipeline.Dat τ (Elt F) (HIx 1) ℕ UU ℕ (Pipeline.pinD (pcfgs (F := F)) (aV W) c p) c
  | ⟨0, _⟩ => fun c => { A := fun w => W c (Proc.devRef .tc (Pipeline.arrRef spec1 w)), after := fun _ _ _ => Classical.arbitrary _, Φ := fun _ => BIBase.emp, q := fun _ => fullShare, owed := fun _ => 0 }
  | ⟨1, _⟩ => md W n

def ownSem1 : Empty → SemLoc sig := Empty.elim

theorem ho1 : Pipeline.OwnSemFacts spec2 ownSem1 := by decide

theorem own1 (c : Dev nD) : (Pipeline.ownSems0 ownSem1 c : sProp 𝕄) = BIBase.emp := rfl

theorem pref1 (W : Dev nD → Valuation τ sig (Elt F)) (c : Dev nD) :
    (Pipeline.prefHeld (pcfgs (F := F) 1).pre c (fun _ => fullShare) (aV W c 1).1 : sProp 𝕄) = BIBase.emp := rfl

def reg1 (W : Dev nD → Valuation τ sig (Elt F)) (n : ℕ) :
    Pipeline.PerCore.RegionSeg (pcfgs (F := F)) (aV W) (mds W n) (none : HIx 1) (defs₀ (F := F)) 𝒱₀ (K (F := F)).L (K (F := F)).lev 1 where
  win := winFacts2.to₀
  block_pos := block_pos2
  stage_whole := stage_whole2
  K := Empty
  osem := ownSem1
  ho := ho1
  hbody c := body1 W n c
  hwaits c := by
    iintro -
    iapply (Pipeline.PerCore.cellsWaits_of_owed_zero (Pipeline.pinD (pcfgs (F := F)) (aV W)) (mds W n) (none : HIx 1) 1 c (fun _ => rfl))
    iempintro
  pre c := iprop(StableHlo.held (c.tc : Thread nD τ) (Pipeline.ucRefs τ sig) (W c) ∗ owesLow c n)
  post c := iprop((∃ W', ⌜Mlped W n c W'⌝ ∗ StableHlo.held (c.tc : Thread nD τ) (Pipeline.ucRefs τ sig) W') ∗ owesLow c n)
  X c := BIBase.emp
  Y c := BIBase.emp
  Z c := StableHlo.held (c.tc : Thread nD τ) (Pipeline.ucRefs τ sig \ mlpRefs) (W c)
  hentry c := by
    rw [own1, pref1, StableHlo.held_sub_split (c.tc : Thread nD τ) mlpRefs_sub (W c), held_mlp]
    show _ ⊢ iprop(|={Set.univ}=> iprop((md W n c).arrays ((md W n c).arrAt · 0) ∗ _ ∗ (md W n c).owesAt none 0 ∗ _))
    rw [arrays1]
    iintro ⟨⟨⟨HA, Hr⟩, ⟨%Wd, %hW, Ho⟩⟩, -, -⟩
    imodintro
    isplitl [HA]; · iexact HA
    isplitr; · iempintro
    isplitl [Ho]
    · iexists Wd
      isplitr
      · ipureintro; exact fun p hp => Or.inl (hW p hp)
      iexact Ho
    isplitr; · iempintro
    iexact Hr
  hin c := by
    rw [pref1]
    show _ ⊢ Pipeline.scopedRest spec2 c
    iintro ⟨-, -, Hr⟩
    iexact Hr
  hout c := by
    rw [own1]
    show Pipeline.scopedRest spec2 c ⊢ _
    iintro Hr
    isplitr; · iempintro
    isplitr; · iempintro
    iexact Hr
  hexit c := by
    show iprop((md W n c).arrays ((md W n c).arrAt · grid2.N) ∗ (md W n c).owesAt none _ ∗ _) ⊢ _
    rw [arrays1_end]
    iintro ⟨HA, ⟨%Wd, %hW, Ho⟩, -, Hr⟩
    imodintro
    isplitr [Ho]
    · iexists (Function.update (W c) m9 (mFin W n c))
      isplitr
      · ipureintro
        exact ⟨fun b hb => Function.update_of_ne hb _ _, Function.update_self _ _ _⟩
      iapply (held_set c (W c) (mFin W n c))
      isplitl [HA]; · iexact HA
      iexact Hr
    iexists Wd
    isplitr
    · ipureintro
      intro p hp
      rcases hW hp with h | ⟨w, s, rfl⟩
      · exact h
      · exact Nat.zero_le _
    iexact Ho

end Cert.Proof.Bucket
-- ==== Proof.Ops.lean ====
/-
  @main as its host operations and its three calls, and what each list of operations needs of the buffers.
-/
module

public import proofs.«01_k».proof.Proof.Mlp

@[expose] public section

noncomputable section

namespace Cert.Proof.Bucket

open Cert.KernelIdeal Cert.KernelIdeal.Gen

open Idealize.ShloMosaic Idealize.ShloMosaic.TcCoe Idealize.ShloMosaic.StableHlo
open Idealize.ShloMosaic.SparseCore.Cfg (HIx)
open Idealize.SL Idealize.SL.RA Idealize.SL.BI
open Idealize.SL.Sem

variable {F : FTy → Type} [FloatOps F]

/-- Before the bucketing call: the table transposed, the layer's two slices. -/
abbrev ops1 : List (HloOp τ sig (Elt F)) :=
  [ unary main_arg3 main_v0 ((transpose S64x1000000 [1, 0] · transposes_S1000000x64_S64x1000000_1_0) : (⟨S1000000x64, .f32⟩ : BufTy).Contents (Elt F) → (⟨S64x1000000, .f32⟩ : BufTy).Contents (Elt F)),
    unary main_arg6 main_v1 ((extractStridedSlice S128x256 ![0, 0] · slices_S192x256_S128x256_0_0) : (⟨S192x256, .f32⟩ : BufTy).Contents (Elt F) → (⟨S128x256, .f32⟩ : BufTy).Contents (Elt F)),
    unary main_arg6 main_v2 ((extractStridedSlice S64x256 ![128, 0] · slices_S192x256_S64x256_128_0) : (⟨S192x256, .f32⟩ : BufTy).Contents (Elt F) → (⟨S64x256, .f32⟩ : BufTy).Contents (Elt F)) ]

/-- The largest count compared with the bound. -/
abbrev ops2 : List (HloOp τ sig (Elt F)) :=
  [ nullary main_c (constantI S_ 32 2147483648#32),
    binary main_v3_0 main_c main_v4 ((fun x v => Host.reduce IntOp.maxsi x v reducesTo_S256_S_d0 h_S_) : (⟨S256, .i32⟩ : BufTy).Contents (Elt F) → (⟨S_, .i32⟩ : BufTy).Contents (Elt F) → (⟨S_, .i32⟩ : BufTy).Contents (Elt F)),
    nullary main_c_0 (constantI S_ 32 256#32),
    binary main_v4 main_c_0 main_v5 (cmpi .sle : (⟨S_, .i32⟩ : BufTy).Contents (Elt F) → (⟨S_, .i32⟩ : BufTy).Contents (Elt F) → (⟨S_, .i1⟩ : BufTy).Contents (Elt F)) ]

/-- A constant. -/
abbrev ops3 : List (HloOp τ sig (Elt F)) :=
  [ nullary main_c_1 (constantI S_ 32 0#32) ]

/-- The slow branch. -/
abbrev opsSlow : List (HloOp τ sig (Elt F)) :=
  [ TRef.unary (TRef.of (T := ⟨S16384, .i32⟩) main_arg1) (TRef.of (T := ⟨S16384x1, .i32⟩) main_case0b0_call0_v0) (broadcastInDim S16384x1 ![0] bcast_S16384_S16384x1_0),
    TRef.binary (TRef.of (T := ⟨S1000000x64, .f32⟩) main_arg3) (TRef.of (T := ⟨S16384x1, .i32⟩) main_case0b0_call0_v0) (TRef.of (T := ⟨S16384x64, .f32⟩) main_case0b0_v8) (fun x i => Host.gather gather_S1000000x64_S16384x1_S16384x64_1_0_n_n_0_1_164 x i),
    binary main_arg0 main_arg4 main_case0b0_v9 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    unary main_arg5 main_case0b0_v10 (broadcastInDim S1x128 ![1] bcast_S128_S1x128_1 : (⟨S128, .f32⟩ : BufTy).Contents (Elt F) → (⟨S1x128, .f32⟩ : BufTy).Contents (Elt F)),
    unary main_case0b0_v10 main_case0b0_v11 (broadcastInDim S16384x128 ![0, 1] bcast_S1x128_S16384x128_0_1 : (⟨S1x128, .f32⟩ : BufTy).Contents (Elt F) → (⟨S16384x128, .f32⟩ : BufTy).Contents (Elt F)),
    binary main_case0b0_v9 main_case0b0_v11 main_case0b0_v12 (addf : (⟨S16384x128, .f32⟩ : BufTy).Contents (Elt F) → (⟨S16384x128, .f32⟩ : BufTy).Contents (Elt F) → (⟨S16384x128, .f32⟩ : BufTy).Contents (Elt F)),
    binary main_case0b0_v12 main_v1 main_case0b0_v13 ((fun l r => Host.dotGeneral dot_S16384x128_S128x256_S16384x256_1_0_0_1_n_n none l r) : (⟨S16384x128, .f32⟩ : BufTy).Contents (Elt F) → (⟨S128x256, .f32⟩ : BufTy).Contents (Elt F) → (⟨S16384x256, .f32⟩ : BufTy).Contents (Elt F)),
    binary main_case0b0_v8 main_v2 main_case0b0_v14 ((fun l r => Host.dotGeneral dot_S16384x64_S64x256_S16384x256_1_0_0_1_n_n none l r) : (⟨S16384x64, .f32⟩ : BufTy).Contents (Elt F) → (⟨S64x256, .f32⟩ : BufTy).Contents (Elt F) → (⟨S16384x256, .f32⟩ : BufTy).Contents (Elt F)),
    binary main_case0b0_v13 main_case0b0_v14 main_case0b0_v15 (addf : (⟨S16384x256, .f32⟩ : BufTy).Contents (Elt F) → (⟨S16384x256, .f32⟩ : BufTy).Contents (Elt F) → (⟨S16384x256, .f32⟩ : BufTy).Contents (Elt F)),
    unary main_arg7 main_case0b0_v16 (broadcastInDim S1x256 ![1] bcast_S256_S1x256_1 : (⟨S256, .f32⟩ : BufTy).Contents (Elt F) → (⟨S1x256, .f32⟩ : BufTy).Contents (Elt F)),
    unary main_case0b0_v16 main_case0b0_v17 (broadcastInDim S16384x256 ![0, 1] bcast_S1x256_S16384x256_0_1 : (⟨S1x256, .f32⟩ : BufTy).Contents (Elt F) → (⟨S16384x256, .f32⟩ : BufTy).Contents (Elt F)),
    binary main_case0b0_v15 main_case0b0_v17 main_case0b0_v18 (addf : (⟨S16384x256, .f32⟩ : BufTy).Contents (Elt F) → (⟨S16384x256, .f32⟩ : BufTy).Contents (Elt F) → (⟨S16384x256, .f32⟩ : BufTy).Contents (Elt F)),
    nullary main_case0b0_cst (constant S_ .f32 0x00000000#32),
    unary main_case0b0_cst main_case0b0_v19 (broadcastInDim S16384x256 ![] bcast_S_S16384x256 : (⟨S_, .f32⟩ : BufTy).Contents (Elt F) → (⟨S16384x256, .f32⟩ : BufTy).Contents (Elt F)),
    binary main_case0b0_v18 main_case0b0_v19 main_case0b0_v20 (maximumf : (⟨S16384x256, .f32⟩ : BufTy).Contents (Elt F) → (⟨S16384x256, .f32⟩ : BufTy).Contents (Elt F) → (⟨S16384x256, .f32⟩ : BufTy).Contents (Elt F)),
    binary main_case0b0_v20 main_arg8 main_case0b0_v21 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)),
    unary main_arg9 main_case0b0_v22 (broadcastInDim S1x64 ![1] bcast_S64_S1x64_1 : (⟨S64, .f32⟩ : BufTy).Contents (Elt F) → (⟨S1x64, .f32⟩ : BufTy).Contents (Elt F)),
    unary main_case0b0_v22 main_case0b0_v23 (broadcastInDim S16384x64 ![0, 1] bcast_S1x64_S16384x64_0_1 : (⟨S1x64, .f32⟩ : BufTy).Contents (Elt F) → (⟨S16384x64, .f32⟩ : BufTy).Contents (Elt F)),
    binary main_case0b0_v21 main_case0b0_v23 main_case0b0_v24 (addf : (⟨S16384x64, .f32⟩ : BufTy).Contents (Elt F) → (⟨S16384x64, .f32⟩ : BufTy).Contents (Elt F) → (⟨S16384x64, .f32⟩ : BufTy).Contents (Elt F)),
    unary main_case0b0_v24 main_v7 id ]

/-- The fast branch up to the row extraction. -/
abbrev opsFast1 : List (HloOp τ sig (Elt F)) :=
  [ nullary main_case0b1_v8 (iotaInDim S64x128 32 0),
    nullary main_case0b1_v9 (iotaInDim S64x128 32 1),
    nullary main_case0b1_c_2 (constantI S_ 32 0#32),
    unary main_case0b1_c_2 main_case0b1_v10 (broadcastInDim S64x128 ![] bcast_S_S64x128 : (⟨S_, .i32⟩ : BufTy).Contents (Elt F) → (⟨S64x128, .i32⟩ : BufTy).Contents (Elt F)),
    binary main_case0b1_v8 main_case0b1_v10 main_case0b1_v11 (addi : (⟨S64x128, .i32⟩ : BufTy).Contents (Elt F) → (⟨S64x128, .i32⟩ : BufTy).Contents (Elt F) → (⟨S64x128, .i32⟩ : BufTy).Contents (Elt F)),
    binary main_case0b1_v11 main_case0b1_v9 main_case0b1_v12 (cmpi .eq : (⟨S64x128, .i32⟩ : BufTy).Contents (Elt F) → (⟨S64x128, .i32⟩ : BufTy).Contents (Elt F) → (⟨S64x128, .i1⟩ : BufTy).Contents (Elt F)),
    unary main_case0b1_v12 main_case0b1_v13 (uitofp .f32 : (⟨S64x128, .i1⟩ : BufTy).Contents (Elt F) → (⟨S64x128, .f32⟩ : BufTy).Contents (Elt F)),
    nullary main_case0b1_c_3 (constantI S_ 32 0#32),
    unary main_case0b1_c_3 main_case0b1_v14 (broadcastInDim S256 ![] bcast_S_S256 : (⟨S_, .i32⟩ : BufTy).Contents (Elt F) → (⟨S256, .i32⟩ : BufTy).Contents (Elt F)),
    binary main_v3_0 main_case0b1_v14 main_case0b1_v15 (addi : (⟨S256, .i32⟩ : BufTy).Contents (Elt F) → (⟨S256, .i32⟩ : BufTy).Contents (Elt F) → (⟨S256, .i32⟩ : BufTy).Contents (Elt F)),
    nullary main_case0b1_c_4 (constantI S_ 32 0#32),
    unary main_case0b1_c_4 main_case0b1_v16 (broadcastInDim S16384 ![] bcast_S_S16384 : (⟨S_, .i32⟩ : BufTy).Contents (Elt F) → (⟨S16384, .i32⟩ : BufTy).Contents (Elt F)),
    binary main_arg1 main_case0b1_v16 main_case0b1_v17 (addi : (⟨S16384, .i32⟩ : BufTy).Contents (Elt F) → (⟨S16384, .i32⟩ : BufTy).Contents (Elt F) → (⟨S16384, .i32⟩ : BufTy).Contents (Elt F)),
    reshape main_v3_1 main_case0b1_v18 (rfl : (.i32 : EltTy) = .i32) shapeCasts_S256x256_S65536 ]

/-- Between the two regions. -/
abbrev opsFast2 : List (HloOp τ sig (Elt F)) :=
  [ nullary main_case0b1_cst (constant S_ .f32 0x00000000#32),
    unary main_case0b1_cst main_case0b1_v20 (broadcastInDim S64x256 ![] bcast_S_S64x256 : (⟨S_, .f32⟩ : BufTy).Contents (Elt F) → (⟨S64x256, .f32⟩ : BufTy).Contents (Elt F)),
    binary main_v2 main_case0b1_v20 main_case0b1_v21 ((fun a b => concatenate S128x256 0 [⟨S64x256, a⟩, ⟨S64x256, b⟩] concatenates_S64x256_S64x256_S128x256_d0) : (⟨S64x256, .f32⟩ : BufTy).Contents (Elt F) → (⟨S64x256, .f32⟩ : BufTy).Contents (Elt F) → (⟨S128x256, .f32⟩ : BufTy).Contents (Elt F)),
    reshape main_arg5 main_case0b1_v22 (rfl : (.f32 : EltTy) = .f32) shapeCasts_S128_S1x128,
    reshape main_arg7 main_case0b1_v23 (rfl : (.f32 : EltTy) = .f32) shapeCasts_S256_S1x256,
    reshape main_arg9 main_case0b1_v24 (rfl : (.f32 : EltTy) = .f32) shapeCasts_S64_S1x64 ]

/-- The copy into the result. -/
abbrev opsCopy : List (HloOp τ sig (Elt F)) :=
  [ unary main_case0b1_v25 main_v7 id ]

/-- The branch's word, widened. -/
abbrev op6 : HloOp τ sig (Elt F) := unary main_v5 main_v6 ((extui 32 · natLt_1_32) : (⟨S_, .i1⟩ : BufTy).Contents (Elt F) → (⟨S_, .i32⟩ : BufTy).Contents (Elt F))

local notation "ΛM" => SparseCore.Sig (Pipeline.Sig Λ₀ (Fin 2) fun p => Pipeline.PCfg.Adm (pcfgs (F := F) p)) 1

/-- A region entered, in @main's signature. -/
abbrev enter (p : Fin 2) : Prog (TpuEff nD τ sig (Elt F) ΛM .tc) PUnit := Prog.lift (.customCall (SparseCore.inner (Pipeline.entry p)) ())

/-- The fast branch. -/
def fastProg : Prog (TpuEff nD τ sig (Elt F) ΛM .tc) PUnit :=
  seq opsFast1 >>= fun _ => enter 0 >>= fun _ => seq opsFast2 >>= fun _ => enter 1 >>= fun _ => seq opsCopy

def branches : Fin 2 → Prog (TpuEff nD τ sig (Elt F) ΛM .tc) PUnit
  | 0 => seq opsSlow
  | 1 => fastProg
  | ⟨_ + 2, h⟩ => absurd h (Nat.not_lt.2 (Nat.le_add_left _ _))

theorem main_eq (d : Dev nD) : main (F := F) d = (seq ops1 >>= fun _ => sc.run d 0 >>= fun _ => seq ops2 >>= fun _ => hlo rfl op6 (HostLoop.elt main_v6) >>= fun x =>
    seq ops3 >>= fun _ => HostLoop.case 2 x branches >>= fun _ => pure ⟨⟩) := rfl

theorem bufs_uc {op : HloOp τ sig (Elt F)} (h : op.bufs ⊆ tcRefs τ sig) : op.bufs ⊆ Pipeline.ucRefs τ sig := Pipeline.sub_ucRefs op h

theorem ops1_sub : (ops1 : List (HloOp τ sig (Elt F))).Forall fun op => op.bufs ⊆ tcRefs τ sig :=
  ⟨unary_bufs_sub .., unary_bufs_sub .., unary_bufs_sub ..⟩
theorem ops1_fresh : (ops1 : List (HloOp τ sig (Elt F))).Forall fun op => op.fresh = ∅ :=
  ⟨rfl, rfl, rfl⟩
theorem ops2_sub : (ops2 : List (HloOp τ sig (Elt F))).Forall fun op => op.bufs ⊆ tcRefs τ sig :=
  ⟨nullary_bufs_sub .., binary_bufs_sub .., nullary_bufs_sub .., binary_bufs_sub ..⟩
theorem ops2_fresh : (ops2 : List (HloOp τ sig (Elt F))).Forall fun op => op.fresh = ∅ :=
  ⟨rfl, rfl, rfl, rfl⟩
theorem ops3_sub : (ops3 : List (HloOp τ sig (Elt F))).Forall fun op => op.bufs ⊆ tcRefs τ sig := nullary_bufs_sub ..
theorem ops3_fresh : (ops3 : List (HloOp τ sig (Elt F))).Forall fun op => op.fresh = ∅ := rfl
theorem opsSlow_sub : (opsSlow : List (HloOp τ sig (Elt F))).Forall fun op => op.bufs ⊆ tcRefs τ sig :=
  ⟨unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub ..⟩
theorem opsSlow_fresh : (opsSlow : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem opsFast1_sub : (opsFast1 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., reshape_bufs_sub ..⟩
theorem opsFast1_fresh : (opsFast1 : List (HloOp τ sig (Elt F))).Forall fun op => op.fresh = ∅ :=
  ⟨rfl, rfl, rfl, rfl, rfl, rfl, rfl, rfl, rfl, rfl, rfl, rfl, rfl, rfl⟩
theorem opsFast2_sub : (opsFast2 : List (HloOp τ sig (Elt F))).Forall fun op => op.bufs ⊆ tcRefs τ sig :=
  ⟨nullary_bufs_sub .., unary_bufs_sub .., binary_bufs_sub .., reshape_bufs_sub .., reshape_bufs_sub .., reshape_bufs_sub ..⟩
theorem opsFast2_fresh : (opsFast2 : List (HloOp τ sig (Elt F))).Forall fun op => op.fresh = ∅ :=
  ⟨rfl, rfl, rfl, rfl, rfl, rfl⟩
theorem opsCopy_sub : (opsCopy : List (HloOp τ sig (Elt F))).Forall fun op => op.bufs ⊆ tcRefs τ sig := unary_bufs_sub ..
theorem opsCopy_fresh : (opsCopy : List (HloOp τ sig (Elt F))).Forall fun op => op.fresh = ∅ := rfl

end Cert.Proof.Bucket
-- ==== Proof.Enter.lean ====
/-
  The two regions entered from @main, and what the TensorCore owes there.
-/
module

public import proofs.«01_k».proof.Proof.Ops

@[expose] public section

noncomputable section

namespace Cert.Proof.Bucket

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ

variable [FloatOps F]

variable (m : (ℓ : Loc nD τ sig) → Buf (Elt F) ℓ)

/-- The level below which the TensorCore's waits lie after the bucketing call. -/
abbrev lvl1 : ℕ := 8

/-- The ghost state of a pipeline does not read its tables. -/
theorem ghost_at (W : Dev nD → Valuation τ sig (Elt F)) (p : Fin 2) (c : Dev nD) :
    (iprop(Pipeline.PerCore.cellsGhost (Pipeline.pinD (pcfgs (F := F)) fun _ => a₀) EP p c ∗ Pipeline.PerCore.toksInit (Pipeline.pinD (pcfgs (F := F)) fun _ => a₀) EP p c) : sProp 𝕄)
      ⊢ iprop(Pipeline.PerCore.cellsGhost (Pipeline.pinD (pcfgs (F := F)) (aV W)) EP p c ∗ Pipeline.PerCore.toksInit (Pipeline.pinD (pcfgs (F := F)) (aV W)) EP p c) := by
  match p with
  | ⟨0, _⟩ => exact Entails.of_eq rfl
  | ⟨1, _⟩ => exact Entails.of_eq rfl

theorem inj_at (W : Valuation τ sig (Elt F)) : Function.Injective (Pipeline.PerCore.cellOf (nD := nD) (τ := τ) (Pipeline.pinD (pcfgs (F := F)) (aV fun _ => W))) :=
  cellOf_inj (aV (fun _ => W) 0)

/-- After the call the TensorCore owes nothing; its record comes apart from the rest and goes back. -/
theorem tcSt_open (d : Dev nD) :
    ((K (F := F)).tcSt EH d 1 : sProp 𝕄) ⊢ iprop(owesLow d lvl1 ∗ (owesLow d lvl1 -∗ (K (F := F)).tcSt EH d 1)) := by
  unfold SparseCore.Cfg.tcSt
  have h0 : (K (F := F)).Otc d 1 = 0 := (K (F := F)).Otc_end d le_rfl
  rw [h0]
  iintro ⟨Ho, Hr⟩
  isplitl [Ho]; · iexact Ho
  iintro Ho
  isplitl [Ho]; · iexact Ho
  iexact Hr

theorem ext_enter (κ : GSem nD τ sig → ℕ) (d : Dev nD) (W : Valuation τ sig (Elt F)) (n : ℕ) (hT : TabOK (W rI) (W rC) (W rS)) (Ψ : PUnit → sProp 𝕄) :
    iprop((K (F := F)).ctx EH (P m) κ ∗ boundary (d.tc : Thread nD τ) ∗ StableHlo.held (d.tc : Thread nD τ) (Pipeline.ucRefs τ sig) W ∗ owesLow d n
        ∗ (Pipeline.PerCore.cellsGhost (Pipeline.pinD (pcfgs (F := F)) fun _ => a₀) EP 0 d ∗ Pipeline.PerCore.toksInit (Pipeline.pinD (pcfgs (F := F)) fun _ => a₀) EP 0 d)
        ∗ (boundary (d.tc : Thread nD τ) -∗ (∃ W', ⌜Extracted (fun _ => W) d W'⌝ ∗ StableHlo.held (d.tc : Thread nD τ) (Pipeline.ucRefs τ sig) W') -∗ owesLow d n -∗ Ψ ⟨⟩))
      ⊢ wp frame (wpE ((K (F := F)).defs (D (F := F))) 𝒱 (SparseCore.T d) none) Set.univ (enter 0) Ψ := by
  iintro ⟨#Hctx, Hb, Hh, Ho, Hg, HΨ⟩
  ihave Hg := (ghost_at (fun _ => W) 0 d) $$ Hg
  icases Hg with ⟨Hg, Ht⟩
  ihave #Hlv := (SparseCore.Cfg.ctx_levAts κ) $$ Hctx
  iapply ((K (F := F)).wp_liftProg (D (F := F)) 𝒱 (SparseCore.T d) Set.univ none (.op (.customCall (Pipeline.entry 0) ()) .ret) Ψ)
  iapply (Pipeline.PerCore.RDat.RegionSeg.wp (pcfgs (F := F)) (aV fun _ => W) (rds0 (fun _ => W) n) (none : HIx 1) (inj_at W) EP (defs₀ (F := F)) 𝒱₀ (K (F := F)).L (K (F := F)).lev
    (reg0 (fun _ => W) n (fun _ => hT)) d none (fun _ h => nomatch h) .ret Ψ)
  isplitl [HΨ]
  · iintro ⟨Hb, Hpost⟩
    ihave Hpost := (show (reg0 (fun _ => W) n (fun _ => hT)).post d ⊢ (iprop((∃ W', ⌜Extracted (fun _ => W) d W'⌝ ∗ StableHlo.held (d.tc : Thread nD τ) (Pipeline.ucRefs τ sig) W') ∗ owesLow d n) : sProp 𝕄) from Entails.of_eq rfl) $$ Hpost
    icases Hpost with ⟨Hh, Ho⟩
    rw [wp_ret]
    imodintro
    iapply HΨ $$ Hb Hh Ho
  isplitl [Hb]; · iexact Hb
  isplitl [Hh Ho]
  · iapply (show (iprop(StableHlo.held (d.tc : Thread nD τ) (Pipeline.ucRefs τ sig) W ∗ owesLow d n) : sProp 𝕄) ⊢ (reg0 (fun _ => W) n (fun _ => hT)).pre d from Entails.of_eq rfl)
    isplitl [Hh]; · iexact Hh
    iexact Ho
  isplitr; · iexact Hlv
  isplitl [Hg]; · iexact Hg
  iexact Ht

theorem mlp_enter (κ : GSem nD τ sig → ℕ) (d : Dev nD) (W : Valuation τ sig (Elt F)) (n : ℕ) (Ψ : PUnit → sProp 𝕄) :
    iprop((K (F := F)).ctx EH (P m) κ ∗ boundary (d.tc : Thread nD τ) ∗ StableHlo.held (d.tc : Thread nD τ) (Pipeline.ucRefs τ sig) W ∗ owesLow d n
        ∗ (Pipeline.PerCore.cellsGhost (Pipeline.pinD (pcfgs (F := F)) fun _ => a₀) EP 1 d ∗ Pipeline.PerCore.toksInit (Pipeline.pinD (pcfgs (F := F)) fun _ => a₀) EP 1 d)
        ∗ (boundary (d.tc : Thread nD τ) -∗ (∃ W', ⌜Mlped (fun _ => W) n d W'⌝ ∗ StableHlo.held (d.tc : Thread nD τ) (Pipeline.ucRefs τ sig) W') -∗ owesLow d n -∗ Ψ ⟨⟩))
      ⊢ wp frame (wpE ((K (F := F)).defs (D (F := F))) 𝒱 (SparseCore.T d) none) Set.univ (enter 1) Ψ := by
  iintro ⟨#Hctx, Hb, Hh, Ho, Hg, HΨ⟩
  ihave Hg := (ghost_at (fun _ => W) 1 d) $$ Hg
  icases Hg with ⟨Hg, Ht⟩
  ihave #Hlv := (SparseCore.Cfg.ctx_levAts κ) $$ Hctx
  iapply ((K (F := F)).wp_liftProg (D (F := F)) 𝒱 (SparseCore.T d) Set.univ none (.op (.customCall (Pipeline.entry 1) ()) .ret) Ψ)
  iapply (Pipeline.PerCore.RegionSeg.wp (pcfgs (F := F)) (aV fun _ => W) (mds (fun _ => W) n) (none : HIx 1) (inj_at W) EP (defs₀ (F := F)) 𝒱₀ (K (F := F)).L (K (F := F)).lev
    (reg1 (fun _ => W) n) d none (fun _ h => nomatch h) .ret Ψ)
  isplitl [HΨ]
  · iintro ⟨Hb, Hpost⟩
    ihave Hpost := (show (reg1 (fun _ => W) n).post d ⊢ (iprop((∃ W', ⌜Mlped (fun _ => W) n d W'⌝ ∗ StableHlo.held (d.tc : Thread nD τ) (Pipeline.ucRefs τ sig) W') ∗ owesLow d n) : sProp 𝕄) from Entails.of_eq rfl) $$ Hpost
    icases Hpost with ⟨Hh, Ho⟩
    rw [wp_ret]
    imodintro
    iapply HΨ $$ Hb Hh Ho
  isplitl [Hb]; · iexact Hb
  isplitl [Hh Ho]
  · iapply (show (iprop(StableHlo.held (d.tc : Thread nD τ) (Pipeline.ucRefs τ sig) W ∗ owesLow d n) : sProp 𝕄) ⊢ (reg1 (fun _ => W) n).pre d from Entails.of_eq rfl)
    isplitl [Hh]; · iexact Hh
    iexact Ho
  isplitr; · iexact Hlv
  isplitl [Hg]; · iexact Hg
  iexact Ht

end Cert.Proof.Bucket
-- ==== Proof.Table.lean ====
/-
  What the host operations leave unchanged, and the tables the row extraction reads: when the fast branch is taken, every bucket
  has at most 256 entries.
-/
module

public import proofs.«01_k».proof.Proof.Ops

@[expose] public section

noncomputable section

namespace Cert.Proof.Bucket

open Cert.KernelIdeal Cert.KernelIdeal.Gen

open Idealize.ShloMosaic Idealize.ShloMosaic.TcCoe Idealize.ShloMosaic.StableHlo

variable {F : FTy → Type} [FloatOps F]

theorem ops1_keep (V : Valuation τ sig (Elt F)) {r : Ref sig .tc} (hr : r ∉ ([main_v0, main_v1, main_v2] : List (Ref sig .tc))) : after ops1 V (Proc.devRef .tc r) = V (Proc.devRef .tc r) :=
  after_of_writes_sub ops1 V (forall_writes_sub_of_map rfl) hr
theorem ops2_keep (V : Valuation τ sig (Elt F)) {r : Ref sig .tc} (hr : r ∉ ([main_c, main_v4, main_c_0, main_v5] : List (Ref sig .tc))) : after ops2 V (Proc.devRef .tc r) = V (Proc.devRef .tc r) :=
  after_of_writes_sub ops2 V (forall_writes_sub_of_map rfl) hr
theorem ops3_keep (V : Valuation τ sig (Elt F)) {r : Ref sig .tc} (hr : r ∉ ([main_c_1] : List (Ref sig .tc))) : after ops3 V (Proc.devRef .tc r) = V (Proc.devRef .tc r) :=
  after_of_writes_sub ops3 V (forall_writes_sub_of_map rfl) hr
theorem opsSlow_keep (V : Valuation τ sig (Elt F)) {r : Ref sig .tc} (hr : r ∉ ([main_case0b0_call0_v0, main_case0b0_v8, main_case0b0_v9, main_case0b0_v10, main_case0b0_v11, main_case0b0_v12, main_case0b0_v13, main_case0b0_v14, main_case0b0_v15, main_case0b0_v16, main_case0b0_v17, main_case0b0_v18, main_case0b0_cst, main_case0b0_v19, main_case0b0_v20, main_case0b0_v21, main_case0b0_v22, main_case0b0_v23, main_case0b0_v24, main_v7] : List (Ref sig .tc))) : after opsSlow V (Proc.devRef .tc r) = V (Proc.devRef .tc r) :=
  after_of_writes_sub opsSlow V (forall_writes_sub_of_map rfl) hr
theorem opsFast1_keep (V : Valuation τ sig (Elt F)) {r : Ref sig .tc} (hr : r ∉ ([main_case0b1_v8, main_case0b1_v9, main_case0b1_c_2, main_case0b1_v10, main_case0b1_v11, main_case0b1_v12, main_case0b1_v13, main_case0b1_c_3, main_case0b1_v14, main_case0b1_v15, main_case0b1_c_4, main_case0b1_v16, main_case0b1_v17, main_case0b1_v18] : List (Ref sig .tc))) : after opsFast1 V (Proc.devRef .tc r) = V (Proc.devRef .tc r) :=
  after_of_writes_sub opsFast1 V (forall_writes_sub_of_map rfl) hr
theorem opsFast2_keep (V : Valuation τ sig (Elt F)) {r : Ref sig .tc} (hr : r ∉ ([main_case0b1_cst, main_case0b1_v20, main_case0b1_v21, main_case0b1_v22, main_case0b1_v23, main_case0b1_v24] : List (Ref sig .tc))) : after opsFast2 V (Proc.devRef .tc r) = V (Proc.devRef .tc r) :=
  after_of_writes_sub opsFast2 V (forall_writes_sub_of_map rfl) hr
theorem opsCopy_keep (V : Valuation τ sig (Elt F)) {r : Ref sig .tc} (hr : r ∉ ([main_v7] : List (Ref sig .tc))) : after opsCopy V (Proc.devRef .tc r) = V (Proc.devRef .tc r) :=
  after_of_writes_sub opsCopy V (forall_writes_sub_of_map rfl) hr

/-! ## The largest count -/

theorem maxsi_ge_left (a b : BitVec 32) : a.toInt ≤ (IntOp.maxsi a b).toInt := by
  unfold IntOp.maxsi
  by_cases h : b.slt a = true
  · rw [if_pos h]
  · rw [if_neg h]
    rw [BitVec.slt_eq_decide, decide_eq_true_eq] at h
    omega
theorem maxsi_ge_right (a b : BitVec 32) : b.toInt ≤ (IntOp.maxsi a b).toInt := by
  unfold IntOp.maxsi
  by_cases h : b.slt a = true
  · rw [if_pos h]
    rw [BitVec.slt_eq_decide, decide_eq_true_eq] at h
    omega
  · rw [if_neg h]

theorem foldl_maxsi_init {ι : Type} (g : ι → BitVec 32) (l : List ι) (b : BitVec 32) : b.toInt ≤ (l.foldl (fun r i => IntOp.maxsi r (g i)) b).toInt := by
  induction l generalizing b with
  | nil => exact le_refl _
  | cons a l ih => exact (maxsi_ge_left b (g a)).trans (ih _)
theorem foldl_maxsi_mem {ι : Type} (g : ι → BitVec 32) (l : List ι) (b : BitVec 32) (i : ι) (hi : i ∈ l) : (g i).toInt ≤ (l.foldl (fun r i => IntOp.maxsi r (g i)) b).toInt := by
  induction l generalizing b with
  | nil => exact absurd hi (by simp)
  | cons a l ih =>
    rcases List.mem_cons.mp hi with rfl | h
    · exact (maxsi_ge_right b (g i)).trans (foldl_maxsi_init g l _)
    · exact ih _ h

theorem le_max (x : S256.Idx → BitVec 32) (b : S_.Idx → BitVec 32) (j : S_.Idx) (i : S256.Idx) :
    (x i).toInt ≤ (Host.reduce IntOp.maxsi x b reducesTo_S256_S_d0 h_S_ j).toInt := by
  rw [Host.reduce_eq_foldl]
  refine foldl_maxsi_mem x _ _ i (List.mem_filter.mpr ⟨List.mem_map.mpr ⟨S256.rowMajor i, List.mem_finRange _, Equiv.symm_apply_apply _ _⟩, ?_⟩)
  exact decide_eq_true (funext fun a => a.elim0)

/-! ## The word the branch is taken on -/

/-- The branch's word at the buffers. -/
def word (V : Valuation τ sig (Elt F)) : BitVec 32 := extui 32 (V (Proc.devRef .tc main_v5) : S_.Idx → BitVec 1) natLt_1_32 HostLoop.idx0

theorem ops2_v5 (V : Valuation τ sig (Elt F)) : (after ops2 V (Proc.devRef .tc main_v5) : S_.Idx → BitVec 1)
    = cmpi .sle (Host.reduce IntOp.maxsi (V rN : S256.Idx → BitVec 32) (constantI S_ 32 2147483648#32) reducesTo_S256_S_d0 h_S_) (constantI S_ 32 256#32) := by
  simp only [ops2]
  after_results_simp <;> rfl

theorem word_cases (V : Valuation τ sig (Elt F)) : word V = 0#32 ∨ word V = 1#32 := by
  have : ∀ b : BitVec 1, b.setWidth 32 = 0#32 ∨ b.setWidth 32 = 1#32 := by decide
  exact this _

theorem small_of_word (V : Valuation τ sig (Elt F)) (h : word (after ops2 V) = 1#32) (i : S256.Idx) : ((V rN : S256.Idx → BitVec 32) i).toInt ≤ 256 := by
  unfold word at h
  rw [ops2_v5] at h
  have hb : ∀ b : BitVec 1, b.setWidth 32 = 1#32 → b = 1#1 := by decide
  have h1 := IntOp.cmpi_sle.1 (hb _ h)
  exact (le_max _ (constantI S_ 32 2147483648#32) HostLoop.idx0 i).trans h1

/-! ## The tables -/

theorem fast1_idx (V : Valuation τ sig (Elt F)) : (after opsFast1 V rI : S16384.Idx → BitVec 32) = V rX := by
  have h : (after opsFast1 V rI : S16384.Idx → BitVec 32) = addi (V rX : S16384.Idx → BitVec 32) (broadcastInDim S16384 ![] bcast_S_S16384 (constantI S_ 32 0#32)) := by
    simp only [opsFast1]
    after_results_simp <;> rfl
  rw [h]
  exact funext fun x => BitVec.add_zero _
theorem fast1_cnt (V : Valuation τ sig (Elt F)) : (after opsFast1 V rC : S256.Idx → BitVec 32) = V rN := by
  have h : (after opsFast1 V rC : S256.Idx → BitVec 32) = addi (V rN : S256.Idx → BitVec 32) (broadcastInDim S256 ![] bcast_S_S256 (constantI S_ 32 0#32)) := by
    simp only [opsFast1]
    after_results_simp <;> rfl
  rw [h]
  exact funext fun x => BitVec.add_zero _
theorem fast1_lst (V : Valuation τ sig (Elt F)) : (after opsFast1 V rS : S65536.Idx → BitVec 32) = shapeCast S65536 (V rL : S256x256.Idx → BitVec 32) shapeCasts_S256x256_S65536 := by
  simp only [opsFast1]
  after_results_simp <;> rfl

/-- The lists in a row: entry `256 i + k` is list `i`'s place `k`. -/
theorem lists_at (v : S256x256.Idx → BitVec 32) (x : S65536.Idx) (y : S256x256.Idx) (h : (x 0).val = 256 * (y 0).val + (y 1).val) :
    shapeCast S65536 v shapeCasts_S256x256_S65536 x = v y := by
  refine shapeCast_apply v _ x y ?_
  rw [Shape.rowMajor_val_one, Shape.rowMajor_val_two, h]
  show (y 0).val * 256 + (y 1).val = _
  omega

/-- Row `a`, place `b`. -/
def pt (a b : Fin 256) : S256x256.Idx := Fin.cons a (Fin.cons b finZeroElim)
def pt1 (a : Fin 256) : S256.Idx := Fin.cons a finZeroElim

theorem bucket_small (I : S16384.Idx → BitVec 32) (fN : S256.Idx → BitVec 32) (h : GoodN I Finset.univ fN) (hs : ∀ i, (fN i).toInt ≤ 256) (r : Fin 256) :
    (bucket I (BitVec.ofNat 32 r.val)).length ≤ 256 := by
  have h1 := hs (pt1 r)
  rw [h (pt1 r) (Finset.mem_univ _)] at h1
  have h2 : (bucket I (BitVec.ofNat 32 r.val)).length ≤ 16384 := (List.length_filter_le _ _).trans (by rw [List.length_range])
  have h3 : ((pt1 r) 0).val = r.val := rfl
  rw [h3] at h1
  generalize (bucket I (BitVec.ofNat 32 r.val)).length = n at h1 h2
  rw [BitVec.toInt_eq_toNat_of_lt (by rw [BitVec.toNat_ofNat]; omega), BitVec.toNat_ofNat] at h1
  omega

theorem tabOK (I : S16384.Idx → BitVec 32) (V : Valuation τ sig (Elt F)) (hI : (V rX : S16384.Idx → BitVec 32) = I) (hN : GoodN I Finset.univ (V rN)) (hL : GoodL I Finset.univ (V rL))
    (hs : ∀ i, ((V rN : S256.Idx → BitVec 32) i).toInt ≤ 256) : TabOK (after opsFast1 V rI) (after opsFast1 V rC) (after opsFast1 V rS) := by
  rw [fast1_idx, fast1_cnt, fast1_lst, hI]
  have hlt : ∀ i : grid1.Coords, (i 0).val < 256 := fun i => lt_trans (i 0).isLt (by decide)
  have hlen : ∀ i : grid1.Coords, (bk i I).length ≤ 256 := fun i => bucket_small I (V rN) hN hs ⟨(i 0).val, hlt i⟩
  refine ⟨hlen, fun i x hx => ?_, fun i x k hk hx => ?_⟩
  · rw [hN x (Finset.mem_univ _), hx]
  · have hk' : k < 256 := lt_of_lt_of_le hk (hlen i)
    rw [lists_at _ x (pt ⟨(i 0).val, hlt i⟩ ⟨k, hk'⟩) hx]
    exact hL (pt ⟨(i 0).val, hlt i⟩ ⟨k, hk'⟩) (Finset.mem_univ _) hk

end Cert.Proof.Bucket
-- ==== Proof.Main.lean ====
/-
  The program's run: the bucketing call, the branch on the largest count, and on the fast side the row extraction and the network.
-/
module

public import proofs.«01_k».proof.Proof.Enter
public import proofs.«01_k».proof.Proof.Table
public import Idealize.ShloMosaic.Lib.SparseCore.Quiescent

@[expose] public section

noncomputable section

namespace Cert.Proof.Bucket

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Compact Cert.Proof.Lanes

variable {F : FTy → Type}

local notation "𝕄" => MT nD τ sig (HIx 1) (Elt F) ℕ UU ℕ

variable [FloatOps F]

variable (m : (ℓ : Loc nD τ sig) → Buf (Elt F) ℓ)

/-! ## What the run leaves -/

/-- The buffers at launch. -/
abbrev V0 (d : Dev nD) : Valuation τ sig (Elt F) := fun b => m (d, b)
/-- The buffers where the branch is taken, from those the bucketing call leaves. -/
abbrev atBranch (V : Valuation τ sig (Elt F)) : Valuation τ sig (Elt F) := StableHlo.after ops3 (op6.result (StableHlo.after ops2 V))

/-- The fast branch's run from `V` to `V'`. -/
def Fast (d : Dev nD) (V V' : Valuation τ sig (Elt F)) : Prop :=
  ∃ X Y : Valuation τ sig (Elt F), Extracted (fun _ => StableHlo.after opsFast1 V) d X ∧ Mlped (fun _ => StableHlo.after opsFast2 X) lvl1 d Y ∧ V' = StableHlo.after opsCopy Y

/-- The whole run's: the bucketing call, then one of the branches. -/
def Ran (d : Dev nD) (V' : Valuation τ sig (Elt F)) : Prop :=
  ∃ V2, Called (m (xLoc d)) (StableHlo.after ops1 (V0 m d)) V2 ∧ (V' = StableHlo.after opsSlow (atBranch V2)
    ∨ ((∀ i, ((V2 rN : S256.Idx → BitVec 32) i).toInt ≤ 256) ∧ Fast d (atBranch V2) V'))

abbrev FIN (d : Dev nD) : sProp 𝕄 :=
  iprop(∃ V', ⌜Ran m d V'⌝ ∗ StableHlo.held (d.tc : Thread nD τ) (Pipeline.ucRefs τ sig) V')

theorem mem_uc (ops : List (HloOp τ sig (Elt F))) (h : ops.Forall fun op => op.bufs ⊆ StableHlo.tcRefs τ sig) : ∀ op ∈ ops, op.bufs ⊆ Pipeline.ucRefs τ sig :=
  fun op ho => bufs_uc (List.forall_iff_forall_mem.mp h op ho)
theorem mem_fresh (ops : List (HloOp τ sig (Elt F))) (h : ops.Forall fun op => op.fresh = ∅) : ∀ op ∈ ops, op.fresh = ∅ :=
  List.forall_iff_forall_mem.mp h

/-- A straight line of host operations, from the boundary and the buffers. -/
theorem line_wp (d : Dev nD) (ops : List (HloOp τ sig (Elt F))) (h : ops.Forall fun op => op.bufs ⊆ StableHlo.tcRefs τ sig) (hf : ops.Forall fun op => op.fresh = ∅)
    (V : Valuation τ sig (Elt F)) (Ψ : PUnit → sProp 𝕄) :
    iprop(boundary (d.tc : Thread nD τ) ∗ StableHlo.held (d.tc : Thread nD τ) (Pipeline.ucRefs τ sig) V
        ∗ (boundary (d.tc : Thread nD τ) -∗ StableHlo.held (d.tc : Thread nD τ) (Pipeline.ucRefs τ sig) (StableHlo.after ops V) -∗ Ψ ⟨⟩))
      ⊢ wp frame (wpE ((K (F := F)).defs (D (F := F))) 𝒱 (SparseCore.T d) none) Set.univ (StableHlo.seq ops) Ψ := by
  rw [show (StableHlo.seq ops : Prog _ PUnit) = (StableHlo.seq ops >>= fun u => pure u) from (bind_pure _).symm]
  iintro ⟨Hb, Hh, HΨ⟩
  iapply (StableHlo.wp_seq 𝒱 none Set.univ d (Pipeline.ucRefs τ sig) _ ops (mem_uc ops h) (mem_fresh ops hf) V) $$ [Hb Hh]
  · isplitl [Hb]; · iexact Hb
    iexact Hh
  iintro ⟨Hb, Hh⟩
  rw [wp_pure]
  imodintro
  iapply HΨ $$ Hb Hh

abbrev gh (p : Fin 2) (d : Dev nD) : sProp 𝕄 :=
  iprop(Pipeline.PerCore.cellsGhost (Pipeline.pinD (pcfgs (F := F)) fun _ => a₀) EP p d ∗ Pipeline.PerCore.toksInit (Pipeline.pinD (pcfgs (F := F)) fun _ => a₀) EP p d)

theorem G_split (d : Dev nD) : (G (F := F) d : sProp 𝕄) ⊢ iprop(gh (F := F) 0 d ∗ gh (F := F) 1 d) := by
  unfold G
  rw [bigSep_W1, bigSep_W1]
  show iprop((_ ∗ _) ∗ (_ ∗ _)) ⊢ _
  iintro ⟨⟨A, B⟩, ⟨C, E⟩⟩
  isplitl [A C]
  · isplitl [A]; · iexact A
    iexact C
  isplitl [B]; · iexact B
  iexact E

/-- The fast branch. -/
theorem fast_wp (κ : GSem nD τ sig → ℕ) (d : Dev nD) (V : Valuation τ sig (Elt F))
    (hT : TabOK (StableHlo.after opsFast1 V rI) (StableHlo.after opsFast1 V rC) (StableHlo.after opsFast1 V rS)) (Ψ : PUnit → sProp 𝕄) :
    iprop((K (F := F)).ctx EH (P m) κ ∗ boundary (d.tc : Thread nD τ) ∗ StableHlo.held (d.tc : Thread nD τ) (Pipeline.ucRefs τ sig) V ∗ owesLow d lvl1 ∗ gh 0 d ∗ gh 1 d
        ∗ (boundary (d.tc : Thread nD τ) -∗ (∃ V', ⌜Fast d V V'⌝ ∗ StableHlo.held (d.tc : Thread nD τ) (Pipeline.ucRefs τ sig) V') -∗ owesLow d lvl1 -∗ Ψ ⟨⟩))
      ⊢ wp frame (wpE ((K (F := F)).defs (D (F := F))) 𝒱 (SparseCore.T d) none) Set.univ fastProg Ψ := by
  unfold fastProg
  simp only [wp_bind]
  iintro ⟨#Hctx, Hb, Hh, Ho, Hg0, Hg1, HΨ⟩
  iapply (line_wp d opsFast1 opsFast1_sub opsFast1_fresh V _)
  isplitl [Hb]; · iexact Hb
  isplitl [Hh]; · iexact Hh
  iintro Hb Hh
  iapply (ext_enter m κ d (StableHlo.after opsFast1 V) lvl1 hT _)
  isplitr; · iexact Hctx
  isplitl [Hb]; · iexact Hb
  isplitl [Hh]; · iexact Hh
  isplitl [Ho]; · iexact Ho
  isplitl [Hg0]; · iexact Hg0
  iintro Hb ⟨%X, %hX, Hh⟩ Ho
  iapply (line_wp d opsFast2 opsFast2_sub opsFast2_fresh X _)
  isplitl [Hb]; · iexact Hb
  isplitl [Hh]; · iexact Hh
  iintro Hb Hh
  iapply (mlp_enter m κ d (StableHlo.after opsFast2 X) lvl1 _)
  isplitr; · iexact Hctx
  isplitl [Hb]; · iexact Hb
  isplitl [Hh]; · iexact Hh
  isplitl [Ho]; · iexact Ho
  isplitl [Hg1]; · iexact Hg1
  iintro Hb ⟨%Y, %hY, Hh⟩ Ho
  iapply (line_wp d opsCopy opsCopy_sub opsCopy_fresh Y _)
  isplitl [Hb]; · iexact Hb
  isplitl [Hh]; · iexact Hh
  iintro Hb Hh
  iapply HΨ $$ Hb [Hh] Ho
  iexists (StableHlo.after opsCopy Y)
  isplitr
  · ipureintro; exact ⟨X, Y, hX, hY, rfl⟩
  iexact Hh

theorem case_zero : HostLoop.case 2 0#32 (branches (F := F)) = StableHlo.seq opsSlow := rfl
theorem case_one : HostLoop.case 2 1#32 (branches (F := F)) = fastProg := rfl

/-- The branch. -/
theorem branch_wp (κ : GSem nD τ sig → ℕ) (d : Dev nD) (I : S16384.Idx → BitVec 32) (V2 : Valuation τ sig (Elt F)) (hI : (V2 rX : S16384.Idx → BitVec 32) = I)
    (hN : GoodN I Finset.univ (V2 rN)) (hL : GoodL I Finset.univ (V2 rL)) (w : BitVec 32) (hw : word (StableHlo.after ops2 V2) = w) (Ψ : PUnit → sProp 𝕄) :
    iprop((K (F := F)).ctx EH (P m) κ ∗ boundary (d.tc : Thread nD τ) ∗ StableHlo.held (d.tc : Thread nD τ) (Pipeline.ucRefs τ sig) (atBranch V2) ∗ owesLow d lvl1 ∗ gh 0 d ∗ gh 1 d
        ∗ (boundary (d.tc : Thread nD τ) -∗ (∃ V', ⌜V' = StableHlo.after opsSlow (atBranch V2) ∨ ((∀ i, ((V2 rN : S256.Idx → BitVec 32) i).toInt ≤ 256) ∧ Fast d (atBranch V2) V')⌝
            ∗ StableHlo.held (d.tc : Thread nD τ) (Pipeline.ucRefs τ sig) V') -∗ owesLow d lvl1 -∗ Ψ ⟨⟩))
      ⊢ wp frame (wpE ((K (F := F)).defs (D (F := F))) 𝒱 (SparseCore.T d) none) Set.univ (HostLoop.case 2 w branches) Ψ := by
  subst hw
  have keep : ∀ r : Ref sig .tc, r ∉ ([main_c, main_v4, main_c_0, main_v5] : List (Ref sig .tc)) → r ≠ main_v6 → r ∉ ([main_c_1] : List (Ref sig .tc)) →
      atBranch V2 (Proc.devRef .tc r) = V2 (Proc.devRef .tc r) := fun r h1 h2 h3 =>
    (ops3_keep _ h3).trans ((StableHlo.unary_result_ne _ _ _ _ _ _ h2).trans (ops2_keep _ h1))
  rcases word_cases (StableHlo.after ops2 V2) with h | h
  · rw [h, case_zero]
    iintro ⟨#Hctx, Hb, Hh, Ho, -, -, HΨ⟩
    iapply (line_wp d opsSlow opsSlow_sub opsSlow_fresh _ _)
    isplitl [Hb]; · iexact Hb
    isplitl [Hh]; · iexact Hh
    iintro Hb Hh
    iapply HΨ $$ Hb [Hh] Ho
    iexists (StableHlo.after opsSlow (atBranch V2))
    isplitr
    · ipureintro; exact Or.inl rfl
    iexact Hh
  · rw [h, case_one]
    have hs := small_of_word V2 h
    have hT : TabOK (StableHlo.after opsFast1 (atBranch V2) rI) (StableHlo.after opsFast1 (atBranch V2) rC) (StableHlo.after opsFast1 (atBranch V2) rS) := by
      have kX := keep main_arg1 (by decide) (by decide) (by decide)
      have kN := keep main_v3_0 (by decide) (by decide) (by decide)
      have kL := keep main_v3_1 (by decide) (by decide) (by decide)
      refine tabOK I (atBranch V2) (kX.trans hI) ?_ ?_ ?_
      · intro x hx; rw [show atBranch V2 rN = V2 rN from kN]; exact hN x hx
      · intro x hx; rw [show atBranch V2 rL = V2 rL from kL]; exact hL x hx
      · intro i; rw [show atBranch V2 rN = V2 rN from kN]; exact hs i
    iintro ⟨#Hctx, Hb, Hh, Ho, Hg0, Hg1, HΨ⟩
    iapply (fast_wp m κ d (atBranch V2) hT _)
    isplitr; · iexact Hctx
    isplitl [Hb]; · iexact Hb
    isplitl [Hh]; · iexact Hh
    isplitl [Ho]; · iexact Ho
    isplitl [Hg0]; · iexact Hg0
    isplitl [Hg1]; · iexact Hg1
    iintro Hb ⟨%V', %hV, Hh⟩ Ho
    iapply HΨ $$ Hb [Hh] Ho
    iexists V'
    isplitr
    · ipureintro; exact Or.inr ⟨hs, hV⟩
    iexact Hh

theorem word_read (V : Valuation τ sig (Elt F)) : cast (congrArg (BufTy.Contents (Elt F)) (rfl : (main_v6 : Ref sig .tc).ty = ⟨⟨0, ![]⟩, .i32⟩)) ((op6 (F := F)).fn (fun b => V b.1) ⟨Proc.devRef .tc main_v6, Finset.mem_singleton_self _⟩) HostLoop.idx0 = word V := rfl

theorem hmain (ρ : Dev nD → PrngReg) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b) : sProp 𝕄) = _ from Pipeline.unscopedBufs_held d (fun b => m (d, b)), main_eq]
  simp only [wp_bind]
  iintro ⟨#Hctx, Hst, ⟨Hb, Hh, Hts, -⟩, HG⟩
  iapply (line_wp d ops1 ops1_sub ops1_fresh (V0 m d) _)
  isplitl [Hb]; · iexact Hb
  isplitl [Hh]; · iexact Hh
  iintro Hb Hh
  iapply (call_wp m κ d (StableHlo.after ops1 (V0 m d)) (ops1_keep _ (by decide)) (ops1_keep _ (by decide)) (ops1_keep _ (by decide)))
  isplitr; · iexact Hctx
  isplitl [Hst]; · iexact Hst
  isplitl [Hh]; · iexact Hh
  iintro Hst ⟨%V2, %hC, Hh⟩
  iapply (line_wp d ops2 ops2_sub ops2_fresh V2 _)
  isplitl [Hb]; · iexact Hb
  isplitl [Hh]; · iexact Hh
  iintro Hb Hh
  iapply (StableHlo.wp_hlo_within 𝒱 (d.tc : Thread nD τ) none Set.univ (op := op6) (bufs_uc (StableHlo.unary_bufs_sub ..)) (hf := rfl)) $$ [Hb Hh]
  · isplitl [Hb]; · iexact Hb
    iexact Hh
  iintro ⟨Hb, Hh⟩
  rw [wp_ret]
  imodintro
  iapply (line_wp d ops3 ops3_sub ops3_fresh _ _)
  isplitl [Hb]; · iexact Hb
  isplitl [Hh]; · iexact Hh
  iintro Hb Hh
  ihave Hst := (tcSt_open d) $$ Hst
  icases Hst with ⟨Ho, Hst⟩
  ihave HG := (G_split d) $$ HG
  icases HG with ⟨Hg0, Hg1⟩
  have hX : (V2 rX : S16384.Idx → BitVec 32) = m (xLoc d) := (hC.1 rX (by decide) (by decide)).trans (ops1_keep _ (by decide))
  generalize hw : word (StableHlo.after ops2 V2) = w
  have hb := branch_wp m κ d (m (xLoc d)) V2 hX hC.2.1 hC.2.2 w hw
  have hq := congrArg (fun w => HostLoop.case 2 w (branches (F := F))) ((word_read (StableHlo.after ops2 V2)).trans hw)
  beta_reduce at hq
  clear hw
  generalize HostLoop.case 2 w (branches (F := F)) = c at hb hq
  generalize hg : HostLoop.case 2 _ _ = c'
  have hcc : c' = c := by rw [← hg]; exact hq
  clear hq hg
  subst hcc
  iapply (hb _)
  isplitr; · iexact Hctx
  isplitl [Hb]; · iexact Hb
  isplitl [Hh]; · iexact Hh
  isplitl [Ho]; · iexact Ho
  isplitl [Hg0]; · iexact Hg0
  isplitl [Hg1]; · iexact Hg1
  iintro Hb ⟨%V', %hV, Hh⟩ Ho
  rw [wp_pure]
  imodintro
  isplitl [Hst Ho]; · iapply Hst $$ Ho
  isplitl [Hh]
  · iexists V'
    isplitr
    · ipureintro; exact ⟨V2, hC, hV⟩
    iexact Hh
  isplitl [Hb]; · iexact Hb
  iexact Hts

def fq (d : Dev nD) (s' : Phys nD τ sig (Elt F)) : Prop :=
  ∃ W', Ran m d W' ∧ ∀ b ∈ Pipeline.ucRefs τ sig, s'.mem.mem (d, b) = W' b

theorem hfin (d : Dev nD) (s' : Phys nD τ sig (Elt F)) : iprop(FIN m d ∗ SI s') ⊢ (⌜fq m d s'⌝ : sProp 𝕄) := by
  unfold FIN StableHlo.held
  iintro ⟨⟨%W', %hW, H⟩, HSI⟩
  ihave %h := (SI_pointsTo_bufs_agree (qs := fun _ => fullShare) (Pipeline.ucRefs τ sig)) $$ [HSI H]
  · isplitl [HSI]; · iexact HSI
    iexact H
  ipureintro
  exact ⟨W', hW, h⟩

/-! ## The program's run -/

def QC : PUnit × MemSt nD τ sig (Elt F) → Prop := fun r =>
  (∀ c : Dev nD, ∃ W', Ran m c W' ∧ ∀ b ∈ Pipeline.ucRefs τ sig, r.2.mem (c, b) = W' b) ∧ r.2.sem = fun _ => 0

theorem run_main [∀ e, Nonempty (Elt F e)] (ρ : Dev nD → PrngReg) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

/-! ## The arguments -/

/-- Every buffer the program writes. -/
abbrev written : List (Ref sig .tc) := [main_v0, main_v1, main_v2, main_c, main_v4, main_c_0, main_v5, main_c_1, main_case0b0_call0_v0, main_case0b0_v8, main_case0b0_v9, main_case0b0_v10, main_case0b0_v11, main_case0b0_v12, main_case0b0_v13, main_case0b0_v14, main_case0b0_v15, main_case0b0_v16, main_case0b0_v17, main_case0b0_v18, main_case0b0_cst, main_case0b0_v19, main_case0b0_v20, main_case0b0_v21, main_case0b0_v22, main_case0b0_v23, main_case0b0_v24, main_v7, main_case0b1_v8, main_case0b1_v9, main_case0b1_c_2, main_case0b1_v10, main_case0b1_v11, main_case0b1_v12, main_case0b1_v13, main_case0b1_c_3, main_case0b1_v14, main_case0b1_v15, main_case0b1_c_4, main_case0b1_v16, main_case0b1_v17, main_case0b1_v18, main_case0b1_cst, main_case0b1_v20, main_case0b1_v21, main_case0b1_v22, main_case0b1_v23, main_case0b1_v24, main_v6, main_v3_0, main_v3_1, main_case0b1_v19, main_case0b1_v25]

set_option maxRecDepth 100000 in
theorem ran_keep (d : Dev nD) (V' : Valuation τ sig (Elt F)) (h : Ran m d V') (r : Ref sig .tc) (hr : r ∉ written) : V' (Proc.devRef .tc r) = m ((d.tc : Thread nD τ).loc r) := by
  have sub : ∀ {l : List (Ref sig .tc)}, l ⊆ written → r ∉ l := fun hl h => hr (hl h)
  have one : ∀ {x : Ref sig .tc}, x ∈ written → (Proc.devRef .tc r : DevRef τ sig) ≠ Proc.devRef .tc x := fun hx h => hr (Proc.devRef_injective _ h ▸ hx)
  have one' : ∀ {x : Ref sig .tc}, x ∈ written → r ≠ x := fun hx h => hr (h ▸ hx)
  obtain ⟨V2, hC, hV⟩ := h
  have h2 : atBranch V2 (Proc.devRef .tc r) = m ((d.tc : Thread nD τ).loc r) :=
    ((ops3_keep _ (sub (by decide))).trans ((StableHlo.unary_result_ne _ _ _ _ _ _ (one' (by decide))).trans (ops2_keep _ (sub (by decide))))).trans
      ((hC.1 _ (one (by decide)) (one (by decide))).trans (ops1_keep _ (sub (by decide))))
  rcases hV with rfl | ⟨-, X, Y, hX, hY, rfl⟩
  · exact (opsSlow_keep _ (sub (by decide))).trans h2
  · exact (opsCopy_keep _ (sub (by decide))).trans ((hY.1 _ (one (by decide))).trans ((opsFast2_keep _ (sub (by decide))).trans
      ((hX.1 _ (one (by decide))).trans ((opsFast1_keep _ (sub (by decide))).trans h2))))

/-- The run, read at the buffers the claims speak of. -/
theorem run_read [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, (∃ W', Ran m c W' ∧ r.2.mem ((c.tc : Thread nD τ).loc main_v7) = W' (Proc.devRef .tc main_v7))
        ∧ ∀ b : Ref sig .tc, b.isScoped = false → b ∉ written →
            r.2.mem ((c.tc : Thread nD τ).loc b) = m ((c.tc : Thread nD τ).loc b)) ∧ r.2.sem = fun _ => 0 := by
  refine (θ_run _ _ _).mono (fun r h => ⟨fun c => ?_, h.2⟩) (run_main m ρ)
  obtain ⟨W', hW, hr⟩ := h.1 c
  have mem : ∀ b : Ref sig .tc, b.isScoped = false → (Proc.devRef .tc b : DevRef τ sig) ∈ Pipeline.ucRefs τ sig := fun b hb =>
    Finset.mem_filter.mpr ⟨StableHlo.devRef_mem_tcRefs _, fun h' => Bool.false_ne_true (hb.symm.trans h')⟩
  exact ⟨⟨W', hW, hr _ (mem main_v7 rfl)⟩, fun b hb h1 => (hr _ (mem b hb)).trans (ran_keep m c W' hW b h1)⟩

end Cert.Proof.Bucket
-- ==== Proof.Printed.lean ====
/-
  The run of the program as printed (`Cert.Kernel`) is the run of the idealized one at words: @main, the launch and the bodies' table are
  written once over the labels and the regions' configurations, each program's run is that at its own, and the two programs' own are equal.
-/
module

public import proofs.«01_k».proof.Proof.Gen.Kernel
public import proofs.«01_k».proof.Proof.Main

@[expose] public section

noncomputable section

namespace Cert.Proof.Bucket

open Cert.KernelIdeal Cert.KernelIdeal.Gen

open Idealize Idealize.ShloMosaic Idealize.ShloMosaic.TcCoe Idealize.ShloMosaic.StableHlo
open Idealize.SL.Sem

variable {F : FTy → Type} [FloatOps F]
section

variable (L : Labels) (pc : Fin 2 → Pipeline.PCfg sig L (Elt F)) (b : L.Label) (a : L.Args b)

/-- The bucketing call, over any labels `L` for the bodies and any configurations `pc` of the two regions. -/
abbrev scOf : SparseCore.Cfg τ sig (Pipeline.Sig L (Fin 2) fun p => (pc p).Adm) 1 where
  kind := scKind
  nCore := scNCore
  nSub := scNSub
  hkind := hscKind
  hCore := hscCore
  hSub := hscSub
  body := fun | 0 => Pipeline.kernel b | ⟨_ + 1, h⟩ => absurd h (Nat.not_lt.2 (Nat.le_add_left _ _))
  args := fun | 0 => a | ⟨_ + 1, h⟩ => absurd h (Nat.not_lt.2 (Nat.le_add_left _ _))
  start := sc_start
  done := sc_done
  go := sc_go
  taskDone := sc_taskDone

/-- @main's two branches, over them. -/
def branchesOf : Fin 2 → Prog (TpuEff nD τ sig (Elt F) (SparseCore.Sig (Pipeline.Sig L (Fin 2) fun p => (pc p).Adm) 1) .tc) PUnit
  | 0 => seq opsSlow
  | 1 => seq opsFast1 >>= fun _ => Prog.lift (.customCall (SparseCore.inner (Pipeline.entry 0)) ()) >>= fun _ => seq opsFast2 >>= fun _ =>
      Prog.lift (.customCall (SparseCore.inner (Pipeline.entry 1)) ()) >>= fun _ => seq opsCopy
  | ⟨_ + 2, h⟩ => absurd h (Nat.not_lt.2 (Nat.le_add_left _ _))

/-- @main, over them. -/
def mainOf (d : Dev nD) : Prog (TpuEff nD τ sig (Elt F) (SparseCore.Sig (Pipeline.Sig L (Fin 2) fun p => (pc p).Adm) 1) .tc) PUnit :=
  seq ops1 >>= fun _ => (scOf L pc b a).run d 0 >>= fun _ => seq ops2 >>= fun _ => hlo rfl op6 (HostLoop.elt main_v6) >>= fun x =>
    seq ops3 >>= fun _ => HostLoop.case 2 x (branchesOf L pc) >>= fun _ => pure ⟨⟩

/-- The run, over them. -/
def RunOf (d0 : Defs nD τ sig (Elt F) L) (m : (ℓ : Loc nD τ sig) → Buf (Elt F) ℓ) (g : Dev nD → PrngReg)
    (post : PUnit × MemSt nD τ sig (Elt F) → Prop) : Prop :=
  θ_run ((scOf L pc b a).defs (Pipeline.defs pc d0)) ((scOf L pc b a).threads (mainOf L pc b a)) ⟨m, fun _ => 0, g⟩ post

end

/-! ## The two programs' parts -/

set_option maxHeartbeats 4000000 in
/-- The regions' configurations are the same. -/
theorem pcfgs_eq : Cert.Kernel.pcfgs (F := Bits) = Cert.KernelIdeal.pcfgs (F := Bits) := rfl

set_option maxHeartbeats 4000000 in
theorem bucketize_eq : Cert.Kernel.cc0__bucketize_body (F := Bits) = Cert.KernelIdeal.cc0__bucketize_body (F := Bits) := rfl

set_option maxHeartbeats 4000000 in
/-- The bodies are the same. -/
theorem defs₀_eq : Cert.Kernel.defs₀ (F := Bits) = Cert.KernelIdeal.defs₀ (F := Bits) := by
  funext p ℓ
  rcases p with _ | _ | _
  · match ℓ with
    | 0 => rfl
    | 1 => funext ⟨t, s⟩; rfl
    | 2 => funext ⟨t, s⟩; rfl
  · match ℓ with
    | 0 => rfl
    | 1 => rfl
    | 2 => rfl
  · match ℓ with
    | 0 =>
      funext a
      delta Cert.Kernel.defs₀ Cert.KernelIdeal.defs₀
      dsimp only
      rw [bucketize_eq]
      rfl
    | 1 => rfl
    | 2 => rfl

set_option maxHeartbeats 8000000 in
theorem main_words (d : Dev nD) : Cert.Kernel.main (F := Bits) d = mainOf Cert.Kernel.Λ₀ Cert.Kernel.pcfgs 0 ⟨⟩ d := rfl

/-! ## The two runs -/

variable (m : (ℓ : Loc nD τ sig) → Buf (Elt Bits) ℓ) (g : Dev nD → PrngReg) (post : PUnit × MemSt nD τ sig (Elt Bits) → Prop)

set_option maxHeartbeats 4000000 in
theorem run_ideal : θ_run (Cert.KernelIdeal.defs (F := Bits)) (Cert.KernelIdeal.threads (F := Bits)) ⟨m, fun _ => 0, g⟩ post
    = RunOf (F := Bits) Λ₀ pcfgs 0 ⟨⟩ defs₀ m g post := rfl

set_option maxHeartbeats 4000000 in
theorem run_words : θ_run (Cert.Kernel.defs (F := Bits)) (Cert.Kernel.threads (F := Bits)) ⟨m, fun _ => 0, g⟩ post
    = RunOf (F := Bits) Cert.Kernel.Λ₀ Cert.Kernel.pcfgs 0 ⟨⟩ Cert.Kernel.defs₀ m g post := by
  delta Cert.Kernel.threads Cert.Kernel.defs
  rw [show Cert.Kernel.main (F := Bits) = _ from funext main_words]
  rfl

set_option maxHeartbeats 4000000 in
/-- A run of the idealized program at words is one of the program as printed. -/
theorem run_printed (h : θ_run (Cert.KernelIdeal.defs (F := Bits)) (Cert.KernelIdeal.threads (F := Bits)) ⟨m, fun _ => 0, g⟩ post) :
    θ_run (Cert.Kernel.defs (F := Bits)) (Cert.Kernel.threads (F := Bits)) ⟨m, fun _ => 0, g⟩ post := by
  rw [run_ideal] at h
  rw [run_words, defs₀_eq, pcfgs_eq]
  exact h

end Cert.Proof.Bucket
-- ==== Proof.Net.lean ====
/-
  The network read at an entry: the kernel's payloads, the slow branch's host operations and the reference's, each as the same sums.
-/
module

public import proofs.«01_k».proof.Proof.Gen.KernelIdeal.Skeleton
public import proofs.«01_k».proof.Proof.Gen.ReferenceIdeal
public import Idealize.ShloMosaic.Lib.Pointwise
public import Idealize.ShloMosaic.Lib.Routing.Ops

@[expose] public section

noncomputable section

namespace Cert.Proof.Bucket

open Cert.KernelIdeal Cert.KernelIdeal.Gen
open Idealize.ShloMosaic
open scoped BigOperators

/-- One entry of the network: `x` the dense row, `g` the sparse part's contribution to the hidden layer. -/
def netAt (x : Fin 128 → EReal) (W1 : Fin 128 → Fin 128 → EReal) (b1 : Fin 128 → EReal) (A : Fin 128 → Fin 256 → EReal)
    (g : Fin 256 → EReal) (bn : Fin 256 → EReal) (W2 : Fin 256 → Fin 64 → EReal) (b2 : Fin 64 → EReal) (c : Fin 64) : EReal :=
  (∑ k, max ((∑ q, ((∑ j, x j * W1 j q) + b1 q) * A q k) + g k + bn k) 0 * W2 k c) + b2 c

theorem pay1_apply (T : FVec Ideal S64x4096 .f32) (E : FVec Ideal S64x128 .f32) (r : Fin 4096) (c : Fin 128) :
    k1_pay1 (F := Ideal) T E (ix2 r c) = ∑ k : Fin 64, T (ix2 k r) * E (ix2 k c) := by
  pointwise [k1_pay1]

theorem pay2_apply (v0 : FVec Ideal S2048x128 .f32) (v1 : FVec Ideal S128x128 .f32) (v3 : FVec Ideal S1x128 .f32) (v7 : FVec Ideal S128x256 .f32)
    (v10 : FVec Ideal S2048x128 .f32) (v12 : FVec Ideal S128x256 .f32) (v16 : FVec Ideal S1x256 .f32) (v22 : FVec Ideal S256x64 .f32)
    (v24 : FVec Ideal S1x64 .f32) (r : Fin 2048) (c : Fin 64) :
    k2_pay1 (F := Ideal) v0 v1 v3 v7 v10 v12 v16 v22 v24 (ix2 r c) = netAt (fun j => v0 (ix2 r j)) (fun j q => v1 (ix2 j q)) (fun q => v3 (ix2 0 q)) (fun q k => v7 (ix2 q k))
      (fun k => ∑ p : Fin 128, v10 (ix2 r p) * v12 (ix2 p k)) (fun k => v16 (ix2 0 k)) (fun k c => v22 (ix2 k c)) (fun c => v24 (ix2 0 c)) c := by
  pointwise [k2_pay1, netAt]

/-- The slow branch's result. -/
def slowOut (x : FVec Ideal S16384x128 .f32) (rows : FVec Ideal S16384x64 .f32) (W1 : FVec Ideal S128x128 .f32) (b1 : FVec Ideal S128 .f32)
    (A : FVec Ideal S128x256 .f32) (B : FVec Ideal S64x256 .f32) (bn : FVec Ideal S256 .f32) (W2 : FVec Ideal S256x64 .f32) (b2 : FVec Ideal S64 .f32) : FVec Ideal S16384x64 .f32 :=
  addf (Host.dotGeneral dot_S16384x256_S256x64_S16384x64_1_0_0_1_n_n none (maximumf (addf (addf
    (Host.dotGeneral dot_S16384x128_S128x256_S16384x256_1_0_0_1_n_n none (addf (Host.dotGeneral dot_S16384x128_S128x128_S16384x128_1_0_0_1_n_n none x W1)
      (broadcastInDim S16384x128 ![0, 1] bcast_S1x128_S16384x128_0_1 (broadcastInDim S1x128 ![1] bcast_S128_S1x128_1 b1))) A)
    (Host.dotGeneral dot_S16384x64_S64x256_S16384x256_1_0_0_1_n_n none rows B))
    (broadcastInDim S16384x256 ![0, 1] bcast_S1x256_S16384x256_0_1 (broadcastInDim S1x256 ![1] bcast_S256_S1x256_1 bn)))
    (broadcastInDim S16384x256 ![] bcast_S_S16384x256 (constant S_ .f32 0x00000000#32))) W2)
    (broadcastInDim S16384x64 ![0, 1] bcast_S1x64_S16384x64_0_1 (broadcastInDim S1x64 ![1] bcast_S64_S1x64_1 b2))

theorem slow_apply (x : FVec Ideal S16384x128 .f32) (rows : FVec Ideal S16384x64 .f32) (W1 : FVec Ideal S128x128 .f32) (b1 : FVec Ideal S128 .f32)
    (A : FVec Ideal S128x256 .f32) (B : FVec Ideal S64x256 .f32) (bn : FVec Ideal S256 .f32) (W2 : FVec Ideal S256x64 .f32) (b2 : FVec Ideal S64 .f32) (r : Fin 16384) (c : Fin 64) :
    slowOut x rows W1 b1 A B bn W2 b2 (ix2 r c) = netAt (fun j => x (ix2 r j)) (fun j q => W1 (ix2 j q)) (fun q => b1 (ix1 q)) (fun q k => A (ix2 q k))
      (fun k => ∑ p : Fin 64, rows (ix2 r p) * B (ix2 p k)) (fun k => bn (ix1 k)) (fun k c => W2 (ix2 k c)) (fun c => b2 (ix1 c)) c := by
  pointwise [slowOut, netAt]

end Cert.Proof.Bucket

namespace Cert.Proof.Bucket.Ref

open Cert.ReferenceIdeal Cert.ReferenceIdeal.Gen
open Idealize.ShloMosaic
open scoped BigOperators

/-- The reference's result, its sparse rows given. -/
def refOut (x : FVec Ideal S16384x128 .f32) (rows : FVec Ideal S16384x64 .f32) (W1 : FVec Ideal S128x128 .f32) (b1 : FVec Ideal S128 .f32)
    (Wn : FVec Ideal S192x256 .f32) (bn : FVec Ideal S256 .f32) (W2 : FVec Ideal S256x64 .f32) (b2 : FVec Ideal S64 .f32) : FVec Ideal S16384x64 .f32 :=
  addf (Host.dotGeneral dot_S16384x256_S256x64_S16384x64_1_0_0_1_n_n none (maximumf (addf (Host.dotGeneral dot_S16384x192_S192x256_S16384x256_1_0_0_1_n_n none
    (concatenate S16384x192 1 [⟨S16384x128, (addf (Host.dotGeneral dot_S16384x128_S128x128_S16384x128_1_0_0_1_n_n none x W1)
      (broadcastInDim S16384x128 ![0, 1] bcast_S1x128_S16384x128_0_1 (broadcastInDim S1x128 ![1] bcast_S128_S1x128_1 b1)))⟩, ⟨S16384x64, rows⟩] concatenates_S16384x128_S16384x64_S16384x192_d1) Wn)
    (broadcastInDim S16384x256 ![0, 1] bcast_S1x256_S16384x256_0_1 (broadcastInDim S1x256 ![1] bcast_S256_S1x256_1 bn)))
    (broadcastInDim S16384x256 ![] bcast_S_S16384x256 (constant S_ .f32 0x00000000#32))) W2)
    (broadcastInDim S16384x64 ![0, 1] bcast_S1x64_S16384x64_0_1 (broadcastInDim S1x64 ![1] bcast_S64_S1x64_1 b2))

theorem ref_apply (x : FVec Ideal S16384x128 .f32) (rows : FVec Ideal S16384x64 .f32) (W1 : FVec Ideal S128x128 .f32) (b1 : FVec Ideal S128 .f32)
    (Wn : FVec Ideal S192x256 .f32) (bn : FVec Ideal S256 .f32) (W2 : FVec Ideal S256x64 .f32) (b2 : FVec Ideal S64 .f32) (r : Fin 16384) (c : Fin 64) :
    refOut x rows W1 b1 Wn bn W2 b2 (ix2 r c) = netAt (fun j => x (ix2 r j)) (fun j q => W1 (ix2 j q)) (fun q => b1 (ix1 q)) (fun q k => Wn (ix2 (⟨q.val, by omega⟩ : Fin 192) k))
      (fun k => ∑ e : Fin 64, rows (ix2 r e) * Wn (ix2 (⟨128 + e.val, by omega⟩ : Fin 192) k)) (fun k => bn (ix1 k)) (fun k c => W2 (ix2 k c)) (fun c => b2 (ix1 c)) c := by
  pointwise [refOut, netAt]

end Cert.Proof.Bucket.Ref
-- ==== Proof.NetFin.lean ====
/-
  The second region's result at an entry: the network's entry of the arrays the region reads.
-/
module

public import proofs.«01_k».proof.Proof.Net
public import proofs.«01_k».proof.Proof.Mlp
public import Idealize.ShloMosaic.Lib.Pipeline.ValueKit.Geometry

@[expose] public section

noncomputable section

namespace Cert.Proof.Bucket

open Cert.KernelIdeal Cert.KernelIdeal.Gen
open Idealize.ShloMosaic Idealize.ShloMosaic.TcCoe
open scoped BigOperators

theorem idx2_0 : ∀ t : Fin grid2.N, win2_0.index t = ![t.val, 0] := by decide +kernel
theorem idx2_1 : ∀ t : Fin grid2.N, win2_1.index t = ![t.val, 0] := by decide +kernel
theorem idx2_9 : ∀ t : Fin grid2.N, win2_9.index t = ![t.val, 0] := by decide +kernel
theorem idx2_2 : ∀ t : Fin grid2.N, win2_2.index t = ![0, 0] := by decide +kernel
theorem idx2_3 : ∀ t : Fin grid2.N, win2_3.index t = ![0, 0] := by decide +kernel
theorem idx2_4 : ∀ t : Fin grid2.N, win2_4.index t = ![0, 0] := by decide +kernel
theorem idx2_5 : ∀ t : Fin grid2.N, win2_5.index t = ![0, 0] := by decide +kernel
theorem idx2_6 : ∀ t : Fin grid2.N, win2_6.index t = ![0, 0] := by decide +kernel
theorem idx2_7 : ∀ t : Fin grid2.N, win2_7.index t = ![0, 0] := by decide +kernel
theorem idx2_8 : ∀ t : Fin grid2.N, win2_8.index t = ![0, 0] := by decide +kernel

variable (W : Dev nD → Valuation τ sig (Elt Ideal)) (d : Dev nD)

/-- A row of a grid point's block, in the array. -/
def rowAt (t : Fin grid2.N) (r : Fin 2048) : Fin 16384 := ⟨t.val * 2048 + r.val, by have h : t.val < 8 := t.isLt; have := r.isLt; omega⟩

theorem mIn0_apply (t : Fin grid2.N) (r : Fin 2048) (j : Fin 128) : (mIn W d 0 t : FVec Ideal S2048x128 .f32) (ix2 r j) = (W d m0 : FVec Ideal S16384x128 .f32) (ix2 (rowAt t r) j) := by
  show (W d m0 : FVec Ideal S16384x128 .f32) ((win2_0.blk t).view.emb (ix2 r j)) = _
  refine congrArg (W d m0 : FVec Ideal S16384x128 .f32) ?_
  unfold rowAt
  blk_ext [idx2_0]

theorem mIn2_apply (t : Fin grid2.N) (r : Fin 128) (j : Fin 128) : (mIn W d 2 t : FVec Ideal S128x128 .f32) (ix2 r j) = (W d m2 : FVec Ideal S128x128 .f32) (ix2 r j) := by
  show (W d m2 : FVec Ideal S128x128 .f32) ((win2_2.blk t).view.emb (ix2 r j)) = _
  refine congrArg (W d m2 : FVec Ideal S128x128 .f32) ?_
  blk_ext [idx2_2]

theorem mIn1_apply (t : Fin grid2.N) (r : Fin 2048) (j : Fin 128) : (mIn W d 1 t : FVec Ideal S2048x128 .f32) (ix2 r j) = (W d m1 : FVec Ideal S16384x128 .f32) (ix2 (rowAt t r) j) := by
  show (W d m1 : FVec Ideal S16384x128 .f32) ((win2_1.blk t).view.emb (ix2 r j)) = _
  refine congrArg (W d m1 : FVec Ideal S16384x128 .f32) ?_
  unfold rowAt
  blk_ext [idx2_1]
theorem mIn3_apply (t : Fin grid2.N) (r : Fin 1) (j : Fin 128) : (mIn W d 3 t : FVec Ideal S1x128 .f32) (ix2 r j) = (W d m3 : FVec Ideal S1x128 .f32) (ix2 r j) := by
  show (W d m3 : FVec Ideal S1x128 .f32) ((win2_3.blk t).view.emb (ix2 r j)) = _
  refine congrArg (W d m3 : FVec Ideal S1x128 .f32) ?_
  blk_ext [idx2_3]
theorem mIn4_apply (t : Fin grid2.N) (r : Fin 128) (j : Fin 256) : (mIn W d 4 t : FVec Ideal S128x256 .f32) (ix2 r j) = (W d m4 : FVec Ideal S128x256 .f32) (ix2 r j) := by
  show (W d m4 : FVec Ideal S128x256 .f32) ((win2_4.blk t).view.emb (ix2 r j)) = _
  refine congrArg (W d m4 : FVec Ideal S128x256 .f32) ?_
  blk_ext [idx2_4]
theorem mIn5_apply (t : Fin grid2.N) (r : Fin 128) (j : Fin 256) : (mIn W d 5 t : FVec Ideal S128x256 .f32) (ix2 r j) = (W d m5 : FVec Ideal S128x256 .f32) (ix2 r j) := by
  show (W d m5 : FVec Ideal S128x256 .f32) ((win2_5.blk t).view.emb (ix2 r j)) = _
  refine congrArg (W d m5 : FVec Ideal S128x256 .f32) ?_
  blk_ext [idx2_5]
theorem mIn6_apply (t : Fin grid2.N) (r : Fin 1) (j : Fin 256) : (mIn W d 6 t : FVec Ideal S1x256 .f32) (ix2 r j) = (W d m6 : FVec Ideal S1x256 .f32) (ix2 r j) := by
  show (W d m6 : FVec Ideal S1x256 .f32) ((win2_6.blk t).view.emb (ix2 r j)) = _
  refine congrArg (W d m6 : FVec Ideal S1x256 .f32) ?_
  blk_ext [idx2_6]
theorem mIn7_apply (t : Fin grid2.N) (r : Fin 256) (j : Fin 64) : (mIn W d 7 t : FVec Ideal S256x64 .f32) (ix2 r j) = (W d m7 : FVec Ideal S256x64 .f32) (ix2 r j) := by
  show (W d m7 : FVec Ideal S256x64 .f32) ((win2_7.blk t).view.emb (ix2 r j)) = _
  refine congrArg (W d m7 : FVec Ideal S256x64 .f32) ?_
  blk_ext [idx2_7]
theorem mIn8_apply (t : Fin grid2.N) (r : Fin 1) (j : Fin 64) : (mIn W d 8 t : FVec Ideal S1x64 .f32) (ix2 r j) = (W d m8 : FVec Ideal S1x64 .f32) (ix2 r j) := by
  show (W d m8 : FVec Ideal S1x64 .f32) ((win2_8.blk t).view.emb (ix2 r j)) = _
  refine congrArg (W d m8 : FVec Ideal S1x64 .f32) ?_
  blk_ext [idx2_8]

/-- The second product's entry. -/
def dotAt (a : FVec Ideal S16384x128 .f32) (b : FVec Ideal S128x256 .f32) (r : Fin 16384) (k : Fin 256) : EReal := ∑ p : Fin 128, a (ix2 r p) * b (ix2 p k)

/-- The whole result. -/
def mNet : FVec Ideal S16384x64 .f32 := fun i =>
  netAt (fun j => (W d m0 : FVec Ideal S16384x128 .f32) (ix2 (i 0) j)) (fun j q => (W d m2 : FVec Ideal S128x128 .f32) (ix2 j q)) (fun q => (W d m3 : FVec Ideal S1x128 .f32) (ix2 0 q))
    (fun q k => (W d m4 : FVec Ideal S128x256 .f32) (ix2 q k))
    (fun k => dotAt (W d m1) (W d m5) (i 0) k)
    (fun k => (W d m6 : FVec Ideal S1x256 .f32) (ix2 0 k)) (fun k c => (W d m7 : FVec Ideal S256x64 .f32) (ix2 k c)) (fun c => (W d m8 : FVec Ideal S1x64 .f32) (ix2 0 c)) (i 1)

theorem mOut_apply (t : Fin grid2.N) (r : Fin 2048) (c : Fin 64) : mOut W d t (ix2 r c) = mNet W d (ix2 (rowAt t r) c) := by
  refine (pay2_apply _ _ _ _ _ _ _ _ _ r c).trans ?_
  unfold mNet netAt dotAt
  simp only [mIn0_apply, mIn1_apply, mIn2_apply, mIn3_apply, mIn4_apply, mIn5_apply, mIn6_apply, mIn7_apply, mIn8_apply]
  rfl

theorem idx2_ex {a b : ℕ} (y : (⟨2, ![a, b]⟩ : Shape).Idx) : ∃ (r : Fin a) (c : Fin b), y = ix2 r c :=
  ⟨y 0, y 1, by funext i; match i with | ⟨0, _⟩ => rfl | ⟨1, _⟩ => rfl⟩

theorem mFin_eq (n : ℕ) : mFin W n d = mNet W d := by
  refine (md W n d).arrAt_eq_of_covers 9 (mNet W d) (by decide +kernel : win2_9.Covers) fun t hf y => ?_
  obtain ⟨r, c, rfl⟩ : ∃ (r : Fin 2048) (c : Fin 64), (y : S2048x64.Idx) = ix2 r c := idx2_ex y
  refine (mOut_apply W d t r c).trans ?_
  refine congrArg (mNet W d) ?_
  show _ = (win2_9.blk t).view.emb (ix2 r c)
  unfold rowAt
  blk_ext [idx2_9]

end Cert.Proof.Bucket
-- ==== Proof.RowVal.lean ====
/-
  The row extraction's result at an entry: the embedding row of the position's index, and zero past column 64.
-/
module

public import proofs.«01_k».proof.Proof.Net
public import proofs.«01_k».proof.Proof.ExtRegion
public import Idealize.ShloMosaic.Lib.Pipeline.ValueKit.Geometry

@[expose] public section

noncomputable section

namespace Cert.Proof.Bucket

open Cert.KernelIdeal Cert.KernelIdeal.Gen
open Idealize.ShloMosaic Idealize.ShloMosaic.TcCoe
open scoped BigOperators

variable (W : Dev nD → Valuation τ sig (Elt Ideal)) (d : Dev nD)

abbrev eWin (w : Fin 2) := (Pipeline.pinD (pcfgs (F := Ideal)) (aV W) d 0).win w

theorem tr1_0 : ∀ t : Fin grid1.N, cc1_transform_0 (grid1.coords t) = ![0, t.val] := by decide +kernel
theorem tr1_1 : ∀ t : Fin grid1.N, cc1_transform_1 (grid1.coords t) = ![0, 0] := by decide +kernel
theorem idx1_0 (t : Fin grid1.N) : (eWin W d 0).index t = ![0, t.val] := tr1_0 t
theorem idx1_1 (t : Fin grid1.N) : (eWin W d 1).index t = ![0, 0] := tr1_1 t

theorem moved1_0 (t : Fin grid1.N) (k : Fin 64) (r : Fin 4096) (h : t.val * 4096 + r.val < 1000000) : (eWin W d 0).moved (grid1.coords t) (ix2 k r) = true := by
  rw [Pipeline.Window.moved_iff]
  have hN : t.val < 245 := t.isLt
  intro a
  show ((ix2 k r : S64x4096.Idx) a).val < (Pipeline.Clip.of (cc1_transform_0 (grid1.coords t) a) (S64x4096.size a) (S64x1000000.size a)).extent (S64x4096.size a)
  rw [tr1_0 t]
  fin_cases a
  · show k.val < (Pipeline.Clip.of 0 64 64).extent 64
    exact k.isLt
  · show r.val < (Pipeline.Clip.of t.val 4096 1000000).extent 4096
    unfold Pipeline.Clip.of
    split
    · exact r.isLt
    · show r.val < 1000000 - t.val * 4096
      omega

theorem fet0_apply (t : Fin grid1.N) (e : S64x4096.Idx → Ideal .f32) (k : Fin 64) (r : Fin 4096) (h : t.val * 4096 + r.val < 1000000) :
    ((base0 W d).fetched 0 t e : FVec Ideal S64x4096 .f32) (ix2 k r) = (W d rT : FVec Ideal S64x1000000 .f32) (ix2 k ⟨t.val * 4096 + r.val, h⟩) := by
  have hm := moved1_0 W d t k r h
  show (eWin W d 0).fill (grid1.coords t) e ((base0 W d).blockOf 0 t) (ix2 k r) = _
  unfold Pipeline.Window.fill
  refine (dif_pos hm).trans ?_
  show (W d rT : FVec Ideal S64x1000000 .f32) (((eWin W d 0).blk t).view.emb _) = _
  refine congrArg (W d rT : FVec Ideal S64x1000000 .f32) ?_
  blk_ext [idx1_0 W d]

theorem fet1_apply (t : Fin grid1.N) (e : S64x128.Idx → Ideal .f32) (k : Fin 64) (q : Fin 128) :
    ((base0 W d).fetched 1 t e : FVec Ideal S64x128 .f32) (ix2 k q) = (W d rE : FVec Ideal S64x128 .f32) (ix2 k q) := by
  show (W d rE : FVec Ideal S64x128 .f32) (((eWin W d 1).blk t).view.emb (ix2 k q)) = _
  refine congrArg (W d rE : FVec Ideal S64x128 .f32) ?_
  blk_ext [idx1_1 W d]

/-- What a position reads, as the position's index. -/
theorem entry_ix1 (I : S16384.Idx → BitVec 32) (b : Fin 16384) : entry I b.val = I (ix1 b) := by
  unfold entry
  rw [dif_pos b.isLt]
  exact congrArg I (funext fun a => Fin.ext (by obtain rfl := Fin.eq_zero a; rfl))

/-- An index's bucket and its place in it. -/
theorem bucket_of (v : BitVec 32) (h : v.toNat < 1000000) : v.sshiftRight 12 = BitVec.ofNat 32 (v.toNat / 4096) := by
  refine BitVec.eq_of_toNat_eq ?_
  rw [BitVec.sshiftRight_eq_of_msb_false (BitVec.msb_eq_false_iff_two_mul_lt.mpr (by omega)), BitVec.toNat_ushiftRight, Nat.shiftRight_eq_div_pow, BitVec.toNat_ofNat]
  omega

/-- The extracted rows: the table's row of the index, padded with zeros. -/
theorem ext_apply (O : FVec Ideal S16384x128 .f32) (hO : OutOK W d 245 O) (I : S16384.Idx → BitVec 32) (hW : (W d rI : S16384.Idx → BitVec 32) = I)
    (T : FVec Ideal S64x1000000 .f32) (hT : W d rT = T) (E : FVec Ideal S64x128 .f32) (hWE : W d rE = E) (hE : ∀ (k : Fin 64) (q : Fin 128), E (ix2 k q) = if k.val = q.val then 1 else 0)
    (b : Fin 16384) (h : (I (ix1 b)).toNat < 1000000) (q : Fin 128) :
    O (ix2 b q) = if hq : q.val < 64 then T (ix2 ⟨q.val, hq⟩ ⟨(I (ix1 b)).toNat, h⟩) else 0 := by
  have ht : (I (ix1 b)).toNat / 4096 < 245 := by omega
  have he : entry (W d rI : S16384.Idx → BitVec 32) b.val = I (ix1 b) := by rw [hW]; exact entry_ix1 I b
  obtain ⟨Y4, Y5, ⟨e4, h4⟩, ⟨e5, h5⟩, hx⟩ := hO (ix2 b q) ⟨(I (ix1 b)).toNat / 4096, ht⟩ ht (by
    show (entry (W d rI : S16384.Idx → BitVec 32) b.val).sshiftRight 12 = _
    rw [he]; exact bucket_of _ h)
  refine hx.trans ?_
  show k1_pay1 (F := Ideal) Y4 Y5 (at2 (pl (entry (W d rI : S16384.Idx → BitVec 32) b.val)) q) = _
  rw [he]
  have ha : (at2 (pl (I (ix1 b))) q : S4096x128.Idx) = ix2 (pl (I (ix1 b))) q := funext fun a => by fin_cases a <;> rfl
  rw [ha, pay1_apply]
  have hp : (I (ix1 b)).toNat / 4096 * 4096 + (pl (I (ix1 b))).val = (I (ix1 b)).toNat := Nat.div_add_mod' _ _
  have hs : ∀ k : Fin 64, Y4 (ix2 k (pl (I (ix1 b)))) * Y5 (ix2 k q)
      = T (ix2 k ⟨(I (ix1 b)).toNat, h⟩) * (if k.val = q.val then 1 else 0) := fun k => by
    subst h4 h5
    refine congrArg₂ (· * · : EReal → EReal → EReal) ?_ ((fet1_apply W d _ e5 k q).trans ((congrFun hWE _).trans (hE k q)))
    refine (fet0_apply W d _ e4 k (pl (I (ix1 b))) (by show (I (ix1 b)).toNat / 4096 * 4096 + _ < _; omega)).trans ?_
    refine (congrFun hT _).trans ?_
    exact congrArg (fun z => T (ix2 k z)) (Fin.ext hp)
  refine (Finset.sum_congr rfl fun k _ => hs k).trans ?_
  generalize (⟨(I (ix1 b)).toNat, h⟩ : Fin 1000000) = z
  by_cases hq : q.val < 64
  · rw [dif_pos hq, Finset.sum_eq_single (⟨q.val, hq⟩ : Fin 64)]
    · rw [if_pos rfl]; exact mul_one (M := EReal) _
    · intro k _ hk
      rw [if_neg fun h => hk (Fin.ext h)]; exact mul_zero (M₀ := EReal) _
    · intro h; exact absurd (Finset.mem_univ _) h
  · rw [dif_neg hq]
    refine Finset.sum_eq_zero fun k _ => ?_
    rw [if_neg fun h : k.val = q.val => hq (h ▸ k.isLt)]; exact mul_zero (M₀ := EReal) _

end Cert.Proof.Bucket
-- ==== Proof.HostVal.lean ====
/-
  What the host operations write, of the buffers they read: the branch's operands and the two branches' results.
-/
module

public import proofs.«01_k».proof.Proof.Net
public import proofs.«01_k».proof.Proof.Table

@[expose] public section

noncomputable section

namespace Cert.Proof.Bucket

open Cert.KernelIdeal Cert.KernelIdeal.Gen
open Idealize.ShloMosaic Idealize.ShloMosaic.TcCoe Idealize.ShloMosaic.StableHlo
open scoped BigOperators

variable (V : Valuation τ sig (Elt Ideal))

abbrev at_ (r : Ref sig .tc) : DevRef τ sig := Proc.devRef .tc r

theorem ops1_v0 : (after ops1 V (at_ main_v0) : FVec Ideal S64x1000000 .f32) = transpose S64x1000000 [1, 0] (V (at_ main_arg3) : FVec Ideal S1000000x64 .f32) transposes_S1000000x64_S64x1000000_1_0 := by
  simp only [ops1]
  after_results_simp <;> rfl
theorem ops1_v1 : (after ops1 V (at_ main_v1) : FVec Ideal S128x256 .f32) = extractStridedSlice S128x256 ![0, 0] (V (at_ main_arg6) : FVec Ideal S192x256 .f32) slices_S192x256_S128x256_0_0 := by
  simp only [ops1]
  after_results_simp <;> rfl
theorem ops1_v2 : (after ops1 V (at_ main_v2) : FVec Ideal S64x256 .f32) = extractStridedSlice S64x256 ![128, 0] (V (at_ main_arg6) : FVec Ideal S192x256 .f32) slices_S192x256_S64x256_128_0 := by
  simp only [ops1]
  after_results_simp <;> rfl

theorem v0_at (E : FVec Ideal S1000000x64 .f32) (k : Fin 64) (j : Fin 1000000) : transpose S64x1000000 [1, 0] E transposes_S1000000x64_S64x1000000_1_0 (ix2 k j) = E (ix2 j k) := by
  pointwise []
theorem v1_at (E : FVec Ideal S192x256 .f32) (q : Fin 128) (k : Fin 256) : extractStridedSlice S128x256 ![0, 0] E slices_S192x256_S128x256_0_0 (ix2 q k) = E (ix2 ⟨q.val, by omega⟩ k) := by
  pointwise []
theorem v2_at (E : FVec Ideal S192x256 .f32) (q : Fin 64) (k : Fin 256) : extractStridedSlice S64x256 ![128, 0] E slices_S192x256_S64x256_128_0 (ix2 q k) = E (ix2 ⟨128 + q.val, by omega⟩ k) := by
  pointwise []

/-- The unit matrix, as the host makes it. -/
def eyeOut : FVec Ideal S64x128 .f32 :=
  uitofp .f32 (cmpi .eq (addi (iotaInDim S64x128 32 0) (broadcastInDim S64x128 ![] bcast_S_S64x128 (constantI S_ 32 0#32))) (iotaInDim S64x128 32 1))
theorem eye_term : after opsFast1 V (at_ main_case0b1_v13) = eyeOut := by
  unfold eyeOut
  simp only [opsFast1]
  after_results_simp <;> rfl
theorem eye_at (k : Fin 64) (q : Fin 128) : eyeOut (ix2 k q) = if k.val = q.val then 1 else 0 := by
  have he : eyeOut (ix2 k q) = FloatOps.uitofp FTy.f32 (IntOp.cmpi CmpIPredicate.eq (IntOp.addi (BitVec.ofNat 32 k.val) 0#32) (BitVec.ofNat 32 q.val)) := by
    pointwise [eyeOut]
  rw [he]
  have hk := k.isLt
  have hq := q.isLt
  have h0 : IntOp.addi (BitVec.ofNat 32 k.val) 0#32 = BitVec.ofNat 32 k.val := BitVec.add_zero _
  rw [h0]
  by_cases h : k.val = q.val
  · rw [if_pos h, h]
    have : IntOp.cmpi CmpIPredicate.eq (BitVec.ofNat 32 q.val) (BitVec.ofNat 32 q.val) = 1#1 := IntOp.cmpi_eq.2 rfl
    rw [this]
    show (((1#1 : BitVec 1).toNat : ℝ) : EReal) = 1
    norm_num
  · rw [if_neg h]
    have : IntOp.cmpi CmpIPredicate.eq (BitVec.ofNat 32 k.val) (BitVec.ofNat 32 q.val) = 0#1 := by
      have hb : ∀ b : BitVec 1, b ≠ 1#1 → b = 0#1 := by decide
      refine hb _ fun hc => h ?_
      have e := congrArg BitVec.toNat (IntOp.cmpi_eq.1 hc)
      rw [BitVec.toNat_ofNat, BitVec.toNat_ofNat] at e
      omega
    rw [this]
    show (((0#1 : BitVec 1).toNat : ℝ) : EReal) = 0
    norm_num

theorem slow_term : (after opsSlow V (at_ main_v7) : FVec Ideal S16384x64 .f32)
    = slowOut (V (at_ main_arg0)) (Host.gather gather_S1000000x64_S16384x1_S16384x64_1_0_n_n_0_1_164 (V (at_ main_arg3) : FVec Ideal S1000000x64 .f32) (broadcastInDim S16384x1 ![0] bcast_S16384_S16384x1_0 (V (at_ main_arg1) : S16384.Idx → BitVec 32)))
      (V (at_ main_arg4)) (V (at_ main_arg5)) (V (at_ main_v1)) (V (at_ main_v2)) (V (at_ main_arg7)) (V (at_ main_arg8)) (V (at_ main_arg9)) := by
  unfold slowOut
  simp only [opsSlow, TRef.binary, TRef.nullary, TRef.ternary, TRef.unary, TRef.toBuf, TRef.ofBuf, cast_eq]
  after_results_simp <;> rfl

theorem slow_rows (E : FVec Ideal S1000000x64 .f32) (I : S16384.Idx → BitVec 32) (b : Fin 16384) (h : (I (ix1 b)).toNat < 1000000) (q : Fin 64) :
    Host.gather gather_S1000000x64_S16384x1_S16384x64_1_0_n_n_0_1_164 E (broadcastInDim S16384x1 ![0] bcast_S16384_S16384x1_0 I) (ix2 b q) = E (ix2 ⟨(I (ix1 b)).toNat, h⟩ q) := by
  refine Routing.gather_row _ rfl rfl rfl rfl rfl E _ b q ⟨(I (ix1 b)).toNat, h⟩ ?_ (by norm_num)
  have : broadcastInDim S16384x1 ![0] bcast_S16384_S16384x1_0 I (ix2 b 0) = I (ix1 b) := by pointwise []
  refine this.trans ?_
  exact BitVec.eq_of_toNat_eq (by rw [BitVec.toNat_ofNat, Nat.mod_eq_of_lt (I (ix1 b)).isLt])

/-- The sparse layer's weights over a block of zeros. -/
def padOut (B : FVec Ideal S64x256 .f32) : FVec Ideal S128x256 .f32 :=
  concatenate S128x256 0 [⟨S64x256, B⟩, ⟨S64x256, broadcastInDim S64x256 ![] bcast_S_S64x256 (constant S_ .f32 0x00000000#32)⟩] concatenates_S64x256_S64x256_S128x256_d0
theorem fast2_v21 : after opsFast2 V (at_ main_case0b1_v21) = padOut (V (at_ main_v2)) := by
  unfold padOut
  simp only [opsFast2]
  after_results_simp <;> rfl
theorem fast2_v22 : (after opsFast2 V (at_ main_case0b1_v22) : FVec Ideal S1x128 .f32) = shapeCast S1x128 (V (at_ main_arg5) : FVec Ideal S128 .f32) shapeCasts_S128_S1x128 := by
  simp only [opsFast2]
  after_results_simp <;> rfl
theorem fast2_v23 : (after opsFast2 V (at_ main_case0b1_v23) : FVec Ideal S1x256 .f32) = shapeCast S1x256 (V (at_ main_arg7) : FVec Ideal S256 .f32) shapeCasts_S256_S1x256 := by
  simp only [opsFast2]
  after_results_simp <;> rfl
theorem fast2_v24 : (after opsFast2 V (at_ main_case0b1_v24) : FVec Ideal S1x64 .f32) = shapeCast S1x64 (V (at_ main_arg9) : FVec Ideal S64 .f32) shapeCasts_S64_S1x64 := by
  simp only [opsFast2]
  after_results_simp <;> rfl
theorem v22_at (E : FVec Ideal S128 .f32) (q : Fin 128) : shapeCast S1x128 E shapeCasts_S128_S1x128 (ix2 0 q) = E (ix1 q) := by
  pointwise []
theorem v23_at (E : FVec Ideal S256 .f32) (q : Fin 256) : shapeCast S1x256 E shapeCasts_S256_S1x256 (ix2 0 q) = E (ix1 q) := by
  pointwise []
theorem v24_at (E : FVec Ideal S64 .f32) (q : Fin 64) : shapeCast S1x64 E shapeCasts_S64_S1x64 (ix2 0 q) = E (ix1 q) := by
  pointwise []
theorem pad_lo (B : FVec Ideal S64x256 .f32) (e : Fin 64) (k : Fin 256) : padOut B (ix2 (⟨e.val, by omega⟩ : Fin 128) k) = B (ix2 e k) := by
  pointwise [padOut]
theorem pad_hi (B : FVec Ideal S64x256 .f32) (e : Fin 64) (k : Fin 256) : padOut B (ix2 (⟨64 + e.val, by omega⟩ : Fin 128) k) = 0 := by
  pointwise [padOut]

/-- A row against the padded weights: the row's first half against the weights. -/
theorem pad_sum (a : Fin 128 → EReal) (B : FVec Ideal S64x256 .f32) (k : Fin 256) :
    (∑ p : Fin 128, a p * padOut B (ix2 p k)) = ∑ e : Fin 64, a ⟨e.val, by omega⟩ * B (ix2 e k) := by
  rw [show (∑ p : Fin 128, a p * padOut B (ix2 p k)) = ∑ p : Fin (64 + 64), a p * padOut B (ix2 (p : Fin 128) k) from rfl, Fin.sum_univ_add]
  have h2 : (∑ e : Fin 64, a (Fin.natAdd 64 e : Fin 128) * padOut B (ix2 (Fin.natAdd 64 e : Fin 128) k)) = 0 := by
    refine Finset.sum_eq_zero fun e _ => ?_
    refine (congrArg (fun z => a (Fin.natAdd 64 e : Fin 128) * z) (pad_hi B e k)).trans ?_
    exact mul_zero (M₀ := EReal) _
  rw [h2, add_zero]
  refine Finset.sum_congr rfl fun e _ => ?_
  exact congrArg (fun z => a (Fin.castAdd 64 e : Fin 128) * z) (pad_lo B e k)

theorem copy_v7 : (after opsCopy V (at_ main_v7) : FVec Ideal S16384x64 .f32) = V (at_ main_case0b1_v25) := by
  simp only [opsCopy]
  after_results_simp <;> rfl

end Cert.Proof.Bucket
-- ==== Proof.Value.lean ====
/-
  The program's result: on either branch, the network of the embedding rows the indices name; and the reference's rows.
-/
module

public import proofs.«01_k».proof.Proof.Main
public import proofs.«01_k».proof.Proof.NetFin
public import proofs.«01_k».proof.Proof.RowVal
public import proofs.«01_k».proof.Proof.HostVal

@[expose] public section

noncomputable section

namespace Cert.Proof.Bucket

open Cert.KernelIdeal Cert.KernelIdeal.Gen
open Idealize.ShloMosaic Idealize.ShloMosaic.TcCoe Idealize.ShloMosaic.StableHlo
open scoped BigOperators

/-- The result: the network of the dense rows and of the embedding rows the indices name. -/
def netOut (x : FVec Ideal S16384x128 .f32) (I : S16384.Idx → BitVec 32) (em : FVec Ideal S1000000x64 .f32) (W1 : FVec Ideal S128x128 .f32) (b1 : FVec Ideal S128 .f32)
    (Wn : FVec Ideal S192x256 .f32) (bn : FVec Ideal S256 .f32) (W2 : FVec Ideal S256x64 .f32) (b2 : FVec Ideal S64 .f32)
    (h : ∀ b : Fin 16384, (I (ix1 b)).toNat < 1000000) : FVec Ideal S16384x64 .f32 := fun i =>
  netAt (fun j => x (ix2 (i 0) j)) (fun j q => W1 (ix2 j q)) (fun q => b1 (ix1 q)) (fun q k => Wn (ix2 (⟨q.val, by omega⟩ : Fin 192) k))
    (fun k => ∑ e : Fin 64, em (ix2 ⟨(I (ix1 (i 0))).toNat, h (i 0)⟩ e) * Wn (ix2 (⟨128 + e.val, by omega⟩ : Fin 192) k)) (fun k => bn (ix1 k)) (fun k c => W2 (ix2 k c)) (fun c => b2 (ix1 c)) (i 1)

variable (V V2 : Valuation τ sig (Elt Ideal)) (I : S16384.Idx → BitVec 32)

abbrev atB : List (Ref sig .tc) := [main_c, main_v4, main_c_0, main_v5, main_c_1, main_v6, main_v3_0, main_v3_1]

/-- What the branch's operations read. -/
theorem branch_read (hC : Called I (after ops1 V) V2) (r : Ref sig .tc) (hr : r ∉ atB) : atBranch V2 (at_ r) = after ops1 V (at_ r) := by
  have sub : ∀ {l : List (Ref sig .tc)}, l ⊆ atB → r ∉ l := fun hl h => hr (hl h)
  have one : ∀ {x : Ref sig .tc}, x ∈ atB → (Proc.devRef .tc r : DevRef τ sig) ≠ Proc.devRef .tc x := fun hx h => hr (Proc.devRef_injective _ h ▸ hx)
  have one' : ∀ {x : Ref sig .tc}, x ∈ atB → r ≠ x := fun hx h => hr (h ▸ hx)
  exact ((ops3_keep _ (sub (by decide))).trans ((StableHlo.unary_result_ne _ _ _ _ _ _ (one' (by decide))).trans (ops2_keep _ (sub (by decide))))).trans
      (hC.1 _ (one (by decide)) (one (by decide)))
/-- An argument is as at launch. -/
theorem branch_arg (hC : Called I (after ops1 V) V2) (r : Ref sig .tc) (hr : r ∉ atB) (h1 : r ∉ ([main_v0, main_v1, main_v2] : List (Ref sig .tc))) : atBranch V2 (at_ r) = V (at_ r) :=
  (branch_read V V2 I hC r hr).trans (ops1_keep _ h1)

abbrev netV (h : ∀ b : Fin 16384, ((V (at_ main_arg1) : S16384.Idx → BitVec 32) (ix1 b)).toNat < 1000000) : FVec Ideal S16384x64 .f32 :=
  netOut (V (at_ main_arg0)) (V (at_ main_arg1)) (V (at_ main_arg3)) (V (at_ main_arg4)) (V (at_ main_arg5)) (V (at_ main_arg6)) (V (at_ main_arg7)) (V (at_ main_arg8)) (V (at_ main_arg9)) h

theorem slow_value (hC : Called I (after ops1 V) V2) (h : ∀ b : Fin 16384, ((V (at_ main_arg1) : S16384.Idx → BitVec 32) (ix1 b)).toNat < 1000000) :
    after opsSlow (atBranch V2) (at_ main_v7) = netV V h := by
  rw [slow_term]
  rw [branch_arg V V2 I hC main_arg0 (by decide) (by decide), branch_arg V V2 I hC main_arg1 (by decide) (by decide), branch_arg V V2 I hC main_arg3 (by decide) (by decide),
    branch_arg V V2 I hC main_arg4 (by decide) (by decide), branch_arg V V2 I hC main_arg5 (by decide) (by decide), branch_arg V V2 I hC main_arg7 (by decide) (by decide),
    branch_arg V V2 I hC main_arg8 (by decide) (by decide), branch_arg V V2 I hC main_arg9 (by decide) (by decide),
    branch_read V V2 I hC main_v1 (by decide), branch_read V V2 I hC main_v2 (by decide), ops1_v1, ops1_v2]
  funext y
  obtain ⟨r, c, rfl⟩ := idx2_ex y
  rw [slow_apply]
  unfold netV netOut
  congr 1
  · funext q k; exact v1_at _ q k
  · funext k
    refine Finset.sum_congr rfl fun e _ => ?_
    exact congrArg₂ (· * · : EReal → EReal → EReal) (slow_rows _ _ r (h r) e) (v2_at _ e k)

theorem fast_value (hC : Called I (after ops1 V) V2) (d : Dev nD) (V' : Valuation τ sig (Elt Ideal)) (hF : Fast d (atBranch V2) V')
    (h : ∀ b : Fin 16384, ((V (at_ main_arg1) : S16384.Idx → BitVec 32) (ix1 b)).toNat < 1000000) :
    V' (at_ main_v7) = netV V h := by
  obtain ⟨X, Y, hX, hY, rfl⟩ := hF
  have arg : ∀ r : Ref sig .tc, r ∉ written → after opsFast2 X (at_ r) = V (at_ r) := fun r hr => by
    have sub : ∀ {l : List (Ref sig .tc)}, l ⊆ written → r ∉ l := fun hl h => hr (hl h)
    have one : ∀ {x : Ref sig .tc}, x ∈ written → (Proc.devRef .tc r : DevRef τ sig) ≠ Proc.devRef .tc x := fun hx h => hr (Proc.devRef_injective _ h ▸ hx)
    exact (opsFast2_keep _ (sub (by decide))).trans ((hX.1 _ (one (by decide))).trans ((opsFast1_keep _ (sub (by decide))).trans (branch_arg V V2 I hC r (sub (by decide)) (sub (by decide)))))
  have mid : ∀ r : Ref sig .tc, r ∉ written → X (at_ r) = V (at_ r) := fun r hr => by
    have sub : ∀ {l : List (Ref sig .tc)}, l ⊆ written → r ∉ l := fun hl h => hr (hl h)
    have one : ∀ {x : Ref sig .tc}, x ∈ written → (Proc.devRef .tc r : DevRef τ sig) ≠ Proc.devRef .tc x := fun hx h => hr (Proc.devRef_injective _ h ▸ hx)
    exact (hX.1 _ (one (by decide))).trans ((opsFast1_keep _ (sub (by decide))).trans (branch_arg V V2 I hC r (sub (by decide)) (sub (by decide))))
  have ne : ∀ {r x : Ref sig .tc}, r ≠ x → (Proc.devRef .tc r : DevRef τ sig) ≠ Proc.devRef .tc x := fun hx h => hx (Proc.devRef_injective _ h)
  have hv1 : after opsFast2 X (at_ main_v1) = after ops1 V (at_ main_v1) :=
    (opsFast2_keep _ (by decide)).trans ((hX.1 _ (ne (by decide))).trans ((opsFast1_keep _ (by decide)).trans (branch_read V V2 I hC main_v1 (by decide))))
  have hv2 : X (at_ main_v2) = after ops1 V (at_ main_v2) :=
    (hX.1 _ (ne (by decide))).trans ((opsFast1_keep _ (by decide)).trans (branch_read V V2 I hC main_v2 (by decide)))
  have hv0 : after opsFast1 (atBranch V2) (at_ main_v0) = transpose S64x1000000 [1, 0] (V (at_ main_arg3) : FVec Ideal S1000000x64 .f32) transposes_S1000000x64_S64x1000000_1_0 :=
    (opsFast1_keep _ (by decide)).trans ((branch_read V V2 I hC main_v0 (by decide)).trans (ops1_v0 V))
  have hI : (after opsFast1 (atBranch V2) rI : S16384.Idx → BitVec 32) = V (at_ main_arg1) :=
    (fast1_idx _).trans (branch_arg V V2 I hC main_arg1 (by decide) (by decide))
  have hO : after opsFast2 X (at_ main_case0b1_v19) = X rO := opsFast2_keep _ (by decide)
  have hrow := ext_apply (fun _ => after opsFast1 (atBranch V2)) d (X rO) hX.2 _ hI _ hv0 _ (eye_term _) eye_at
  rw [copy_v7]
  refine hY.2.trans ?_
  rw [mFin_eq]
  funext y
  obtain ⟨r, c, rfl⟩ := idx2_ex y
  unfold mNet netV netOut
  congr 1
  · exact congrArg (fun (z : FVec Ideal S16384x128 .f32) j => z (ix2 r j)) (arg main_arg0 (by decide))
  · exact congrArg (fun (z : FVec Ideal S128x128 .f32) j q => z (ix2 j q)) (arg main_arg4 (by decide))
  · funext q
    refine (congrArg (fun (z : FVec Ideal S1x128 .f32) => z (ix2 0 q)) (fast2_v22 X)).trans ((v22_at _ q).trans ?_)
    exact congrArg (fun (z : FVec Ideal S128 .f32) => z (ix1 q)) (mid main_arg5 (by decide))
  · funext q k
    exact (congrArg (fun (z : FVec Ideal S128x256 .f32) => z (ix2 q k)) (hv1.trans (ops1_v1 V))).trans (v1_at _ q k)
  · funext k
    show dotAt (after opsFast2 X (at_ main_case0b1_v19)) (after opsFast2 X (at_ main_case0b1_v21)) r k = _
    rw [hO, fast2_v21, hv2, ops1_v2]
    unfold dotAt
    refine (pad_sum (fun p => (X rO : FVec Ideal S16384x128 .f32) (ix2 r p)) _ k).trans ?_
    refine Finset.sum_congr rfl fun e _ => ?_
    refine congrArg₂ (· * · : EReal → EReal → EReal) ?_ (v2_at _ e k)
    refine (hrow r (h r) ⟨e.val, by omega⟩).trans ?_
    exact (dif_pos e.isLt).trans (v0_at _ e _)
  · funext k
    refine (congrArg (fun (z : FVec Ideal S1x256 .f32) => z (ix2 0 k)) (fast2_v23 X)).trans ((v23_at _ k).trans ?_)
    exact congrArg (fun (z : FVec Ideal S256 .f32) => z (ix1 k)) (mid main_arg7 (by decide))
  · exact congrArg (fun (z : FVec Ideal S256x64 .f32) j q => z (ix2 j q)) (arg main_arg8 (by decide))
  · funext k
    refine (congrArg (fun (z : FVec Ideal S1x64 .f32) => z (ix2 0 k)) (fast2_v24 X)).trans ((v24_at _ k).trans ?_)
    exact congrArg (fun (z : FVec Ideal S64 .f32) => z (ix1 k)) (mid main_arg9 (by decide))

/-- Whichever branch ran. -/
theorem ran_value (m : (ℓ : Loc nD τ sig) → Buf (Elt Ideal) ℓ) (d : Dev nD) (V' : Valuation τ sig (Elt Ideal)) (hR : Ran m d V')
    (h : ∀ b : Fin 16384, ((V0 m d (at_ main_arg1) : S16384.Idx → BitVec 32) (ix1 b)).toNat < 1000000) : V' (at_ main_v7) = netV (V0 m d) h := by
  obtain ⟨V2, hC, hV⟩ := hR
  rcases hV with rfl | ⟨-, hF⟩
  · exact slow_value _ V2 _ hC h
  · exact fast_value _ V2 _ hC d V' hF h

end Cert.Proof.Bucket
-- ==== Proof.RefVal.lean ====
/-
  The reference's result as the network, and the index range read off the precondition.
-/
module

public import proofs.«01_k».proof.Proof.Value
public import proofs.«01_k».proof.Pre_in_range
public import Idealize.ShloMosaic.Lib.ReduceAll

@[expose] public section

noncomputable section

namespace Cert.Proof.Bucket.Ref

open Cert.ReferenceIdeal Cert.ReferenceIdeal.Gen
open Idealize.ShloMosaic
open scoped BigOperators

/-- The indices as the reference's lookup takes them: a negative one from the end. -/
def wrapped (I : IVec S16384 32) : IVec S16384 32 :=
  select (cmpi .slt I (broadcastInDim S16384 ![] bcast_S_S16384 (constantI S_ 32 0#32))) (addi I (broadcastInDim S16384 ![] bcast_S_S16384 (constantI S_ 32 1000000#32))) I

/-- Whether an index is in the table. -/
def within (I : IVec S16384 32) : IVec S16384x1 1 :=
  andi (cmpi .sge (broadcastInDim S16384x1 ![0] bcast_S16384_S16384x1_0 (wrapped I)) (broadcastInDim S16384x1 ![] bcast_S_S16384x1 (constantI S_ 32 0#32)))
    (cmpi .sle (broadcastInDim S16384x1 ![0] bcast_S16384_S16384x1_0 (wrapped I)) (broadcastInDim S16384x1 ![0, 1] bcast_S1x1_S16384x1_0_1 (broadcastInDim S1x1 ![1] bcast_S1_S1x1_1 (constantI S1 32 999999#32))))

/-- The reference's looked-up rows. -/
def rowsOut (em : FVec Ideal S1000000x64 .f32) (I : IVec S16384 32) : FVec Ideal S16384x64 .f32 :=
  select (broadcastInDim S16384x64 ![0] bcast_S16384_S16384x64_0 (Host.reduce IntOp.andi (within I) (constantI S_ 1 1#1) reducesTo_S16384x1_S16384_d1 h_S_))
    (Host.gather gather_S1000000x64_S16384x1_S16384x64_1_0_n_n_0_1_164 em (broadcastInDim S16384x1 ![0] bcast_S16384_S16384x1_0 (wrapped I)))
    (broadcastInDim S16384x64 ![] bcast_S_S16384x64 (constant S_ .f32 0x7FC00000#32))

theorem nonneg (v : BitVec 32) (h : v.toNat < 1000000) : v.toInt = v.toNat := BitVec.toInt_eq_toNat_of_lt (by omega)

theorem wrapped_eq (I : IVec S16384 32) (h : ∀ b : Fin 16384, (I (ix1 b)).toNat < 1000000) : wrapped I = I := by
  funext x
  obtain ⟨b, rfl⟩ : ∃ b : Fin 16384, x = ix1 b := ⟨x 0, funext fun a => by obtain rfl := Fin.eq_zero a; rfl⟩
  have hw : wrapped I (ix1 b) = Scalar.select (IntOp.cmpi .slt (I (ix1 b)) 0#32) (IntOp.addi (I (ix1 b)) 1000000#32) (I (ix1 b)) := by pointwise [wrapped]
  rw [hw]
  refine if_neg ?_
  intro hc
  have := IntOp.cmpi_slt.1 hc
  rw [nonneg _ (h b)] at this
  have h0 : (0#32 : BitVec 32).toInt = 0 := by decide
  omega

theorem within_one (I : IVec S16384 32) (h : ∀ b : Fin 16384, (I (ix1 b)).toNat < 1000000) (x : S16384x1.Idx) : within I x = 1#1 := by
  obtain ⟨b, z, rfl⟩ : ∃ (b : Fin 16384) (z : Fin 1), x = ix2 b z := ⟨x 0, x 1, funext fun a => by fin_cases a <;> rfl⟩
  have hw : within I (ix2 b z) = IntOp.andi (IntOp.cmpi .sge (I (ix1 b)) 0#32) (IntOp.cmpi .sle (I (ix1 b)) 999999#32) := by
    unfold within
    rw [wrapped_eq I h]
    pointwise []
  rw [hw]
  refine IntOp.andi_eq_one.2 ⟨IntOp.cmpi_sge.2 ?_, IntOp.cmpi_sle.2 ?_⟩
  · rw [nonneg _ (h b)]
    have h0 : (0#32 : BitVec 32).toInt = 0 := by decide
    omega
  · rw [nonneg _ (h b)]
    have h0 : (999999#32 : BitVec 32).toInt = 999999 := by decide
    have := h b
    omega

theorem rows_at (em : FVec Ideal S1000000x64 .f32) (I : IVec S16384 32) (h : ∀ b : Fin 16384, (I (ix1 b)).toNat < 1000000) (b : Fin 16384) (q : Fin 64) :
    rowsOut em I (ix2 b q) = em (ix2 ⟨(I (ix1 b)).toNat, h b⟩ q) := by
  unfold rowsOut
  rw [wrapped_eq I h]
  have hm : broadcastInDim S16384x64 ![0] bcast_S16384_S16384x64_0 (Host.reduce IntOp.andi (within I) (constantI S_ 1 1#1) reducesTo_S16384x1_S16384_d1 h_S_) (ix2 b q) = 1#1 :=
    Host.reduce_andi_one _ _ _ _ _ rfl (within_one I h)
  refine Eq.trans (b := Host.gather gather_S1000000x64_S16384x1_S16384x64_1_0_n_n_0_1_164 em (broadcastInDim S16384x1 ![0] bcast_S16384_S16384x1_0 I) (ix2 b q)) ?_ ?_
  · unfold select
    exact if_pos hm
  · refine Routing.gather_row _ rfl rfl rfl rfl rfl em _ b q ⟨(I (ix1 b)).toNat, h b⟩ ?_ (by norm_num)
    have : broadcastInDim S16384x1 ![0] bcast_S16384_S16384x1_0 I (ix2 b 0) = I (ix1 b) := by pointwise []
    refine this.trans ?_
    exact BitVec.eq_of_toNat_eq (by rw [BitVec.toNat_ofNat, Nat.mod_eq_of_lt (I (ix1 b)).isLt])

/-- The reference's result is the network. -/
theorem ref_value (x : FVec Ideal S16384x128 .f32) (I : IVec S16384 32) (em : FVec Ideal S1000000x64 .f32) (W1 : FVec Ideal S128x128 .f32) (b1 : FVec Ideal S128 .f32)
    (Wn : FVec Ideal S192x256 .f32) (bn : FVec Ideal S256 .f32) (W2 : FVec Ideal S256x64 .f32) (b2 : FVec Ideal S64 .f32)
    (h : ∀ b : Fin 16384, (I (ix1 b)).toNat < 1000000) : refOut x (rowsOut em I) W1 b1 Wn bn W2 b2 = netOut x I em W1 b1 Wn bn W2 b2 h := by
  funext y
  obtain ⟨r, c, rfl⟩ := idx2_ex y
  rw [ref_apply]
  refine congrArg (fun g : Fin 256 → EReal => netAt (fun j => x (ix2 r j)) (fun j q => W1 (ix2 j q)) (fun q => b1 (ix1 q)) (fun q k => Wn (ix2 (⟨q.val, by omega⟩ : Fin 192) k))
    g (fun k => bn (ix1 k)) (fun k c => W2 (ix2 k c)) (fun c => b2 (ix1 c)) c) (funext fun k => Finset.sum_congr rfl fun e _ => ?_)
  exact congrArg (fun z : EReal => z * Wn (ix2 (⟨128 + e.val, by omega⟩ : Fin 192) k)) (rows_at em I h r e)

end Cert.Proof.Bucket.Ref

namespace Cert.Proof.Bucket

open Cert.Pre_in_range Cert.Pre_in_range.Facts
open Idealize.ShloMosaic

/-- The precondition says every index is a row of the table. -/
theorem range_of_pre [Cert.Pre_in_range.Facts] (a0 : FVec Ideal S16384x128 .f32) (I a2 : IVec S16384 32) (a3 : FVec Ideal S1000000x64 .f32) (a4 : FVec Ideal S128x128 .f32) (a5 : FVec Ideal S128 .f32)
    (a6 : FVec Ideal S192x256 .f32) (a7 : FVec Ideal S256 .f32) (a8 : FVec Ideal S256x64 .f32) (a9 : FVec Ideal S64 .f32)
    (h : Cert.Pre_in_range.fn (F := Ideal) a0 I a2 a3 a4 a5 a6 a7 a8 a9 = fun _ => 1#1) (b : Fin 16384) : (I (ix1 b)).toNat < 1000000 := by
  haveI : Subsingleton S_.Idx := ⟨fun x y => funext fun a => a.elim0⟩
  have hb := Host.reduce_andi_all _ _ _ _ _ (congrFun h (fun a => a.elim0)) (ix1 b)
  have hv : IntOp.andi (IntOp.cmpi .sge (I (ix1 b)) 0#32) (IntOp.cmpi .slt (I (ix1 b)) 1000000#32) = 1#1 := hb
  obtain ⟨h1, h2⟩ := IntOp.andi_eq_one.1 hv
  have h1 := IntOp.cmpi_sge.1 h1
  have h2 := IntOp.cmpi_slt.1 h2
  have e0 : (0#32 : BitVec 32).toInt = 0 := by decide
  have e1 : (1000000#32 : BitVec 32).toInt = 1000000 := by decide
  rw [e0] at h1
  rw [e1] at h2
  rw [BitVec.toInt_eq_toNat_cond] at h1 h2
  have := (I (ix1 b)).isLt
  split at h1 <;> split at h2 <;> omega

end Cert.Proof.Bucket
-- ==== Proof.lean ====
/-
  The claims: the kernel's run leaves every argument and every semaphore as it should, on words and on ideal values; the reference's too;
  and where every index is a row of the table, the kernel's result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Main
public import proofs.«01_k».proof.Proof.Printed
public import proofs.«01_k».proof.Proof.RefVal

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => by
    have hu := (h.1 c).2
    refine ⟨?_, ?_, ?_, ?_, ?_, ?_, ?_, ?_, ?_, ?_⟩ <;> exact hu _ rfl (by decide), h.2⟩) (Bucket.run_read (F := Ideal) m ρ)

theorem frame_kernel : Cert.quiescent_Kernel := fun m ρ _ =>
  Bucket.run_printed m ρ _ ((θ_run Cert.KernelIdeal.defs _ _).mono (fun _ h => ⟨fun c => by
    have hu := (h.1 c).2
    refine ⟨?_, ?_, ?_, ?_, ?_, ?_, ?_, ?_, ?_, ?_⟩ <;> exact hu _ rfl (by decide), h.2⟩) (Bucket.run_read (F := Bits) m ρ))

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

theorem algebraic : Cert.algebraic_KernelIdeal_ReferenceIdeal_pre_in_range := by
  intro m g m' g' hpre hag
  have hr : ∀ (c : Dev Cert.KernelIdeal.nD) (b : Fin 16384), ((Bucket.V0 m c (Bucket.at_ Cert.KernelIdeal.main_arg1) : Cert.KernelIdeal.S16384.Idx → BitVec 32) (ix1 b)).toNat < 1000000 :=
    fun c b => Bucket.range_of_pre _ _ _ _ _ _ _ _ _ _ (hpre c) b
  refine ⟨fun c => Bucket.netV (Bucket.V0 m c) (hr c), ?_, ?_⟩
  · refine (θ_run Cert.KernelIdeal.defs _ _).mono (fun _ h c => ?_) (Bucket.run_read (F := Ideal) m g)
    obtain ⟨⟨W', hW, hv⟩, hu⟩ := h.1 c
    refine ⟨hv.trans (Bucket.ran_value m c W' hW (hr c)), ?_, ?_, ?_, ?_, ?_, ?_, ?_, ?_, ?_, ?_⟩
    all_goals exact hu _ rfl (by decide)
  · refine (θ_run Cert.ReferenceIdeal.defs _ _).mono (fun _ h c => ?_) (Cert.ReferenceIdeal.Value.run m' g')
    refine ⟨(h c).1.trans ?_, (h c).2⟩
    obtain ⟨e0, e1, e2, e3, e4, e5, e6, e7, e8, e9⟩ := hag c
    rw [e0, e1, e3, e4, e5, e6, e7, e8, e9]
    exact Bucket.Ref.ref_value _ _ _ _ _ _ _ _ _ (hr c)

theorem claim : Cert.Claim := ⟨Cert.Kernel.Gen.facts, Cert.KernelIdeal.Gen.facts, Cert.ReferenceIdeal.Gen.facts, Cert.Pre_in_range.Gen.facts,
  frame_kernel, frame_kernelIdeal, fun m ρ _ => frame_kernelIdeal m ρ trivial, frame_reference, fun m ρ _ => frame_reference m ρ trivial,
  trivial, algebraic⟩

end Cert.Proof

end
